-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)) (v4 : (c : Dev Cert.Kernel3Ideal.nD) → Buf (Elt Ideal) ((c.tc : Thread Cert.Kernel3Ideal.nD Cert.Kernel3Ideal.τ).loc Cert.Kernel3Ideal.main_v16_4)) (v5 : (c : Dev Cert.Kernel3Ideal.nD) → Buf (Elt Ideal) ((c.tc : Thread Cert.Kernel3Ideal.nD Cert.Kernel3Ideal.τ).loc Cert.Kernel3Ideal.main_v16_5)) (v6 : (c : Dev Cert.Kernel3Ideal.nD) → Buf (Elt Ideal) ((c.tc : Thread Cert.Kernel3Ideal.nD Cert.Kernel3Ideal.τ).loc Cert.Kernel3Ideal.main_v16_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_v16_4) = v4 c
          ∧ r.2.mem ((c.tc : Thread Cert.Kernel3Ideal.nD Cert.Kernel3Ideal.τ).loc Cert.Kernel3Ideal.main_v16_5) = v5 c
          ∧ r.2.mem ((c.tc : Thread Cert.Kernel3Ideal.nD Cert.Kernel3Ideal.τ).loc Cert.Kernel3Ideal.main_v16_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_v60) = v4 c
          ∧ r.2.mem ((c.tc : Thread Cert.Reference3Ideal.nD Cert.Reference3Ideal.τ).loc Cert.Reference3Ideal.main_v61) = v5 c
          ∧ r.2.mem ((c.tc : Thread Cert.Reference3Ideal.nD Cert.Reference3Ideal.τ).loc Cert.Reference3Ideal.main_v23) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32768x1024 : Shape := ⟨2, ![32768, 1024]⟩
abbrev S32x8192 : Shape := ⟨2, ![32, 8192]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  bcast_S_S32x8192 : S_.BroadcastsInDim S32x8192 (![] : Fin 0 → Fin S32x8192.rank)

variable [Facts]

def fn {F : FTy → Type} [FloatOps F] (main_arg0 : FVec F S32768x1024 .bf16) (main_arg1 : FVec F S32768x1024 .bf16) (main_arg2 : FVec F S32768x1024 .bf16) (main_arg3 : FVec F S32x8192 .f32) : IVec S32768x1024 1 × IVec S32768x1024 1 × IVec S32x8192 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x1024 .f32 := (extf .f32 · bitsLt_bf16_f32) main_arg1
  let main_v5 : FVec F S32768x1024 .f32 := Host.absf main_v4
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  let main_v8 : FVec F S32x8192 .f32 := Host.absf main_arg3
  let main_cst_1 : FVec F S_ .f32 := constant S_ .f32 0x7F800000#32
  let main_v9 : FVec F S32x8192 .f32 := broadcastInDim S32x8192 ![] bcast_S_S32x8192 main_cst_1
  let main_v10 : IVec S32x8192 1 := cmpf .olt main_v8 main_v9
  (main_v3, main_v7, main_v10)
-- ==== Kernel.lean ====
abbrev S32768x1024 : Shape := ⟨2, ![32768, 1024]⟩
abbrev S32x8192 : Shape := ⟨2, ![32, 8192]⟩
abbrev S32x16x1x512 : Shape := ⟨4, ![32, 16, 1, 512]⟩
abbrev S4096x128 : Shape := ⟨2, ![4096, 128]⟩
abbrev S8192x128 : Shape := ⟨2, ![8192, 128]⟩
abbrev S1x16x1x512 : Shape := ⟨4, ![1, 16, 1, 512]⟩
abbrev S16x144x512 : Shape := ⟨3, ![16, 144, 512]⟩
abbrev S16x512x128 : Shape := ⟨3, ![16, 512, 128]⟩
abbrev S2x512x512 : Shape := ⟨3, ![2, 512, 512]⟩
abbrev S2x512x4096 : Shape := ⟨3, ![2, 512, 4096]⟩
abbrev S144x4096 : Shape := ⟨2, ![144, 4096]⟩
abbrev S16x512 : Shape := ⟨2, ![16, 512]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩
abbrev S1x16x512 : Shape := ⟨3, ![1, 16, 512]⟩
abbrev S1x1x1x512 : Shape := ⟨4, ![1, 1, 1, 512]⟩
abbrev S1x512 : Shape := ⟨2, ![1, 512]⟩
abbrev S1x128 : Shape := ⟨2, ![1, 128]⟩
abbrev S1x128x128 : Shape := ⟨3, ![1, 128, 128]⟩
abbrev S512x512 : Shape := ⟨2, ![512, 512]⟩
abbrev S1x512x512 : Shape := ⟨3, ![1, 512, 512]⟩
abbrev S1x4096 : Shape := ⟨2, ![1, 4096]⟩
abbrev S1x512x128 : Shape := ⟨3, ![1, 512, 128]⟩
abbrev S144x2048 : Shape := ⟨2, ![144, 2048]⟩
abbrev S1x144x512 : Shape := ⟨3, ![1, 144, 512]⟩
abbrev S144x512 : Shape := ⟨2, ![144, 512]⟩
abbrev S1x512x2048 : Shape := ⟨3, ![1, 512, 2048]⟩
abbrev S512x2048 : Shape := ⟨2, ![512, 2048]⟩
abbrev S144x3584 : Shape := ⟨2, ![144, 3584]⟩
abbrev S1x512x3584 : Shape := ⟨3, ![1, 512, 3584]⟩
abbrev S512x3584 : Shape := ⟨2, ![512, 3584]⟩
abbrev S144x3072 : Shape := ⟨2, ![144, 3072]⟩
abbrev S1x512x3072 : Shape := ⟨3, ![1, 512, 3072]⟩
abbrev S512x3072 : Shape := ⟨2, ![512, 3072]⟩
abbrev S144x2560 : Shape := ⟨2, ![144, 2560]⟩
abbrev S1x512x2560 : Shape := ⟨3, ![1, 512, 2560]⟩
abbrev S512x2560 : Shape := ⟨2, ![512, 2560]⟩
abbrev S144x1536 : Shape := ⟨2, ![144, 1536]⟩
abbrev S1x512x1536 : Shape := ⟨3, ![1, 512, 1536]⟩
abbrev S512x1536 : Shape := ⟨2, ![512, 1536]⟩
abbrev S144x1024 : Shape := ⟨2, ![144, 1024]⟩
abbrev S1x512x1024 : Shape := ⟨3, ![1, 512, 1024]⟩
abbrev S512x1024 : Shape := ⟨2, ![512, 1024]⟩
abbrev S128x4096 : Shape := ⟨2, ![128, 4096]⟩

abbrev nBuf : Space → Nat
  | .hbm => 6
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32x8192, .f32⟩
  | .hbm, ⟨4, _⟩ => ⟨S32x16x1x512, .f32⟩
  | .hbm, ⟨5, _⟩ => ⟨S32768x1024, .bf16⟩
  | .local _ .vmem, ⟨0, _⟩ => ⟨S4096x128, .bf16⟩
  | .local _ .vmem, ⟨1, _⟩ => ⟨S4096x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x16x1x512, .f32⟩
  | .local _ .vmem, ⟨7, _⟩ => ⟨S1x16x1x512, .f32⟩
  | .local _ .vmem, ⟨8, _⟩ => ⟨S4096x128, .bf16⟩
  | .local _ .vmem, ⟨9, _⟩ => ⟨S4096x128, .bf16⟩
  | .local _ .vmem, ⟨10, _⟩ => ⟨S16x144x512, .bf16⟩
  | .local _ .vmem, ⟨11, _⟩ => ⟨S16x512x128, .f32⟩
  | .local _ .vmem, ⟨12, _⟩ => ⟨S2x512x512, .f32⟩
  | .local _ .vmem, ⟨13, _⟩ => ⟨S2x512x4096, .bf16⟩
  | .local _ .vmem, ⟨14, _⟩ => ⟨S144x4096, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 2], ![false, false, false]⟩

def k0_off1 (i : grid0.Coords) (c0_i32_1 : BitVec 32) : Fin 4 → Nat :=
  let c0 : Index := 0#32
  let c8_i32 : BitVec 32 := 8#32
  let arg2 : BitVec 32 := BitVec.ofNat 32 (i 2).val
  let v3 : BitVec 32 := Scalar.muli c8_i32 arg2
  let v4 : BitVec 32 := Scalar.addi v3 c0_i32_1
  let v5 : Index := Scalar.indexCast v4
  let c0_2 : Index := 0#32
  let c0_3 : Index := 0#32
  ![0, v5.toNat, 0, 0]
def k0_mult1 : BitVec 32 :=
  let c0_i32_29 : BitVec 32 := 0#32
  c0_i32_29
def k0_off2 (i : grid0.Coords) : Fin 3 → Nat :=
  let arg2 : BitVec 32 := BitVec.ofNat 32 (i 2).val
  let c0_i32_25 : BitVec 32 := 0#32
  let v37 : BitVec 1 := Scalar.cmpi .eq arg2 c0_i32_25
  let v38 : BitVec 32 := Scalar.extui v37
  let v51 : Index := Scalar.indexCast v38
  let c0_33 : Index := 0#32
  let c0_34 : Index := 0#32
  ![v51.toNat, 0, 0]
def k0_mult2 : BitVec 32 :=
  let c0_i32_41 : BitVec 32 := 0#32
  c0_i32_41
def k0_mult3 : BitVec 32 :=
  let c0_i32_51 : BitVec 32 := 0#32
  c0_i32_51
def k0_mult4 : BitVec 32 :=
  let c0_i32_61 : BitVec 32 := 0#32
  c0_i32_61
def k0_mult5 : BitVec 32 :=
  let c0_i32_71 : BitVec 32 := 0#32
  c0_i32_71
def k0_mult6 : BitVec 32 :=
  let c0_i32_81 : BitVec 32 := 0#32
  c0_i32_81
def k0_mult7 : BitVec 32 :=
  let c0_i32_91 : BitVec 32 := 0#32
  c0_i32_91
def k0_mult8 : BitVec 32 :=
  let c0_i32_101 : BitVec 32 := 0#32
  c0_i32_101
@[reducible] def k0_t1_loop (i : grid0.Coords) : Scf.Loop 32 :=
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_121 : BitVec 32 := 1#32
  ⟨c0_i32_118, v204, c1_i32_121⟩
def k0_off3 (i : grid0.Coords) (k0_t1 : Fin (k0_t1_loop i).trips) : Fin 3 → Nat :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let v883 : Index := Scalar.indexCast v881
  let c0_533 : Index := 0#32
  let c0_534 : Index := 0#32
  ![v883.toNat, 0, 0]
def k0_off4 (i : grid0.Coords) (k0_t1 : Fin (k0_t1_loop i).trips) (c1_i32_551 : BitVec 32) : Fin 3 → Nat :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let v904 : BitVec 32 := Scalar.addi v881 c1_i32_551
  let v905 : Index := Scalar.indexCast v904
  let c0_552 : Index := 0#32
  let c0_553 : Index := 0#32
  ![v905.toNat, 0, 0]
def k0_mult9 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_554 : BitVec 32 := 512#32
  let v909 : BitVec 32 := Scalar.muli v904 c512_i32_554
  v909
def k0_off5 (i : grid0.Coords) (k0_t1 : Fin (k0_t1_loop i).trips) (c1_i32_551 : BitVec 32) : Fin 2 → Nat :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let v904 : BitVec 32 := Scalar.addi v881 c1_i32_551
  let c512_i32_554 : BitVec 32 := 512#32
  let v909 : BitVec 32 := Scalar.muli v904 c512_i32_554
  let v910 : BitVec 32 := v909
  let v911 : Index := Scalar.indexCast v910
  let c0_555 : Index := 0#32
  ![v911.toNat, 0]
def k0_mult10 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_564 : BitVec 32 := 512#32
  let v928 : BitVec 32 := Scalar.muli v904 c512_i32_564
  v928
def k0_mult11 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_574 : BitVec 32 := 512#32
  let v947 : BitVec 32 := Scalar.muli v904 c512_i32_574
  v947
def k0_mult12 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_584 : BitVec 32 := 512#32
  let v966 : BitVec 32 := Scalar.muli v904 c512_i32_584
  v966
def k0_mult13 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_594 : BitVec 32 := 512#32
  let v985 : BitVec 32 := Scalar.muli v904 c512_i32_594
  v985
def k0_mult14 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_604 : BitVec 32 := 512#32
  let v1004 : BitVec 32 := Scalar.muli v904 c512_i32_604
  v1004
def k0_mult15 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_614 : BitVec 32 := 512#32
  let v1023 : BitVec 32 := Scalar.muli v904 c512_i32_614
  v1023
def k0_mult16 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c1_i32_551 : BitVec 32 := 1#32
  let v904 : BitVec 32 := Scalar.addi v881 c1_i32_551
  let c512_i32_624 : BitVec 32 := 512#32
  let v1042 : BitVec 32 := Scalar.muli v904 c512_i32_624
  v1042
def k0_off6 (i : grid0.Coords) (k0_t1 : Fin (k0_t1_loop i).trips) (c1_i32_632 : BitVec 32) : Fin 3 → Nat :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let v1057 : BitVec 32 := Scalar.addi v881 c1_i32_632
  let v1059 : Index := Scalar.indexCast v1057
  let c0_635 : Index := 0#32
  let c0_636 : Index := 0#32
  ![v1059.toNat, 0, 0]
def k0_mult17 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_657 : BitVec 32 := 512#32
  let v1088 : BitVec 32 := Scalar.muli v1080 c512_i32_657
  v1088
def k0_off7 (i : grid0.Coords) (k0_t1 : Fin (k0_t1_loop i).trips) : Fin 3 → Nat :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_654 : BitVec 32 := 2#32
  let v1081 : BitVec 32 := Scalar.addi v881 c2_i32_654
  let c8_i32 : BitVec 32 := 8#32
  let arg2 : BitVec 32 := BitVec.ofNat 32 (i 2).val
  let v3 : BitVec 32 := Scalar.muli c8_i32 arg2
  let v1082 : BitVec 1 := Scalar.cmpi .eq v1081 v3
  let v1083 : BitVec 32 := Scalar.extui v1082
  let v1098 : Index := Scalar.indexCast v1083
  let c0_662 : Index := 0#32
  let c0_663 : Index := 0#32
  ![v1098.toNat, 0, 0]
def k0_mult18 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_669 : BitVec 32 := 512#32
  let v1111 : BitVec 32 := Scalar.muli v1080 c512_i32_669
  v1111
def k0_mult19 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_679 : BitVec 32 := 512#32
  let v1130 : BitVec 32 := Scalar.muli v1080 c512_i32_679
  v1130
def k0_mult20 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_689 : BitVec 32 := 512#32
  let v1149 : BitVec 32 := Scalar.muli v1080 c512_i32_689
  v1149
def k0_mult21 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_699 : BitVec 32 := 512#32
  let v1168 : BitVec 32 := Scalar.muli v1080 c512_i32_699
  v1168
def k0_mult22 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_709 : BitVec 32 := 512#32
  let v1187 : BitVec 32 := Scalar.muli v1080 c512_i32_709
  v1187
def k0_mult23 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_719 : BitVec 32 := 512#32
  let v1206 : BitVec 32 := Scalar.muli v1080 c512_i32_719
  v1206
def k0_mult24 (i : grid0.Coords) (k0_t1 : Fin (k0_t1_loop i).trips) : BitVec 32 :=
  let c4_i32_530 : BitVec 32 := 4#32
  let c0_i32_118 : BitVec 32 := 0#32
  let c1_i32_121 : BitVec 32 := 1#32
  let arg13 : BitVec 32 := Scf.iv c0_i32_118 c1_i32_121 k0_t1
  let v881 : BitVec 32 := Scalar.muli c4_i32_530 arg13
  let c2_i32_653 : BitVec 32 := 2#32
  let v1080 : BitVec 32 := Scalar.addi v881 c2_i32_653
  let c512_i32_729 : BitVec 32 := 512#32
  let v1225 : BitVec 32 := Scalar.muli v1080 c512_i32_729
  v1225
def k0_off8 (i : grid0.Coords) (k0_t1 : Fin (k0_t1_loop i).trips) (c1_i32_759 : BitVec 32) : Fin 3 → Nat :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let v1264 : BitVec 32 := Scalar.addi v1241 c1_i32_759
  let v1265 : Index := Scalar.indexCast v1264
  let c0_760 : Index := 0#32
  let c0_761 : Index := 0#32
  ![v1265.toNat, 0, 0]
def k0_mult25 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_762 : BitVec 32 := 512#32
  let v1269 : BitVec 32 := Scalar.muli v1264 c512_i32_762
  v1269
def k0_off9 (i : grid0.Coords) (k0_t1 : Fin (k0_t1_loop i).trips) (c1_i32_759 : BitVec 32) : Fin 2 → Nat :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let v1264 : BitVec 32 := Scalar.addi v1241 c1_i32_759
  let c512_i32_762 : BitVec 32 := 512#32
  let v1269 : BitVec 32 := Scalar.muli v1264 c512_i32_762
  let v1270 : BitVec 32 := v1269
  let v1271 : Index := Scalar.indexCast v1270
  let c0_763 : Index := 0#32
  ![v1271.toNat, 0]
def k0_mult26 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_772 : BitVec 32 := 512#32
  let v1288 : BitVec 32 := Scalar.muli v1264 c512_i32_772
  v1288
def k0_mult27 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_782 : BitVec 32 := 512#32
  let v1307 : BitVec 32 := Scalar.muli v1264 c512_i32_782
  v1307
def k0_mult28 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_792 : BitVec 32 := 512#32
  let v1326 : BitVec 32 := Scalar.muli v1264 c512_i32_792
  v1326
def k0_mult29 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_802 : BitVec 32 := 512#32
  let v1345 : BitVec 32 := Scalar.muli v1264 c512_i32_802
  v1345
def k0_mult30 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_812 : BitVec 32 := 512#32
  let v1364 : BitVec 32 := Scalar.muli v1264 c512_i32_812
  v1364
def k0_mult31 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_822 : BitVec 32 := 512#32
  let v1383 : BitVec 32 := Scalar.muli v1264 c512_i32_822
  v1383
def k0_mult32 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_832 : BitVec 32 := 512#32
  let v1402 : BitVec 32 := Scalar.muli v1264 c512_i32_832
  v1402
def k0_off10 (i : grid0.Coords) (k0_t1 : Fin (k0_t1_loop i).trips) : Fin 3 → Nat :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c1_i32_840 : BitVec 32 := 1#32
  let v1417 : BitVec 32 := Scalar.addi v1241 c1_i32_840
  let v1419 : Index := Scalar.indexCast v1417
  let c0_843 : Index := 0#32
  let c0_844 : Index := 0#32
  ![v1419.toNat, 0, 0]
def k0_mult33 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_865 : BitVec 32 := 512#32
  let v1448 : BitVec 32 := Scalar.muli v1440 c512_i32_865
  v1448
def k0_off11 (i : grid0.Coords) (k0_t1 : Fin (k0_t1_loop i).trips) : Fin 3 → Nat :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_862 : BitVec 32 := 2#32
  let v1441 : BitVec 32 := Scalar.addi v1241 c2_i32_862
  let c8_i32 : BitVec 32 := 8#32
  let arg2 : BitVec 32 := BitVec.ofNat 32 (i 2).val
  let v3 : BitVec 32 := Scalar.muli c8_i32 arg2
  let v1442 : BitVec 1 := Scalar.cmpi .eq v1441 v3
  let v1443 : BitVec 32 := Scalar.extui v1442
  let v1458 : Index := Scalar.indexCast v1443
  let c0_870 : Index := 0#32
  let c0_871 : Index := 0#32
  ![v1458.toNat, 0, 0]
def k0_mult34 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_877 : BitVec 32 := 512#32
  let v1471 : BitVec 32 := Scalar.muli v1440 c512_i32_877
  v1471
def k0_mult35 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_887 : BitVec 32 := 512#32
  let v1490 : BitVec 32 := Scalar.muli v1440 c512_i32_887
  v1490
def k0_mult36 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_897 : BitVec 32 := 512#32
  let v1509 : BitVec 32 := Scalar.muli v1440 c512_i32_897
  v1509
def k0_mult37 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_907 : BitVec 32 := 512#32
  let v1528 : BitVec 32 := Scalar.muli v1440 c512_i32_907
  v1528
def k0_mult38 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_917 : BitVec 32 := 512#32
  let v1547 : BitVec 32 := Scalar.muli v1440 c512_i32_917
  v1547
def k0_mult39 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_927 : BitVec 32 := 512#32
  let v1566 : BitVec 32 := Scalar.muli v1440 c512_i32_927
  v1566
def k0_mult40 (i : grid0.Coords) (k0_t1 : Fin (k0_t1_loop i).trips) : BitVec 32 :=
  let c4_i32_737 : BitVec 32 := 4#32
  let c0_i32_118 : BitVec 32 := 0#32
  let c1_i32_121 : BitVec 32 := 1#32
  let arg13 : BitVec 32 := Scf.iv c0_i32_118 c1_i32_121 k0_t1
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_937 : BitVec 32 := 512#32
  let v1585 : BitVec 32 := Scalar.muli v1440 c512_i32_937
  v1585
@[reducible] def k0_t2_loop (i : grid0.Coords) : Scf.Loop 32 :=
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let v201 : BitVec 32 := Scalar.addi c0_i32_118 v200
  let c1_i32_122 : BitVec 32 := 1#32
  ⟨v204, v201, c1_i32_122⟩
def k0_off12 (i : grid0.Coords) (k0_t2 : Fin (k0_t2_loop i).trips) : Fin 3 → Nat :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let v883 : Index := Scalar.indexCast v881
  let c0_533 : Index := 0#32
  let c0_534 : Index := 0#32
  ![v883.toNat, 0, 0]
def k0_off13 (i : grid0.Coords) (k0_t2 : Fin (k0_t2_loop i).trips) (c1_i32_551 : BitVec 32) : Fin 3 → Nat :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let v904 : BitVec 32 := Scalar.addi v881 c1_i32_551
  let v905 : Index := Scalar.indexCast v904
  let c0_552 : Index := 0#32
  let c0_553 : Index := 0#32
  ![v905.toNat, 0, 0]
def k0_mult41 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_554 : BitVec 32 := 512#32
  let v909 : BitVec 32 := Scalar.muli v904 c512_i32_554
  v909
def k0_off14 (i : grid0.Coords) (k0_t2 : Fin (k0_t2_loop i).trips) (c1_i32_551 : BitVec 32) : Fin 2 → Nat :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let v904 : BitVec 32 := Scalar.addi v881 c1_i32_551
  let c512_i32_554 : BitVec 32 := 512#32
  let v909 : BitVec 32 := Scalar.muli v904 c512_i32_554
  let v910 : BitVec 32 := v909
  let v911 : Index := Scalar.indexCast v910
  let c0_555 : Index := 0#32
  ![v911.toNat, 0]
def k0_mult42 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_564 : BitVec 32 := 512#32
  let v928 : BitVec 32 := Scalar.muli v904 c512_i32_564
  v928
def k0_mult43 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_574 : BitVec 32 := 512#32
  let v947 : BitVec 32 := Scalar.muli v904 c512_i32_574
  v947
def k0_mult44 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_584 : BitVec 32 := 512#32
  let v966 : BitVec 32 := Scalar.muli v904 c512_i32_584
  v966
def k0_mult45 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_594 : BitVec 32 := 512#32
  let v985 : BitVec 32 := Scalar.muli v904 c512_i32_594
  v985
def k0_mult46 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_604 : BitVec 32 := 512#32
  let v1004 : BitVec 32 := Scalar.muli v904 c512_i32_604
  v1004
def k0_mult47 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_614 : BitVec 32 := 512#32
  let v1023 : BitVec 32 := Scalar.muli v904 c512_i32_614
  v1023
def k0_mult48 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c1_i32_551 : BitVec 32 := 1#32
  let v904 : BitVec 32 := Scalar.addi v881 c1_i32_551
  let c512_i32_624 : BitVec 32 := 512#32
  let v1042 : BitVec 32 := Scalar.muli v904 c512_i32_624
  v1042
def k0_off15 (i : grid0.Coords) (k0_t2 : Fin (k0_t2_loop i).trips) (c1_i32_632 : BitVec 32) : Fin 3 → Nat :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let v1057 : BitVec 32 := Scalar.addi v881 c1_i32_632
  let v1059 : Index := Scalar.indexCast v1057
  let c0_635 : Index := 0#32
  let c0_636 : Index := 0#32
  ![v1059.toNat, 0, 0]
def k0_mult49 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_657 : BitVec 32 := 512#32
  let v1088 : BitVec 32 := Scalar.muli v1080 c512_i32_657
  v1088
def k0_off16 (i : grid0.Coords) (k0_t2 : Fin (k0_t2_loop i).trips) : Fin 3 → Nat :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_654 : BitVec 32 := 2#32
  let v1081 : BitVec 32 := Scalar.addi v881 c2_i32_654
  let v1082 : BitVec 1 := Scalar.cmpi .eq v1081 v3
  let v1083 : BitVec 32 := Scalar.extui v1082
  let v1098 : Index := Scalar.indexCast v1083
  let c0_662 : Index := 0#32
  let c0_663 : Index := 0#32
  ![v1098.toNat, 0, 0]
def k0_mult50 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_669 : BitVec 32 := 512#32
  let v1111 : BitVec 32 := Scalar.muli v1080 c512_i32_669
  v1111
def k0_mult51 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_679 : BitVec 32 := 512#32
  let v1130 : BitVec 32 := Scalar.muli v1080 c512_i32_679
  v1130
def k0_mult52 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_689 : BitVec 32 := 512#32
  let v1149 : BitVec 32 := Scalar.muli v1080 c512_i32_689
  v1149
def k0_mult53 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_699 : BitVec 32 := 512#32
  let v1168 : BitVec 32 := Scalar.muli v1080 c512_i32_699
  v1168
def k0_mult54 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_709 : BitVec 32 := 512#32
  let v1187 : BitVec 32 := Scalar.muli v1080 c512_i32_709
  v1187
def k0_mult55 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_719 : BitVec 32 := 512#32
  let v1206 : BitVec 32 := Scalar.muli v1080 c512_i32_719
  v1206
def k0_mult56 (i : grid0.Coords) (k0_t2 : Fin (k0_t2_loop i).trips) : BitVec 32 :=
  let c4_i32_530 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v881 : BitVec 32 := Scalar.muli c4_i32_530 arg13
  let c2_i32_653 : BitVec 32 := 2#32
  let v1080 : BitVec 32 := Scalar.addi v881 c2_i32_653
  let c512_i32_729 : BitVec 32 := 512#32
  let v1225 : BitVec 32 := Scalar.muli v1080 c512_i32_729
  v1225
def k0_off17 (i : grid0.Coords) (k0_t2 : Fin (k0_t2_loop i).trips) (c1_i32_759 : BitVec 32) : Fin 3 → Nat :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let v1264 : BitVec 32 := Scalar.addi v1241 c1_i32_759
  let v1265 : Index := Scalar.indexCast v1264
  let c0_760 : Index := 0#32
  let c0_761 : Index := 0#32
  ![v1265.toNat, 0, 0]
def k0_mult57 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_762 : BitVec 32 := 512#32
  let v1269 : BitVec 32 := Scalar.muli v1264 c512_i32_762
  v1269
def k0_off18 (i : grid0.Coords) (k0_t2 : Fin (k0_t2_loop i).trips) (c1_i32_759 : BitVec 32) : Fin 2 → Nat :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let v1264 : BitVec 32 := Scalar.addi v1241 c1_i32_759
  let c512_i32_762 : BitVec 32 := 512#32
  let v1269 : BitVec 32 := Scalar.muli v1264 c512_i32_762
  let v1270 : BitVec 32 := v1269
  let v1271 : Index := Scalar.indexCast v1270
  let c0_763 : Index := 0#32
  ![v1271.toNat, 0]
def k0_mult58 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_772 : BitVec 32 := 512#32
  let v1288 : BitVec 32 := Scalar.muli v1264 c512_i32_772
  v1288
def k0_mult59 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_782 : BitVec 32 := 512#32
  let v1307 : BitVec 32 := Scalar.muli v1264 c512_i32_782
  v1307
def k0_mult60 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_792 : BitVec 32 := 512#32
  let v1326 : BitVec 32 := Scalar.muli v1264 c512_i32_792
  v1326
def k0_mult61 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_802 : BitVec 32 := 512#32
  let v1345 : BitVec 32 := Scalar.muli v1264 c512_i32_802
  v1345
def k0_mult62 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_812 : BitVec 32 := 512#32
  let v1364 : BitVec 32 := Scalar.muli v1264 c512_i32_812
  v1364
def k0_mult63 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_822 : BitVec 32 := 512#32
  let v1383 : BitVec 32 := Scalar.muli v1264 c512_i32_822
  v1383
def k0_mult64 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_759 : BitVec 32 := 1#32
  let v1264 : BitVec 32 := Scalar.addi v1241 c1_i32_759
  let c512_i32_832 : BitVec 32 := 512#32
  let v1402 : BitVec 32 := Scalar.muli v1264 c512_i32_832
  v1402
def k0_off19 (i : grid0.Coords) (k0_t2 : Fin (k0_t2_loop i).trips) : Fin 3 → Nat :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c1_i32_840 : BitVec 32 := 1#32
  let v1417 : BitVec 32 := Scalar.addi v1241 c1_i32_840
  let v1419 : Index := Scalar.indexCast v1417
  let c0_843 : Index := 0#32
  let c0_844 : Index := 0#32
  ![v1419.toNat, 0, 0]
def k0_mult65 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_865 : BitVec 32 := 512#32
  let v1448 : BitVec 32 := Scalar.muli v1440 c512_i32_865
  v1448
def k0_off20 (i : grid0.Coords) (k0_t2 : Fin (k0_t2_loop i).trips) : Fin 3 → Nat :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_862 : BitVec 32 := 2#32
  let v1441 : BitVec 32 := Scalar.addi v1241 c2_i32_862
  let v1442 : BitVec 1 := Scalar.cmpi .eq v1441 v3
  let v1443 : BitVec 32 := Scalar.extui v1442
  let v1458 : Index := Scalar.indexCast v1443
  let c0_870 : Index := 0#32
  let c0_871 : Index := 0#32
  ![v1458.toNat, 0, 0]
def k0_mult66 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_877 : BitVec 32 := 512#32
  let v1471 : BitVec 32 := Scalar.muli v1440 c512_i32_877
  v1471
def k0_mult67 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_887 : BitVec 32 := 512#32
  let v1490 : BitVec 32 := Scalar.muli v1440 c512_i32_887
  v1490
def k0_mult68 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_897 : BitVec 32 := 512#32
  let v1509 : BitVec 32 := Scalar.muli v1440 c512_i32_897
  v1509
def k0_mult69 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_907 : BitVec 32 := 512#32
  let v1528 : BitVec 32 := Scalar.muli v1440 c512_i32_907
  v1528
def k0_mult70 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_917 : BitVec 32 := 512#32
  let v1547 : BitVec 32 := Scalar.muli v1440 c512_i32_917
  v1547
def k0_mult71 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_927 : BitVec 32 := 512#32
  let v1566 : BitVec 32 := Scalar.muli v1440 c512_i32_927
  v1566
def k0_mult72 (i : grid0.Coords) (k0_t2 : Fin (k0_t2_loop i).trips) : BitVec 32 :=
  let c4_i32_737 : BitVec 32 := 4#32
  let c0_i32_118 : BitVec 32 := 0#32
  let c8_i32 : BitVec 32 := 8#32
  let arg2 : BitVec 32 := BitVec.ofNat 32 (i 2).val
  let v3 : BitVec 32 := Scalar.muli c8_i32 arg2
  let c0_i32_112 : BitVec 32 := 0#32
  let v184 : BitVec 1 := Scalar.cmpi .sgt v3 c0_i32_112
  let v185 : BitVec 32 := Scalar.extui v184
  let c0_i32_113 : BitVec 32 := 0#32
  let v186 : BitVec 1 := Scalar.cmpi .slt v3 c0_i32_113
  let v187 : BitVec 32 := Scalar.extui v186
  let v188 : BitVec 32 := Scalar.subi v185 v187
  let c4_i32_111 : BitVec 32 := 4#32
  let c0_i32_114 : BitVec 32 := 0#32
  let v189 : BitVec 1 := Scalar.cmpi .sgt c4_i32_111 c0_i32_114
  let v190 : BitVec 32 := Scalar.extui v189
  let c0_i32_115 : BitVec 32 := 0#32
  let v191 : BitVec 1 := Scalar.cmpi .slt c4_i32_111 c0_i32_115
  let v192 : BitVec 32 := Scalar.extui v191
  let v193 : BitVec 32 := Scalar.subi v190 v192
  let v194 : BitVec 1 := Scalar.cmpi .ne v188 v193
  let v195 : BitVec 32 := Scalar.remsi v3 c4_i32_111
  let c0_i32_116 : BitVec 32 := 0#32
  let v196 : BitVec 1 := Scalar.cmpi .ne v195 c0_i32_116
  let v197 : BitVec 1 := Scalar.andi v194 v196
  let v183 : BitVec 32 := Scalar.divsi v3 c4_i32_111
  let c1_i32_117 : BitVec 32 := 1#32
  let v198 : BitVec 32 := Scalar.subi v183 c1_i32_117
  let v199 : BitVec 32 := Scalar.select v197 v198 v183
  let v200 : BitVec 32 := Scalar.subi v199 c0_i32_118
  let c1_i32_120 : BitVec 32 := 1#32
  let v202 : BitVec 32 := Scalar.divsi v200 c1_i32_120
  let v203 : BitVec 32 := Scalar.muli v202 c1_i32_120
  let v204 : BitVec 32 := Scalar.addi c0_i32_118 v203
  let c1_i32_122 : BitVec 32 := 1#32
  let arg13 : BitVec 32 := Scf.iv v204 c1_i32_122 k0_t2
  let v1240 : BitVec 32 := Scalar.muli c4_i32_737 arg13
  let c2_i32_738 : BitVec 32 := 2#32
  let v1241 : BitVec 32 := Scalar.addi v1240 c2_i32_738
  let c2_i32_861 : BitVec 32 := 2#32
  let v1440 : BitVec 32 := Scalar.addi v1241 c2_i32_861
  let c512_i32_937 : BitVec 32 := 512#32
  let v1585 : BitVec 32 := Scalar.muli v1440 c512_i32_937
  v1585
def k0_off21 (i : grid0.Coords) : Fin 3 → Nat :=
  let c8_i32 : BitVec 32 := 8#32
  let arg2 : BitVec 32 := BitVec.ofNat 32 (i 2).val
  let v3 : BitVec 32 := Scalar.muli c8_i32 arg2
  let v208 : Index := Scalar.indexCast v3
  let c0_125 : Index := 0#32
  let c0_126 : Index := 0#32
  ![v208.toNat, 0, 0]
def k0_off22 (i : grid0.Coords) (c1_i32_143 : BitVec 32) : Fin 3 → Nat :=
  let c8_i32 : BitVec 32 := 8#32
  let arg2 : BitVec 32 := BitVec.ofNat 32 (i 2).val
  let v3 : BitVec 32 := Scalar.muli c8_i32 arg2
  let v229 : BitVec 32 := Scalar.addi v3 c1_i32_143
  let v230 : Index := Scalar.indexCast v229
  let c0_144 : Index := 0#32
  let c0_145 : Index := 0#32
  ![v230.toNat, 0, 0]
def k0_mult73 (i : grid0.Coords) : BitVec 32 :=
  let c8_i32 : BitVec 32 := 8#32
  let arg2 : BitVec 32 := BitVec.ofNat 32 (i 2).val
  let v3 : BitVec 32 := Scalar.muli c8_i32 arg2
  let c1_i32_143 : BitVec 32 := 1#32
  let v229 : BitVec 32 := Scalar.addi v3 c1_i32_143
  let c512_i32 : BitVec 32 := 512#32
  let v234 : BitVec 32 := Scalar.muli v229 c512_i32
  v234
def k0_off23 (i : grid0.Coords) (c1_i32_143 : BitVec 32) : Fin 2 → Nat :=
  let c8_i32 : BitVec 32 := 8#32
  let arg2 : BitVec 32 := BitVec.ofNat 32 (i 2).val
  let v3 : BitVec 32 := Scalar.muli c8_i32 arg2
  let v229 : BitVec 32 := Scalar.addi v3 c1_i32_143
  let c512_i32 : BitVec 32 := 512#32
  let v234 : BitVec 32 := Scalar.muli v229 c512_i32
  let v235 : BitVec 32 := v234
  let v236 : Index := Scalar.indexCast v235
  let c0_146 : Index := 0#32
  ![v236.toNat, 0]
def k0_mult74 (i : grid0.Coords) : BitVec 32 :=
  let c8_i32 : BitVec 32 := 8#32
  let arg2 : BitVec 32 := BitVec.ofNat 32 (i 2).val
  let v3 : BitVec 32 := Scalar.muli c8_i32 arg2
  let c1_i32_143 : BitVec 32 := 1#32
  let v229 : BitVec 32 := Scalar.addi v3 c1_i32_143
  let c512_i32_157 : BitVec 32 := 512#32
  let v256 : BitVec 32 := Scalar.muli v229 c512_i32_157
  v256
def k0_mult75 (i : grid0.Coords) : BitVec 32 :=
  let c8_i32 : BitVec 32 := 8#32
  let arg2 : BitVec 32 := BitVec.ofNat 32 (i 2).val
  let v3 : BitVec 32 := Scalar.muli c8_i32 arg2
  let c1_i32_143 : BitVec 32 := 1#32
  let v229 : BitVec 32 := Scalar.addi v3 c1_i32_143
  let c512_i32_167 : BitVec 32 := 512#32
  let v275 : BitVec 32 := Scalar.muli v229 c512_i32_167
  v275
def k0_mult76 (i : grid0.Coords) : BitVec 32 :=
  let c8_i32 : BitVec 32 := 8#32
  let arg2 : BitVec 32 := BitVec.ofNat 32 (i 2).val
  let v3 : BitVec 32 := Scalar.muli c8_i32 arg2
  let c1_i32_143 : BitVec 32 := 1#32
  let v229 : BitVec 32 := Scalar.addi v3 c1_i32_143
  let c512_i32_177 : BitVec 32 := 512#32
  let v294 : BitVec 32 := Scalar.muli v229 c512_i32_177
  v294
def k0_mult77 (i : grid0.Coords) : BitVec 32 :=
  let c8_i32 : BitVec 32 := 8#32
  let arg2 : BitVec 32 := BitVec.ofNat 32 (i 2).val
  let v3 : BitVec 32 := Scalar.muli c8_i32 arg2
  let c1_i32_143 : BitVec 32 := 1#32
  let v229 : BitVec 32 := Scalar.addi v3 c1_i32_143
  let c512_i32_187 : BitVec 32 := 512#32
  let v313 : BitVec 32 := Scalar.muli v229 c512_i32_187
  v313
def k0_mult78 (i : grid0.Coords) : BitVec 32 :=
  let c8_i32 : BitVec 32 := 8#32
  let arg2 : BitVec 32 := BitVec.ofNat 32 (i 2).val
  let v3 : BitVec 32 := Scalar.muli c8_i32 arg2
  let c1_i32_143 : BitVec 32 := 1#32
  let v229 : BitVec 32 := Scalar.addi v3 c1_i32_143
  let c512_i32_197 : BitVec 32 := 512#32
  let v332 : BitVec 32 := Scalar.muli v229 c512_i32_197
  v332
def k0_mult79 (i : grid0.Coords) : BitVec 32 :=
  let c8_i32 : BitVec 32 := 8#32
  let arg2 : BitVec 32 := BitVec.ofNat 32 (i 2).val
  let v3 : BitVec 32 := Scalar.muli c8_i32 arg2
  let c1_i32_143 : BitVec 32 := 1#32
  let v229 : BitVec 32 := Scalar.addi v3 c1_i32_143
  let c512_i32_207 : BitVec 32 := 512#32
  let v351 : BitVec 32 := Scalar.muli v229 c512_i32_207
  v351
def k0_off24 (i : grid0.Coords) (c1_i32_217 : BitVec 32) : Fin 3 → Nat :=
  let c8_i32 : BitVec 32 := 8#32
  let arg2 : BitVec 32 := BitVec.ofNat 32 (i 2).val
  let v3 : BitVec 32 := Scalar.muli c8_i32 arg2
  let v367 : BitVec 32 := Scalar.addi v3 c1_i32_217
  let v368 : Index := Scalar.indexCast v367
  let c0_218 : Index := 0#32
  let c0_219 : Index := 0#32
  ![v368.toNat, 0, 0]
def k0_mult80 (i : grid0.Coords) : BitVec 32 :=
  let c8_i32 : BitVec 32 := 8#32
  let arg2 : BitVec 32 := BitVec.ofNat 32 (i 2).val
  let v3 : BitVec 32 := Scalar.muli c8_i32 arg2
  let c2_i32_226 : BitVec 32 := 2#32
  let v378 : BitVec 32 := Scalar.addi v3 c2_i32_226
  let c512_i32_229 : BitVec 32 := 512#32
  let v383 : BitVec 32 := Scalar.muli v378 c512_i32_229
  v383
def k0_mult81 (i : grid0.Coords) : BitVec 32 :=
  let c8_i32 : BitVec 32 := 8#32
  let arg2 : BitVec 32 := BitVec.ofNat 32 (i 2).val
  let v3 : BitVec 32 := Scalar.muli c8_i32 arg2
  let c2_i32_226 : BitVec 32 := 2#32
  let v378 : BitVec 32 := Scalar.addi v3 c2_i32_226
  let c512_i32_242 : BitVec 32 := 512#32
  let v405 : BitVec 32 := Scalar.muli v378 c512_i32_242
  v405
def k0_mult82 (i : grid0.Coords) : BitVec 32 :=
  let c8_i32 : BitVec 32 := 8#32
  let arg2 : BitVec 32 := BitVec.ofNat 32 (i 2).val
  let v3 : BitVec 32 := Scalar.muli c8_i32 arg2
  let c2_i32_226 : BitVec 32 := 2#32
  let v378 : BitVec 32 := Scalar.addi v3 c2_i32_226
  let c512_i32_252 : BitVec 32 := 512#32
  let v424 : BitVec 32 := Scalar.muli v378 c512_i32_252
  v424
def k0_mult83 (i : grid0.Coords) : BitVec 32 :=
  let c8_i32 : BitVec 32 := 8#32
  let arg2 : BitVec 32 := BitVec.ofNat 32 (i 2).val
  let v3 : BitVec 32 := Scalar.muli c8_i32 arg2
  let c2_i32_226 : BitVec 32 := 2#32
  let v378 : BitVec 32 := Scalar.addi v3 c2_i32_226
  let c512_i32_262 : BitVec 32 := 512#32
  let v443 : BitVec 32 := Scalar.muli v378 c512_i32_262
  v443
def k0_mult84 (i : grid0.Coords) : BitVec 32 :=
  let c8_i32 : BitVec 32 := 8#32
  let arg2 : BitVec 32 := BitVec.ofNat 32 (i 2).val
  let v3 : BitVec 32 := Scalar.muli c8_i32 arg2
  let c2_i32_226 : BitVec 32 := 2#32
  let v378 : BitVec 32 := Scalar.addi v3 c2_i32_226
  let c512_i32_272 : BitVec 32 := 512#32
  let v462 : BitVec 32 := Scalar.muli v378 c512_i32_272
  v462
def k0_mult85 (i : grid0.Coords) : BitVec 32 :=
  let c8_i32 : BitVec 32 := 8#32
  let arg2 : BitVec 32 := BitVec.ofNat 32 (i 2).val
  let v3 : BitVec 32 := Scalar.muli c8_i32 arg2
  let c2_i32_226 : BitVec 32 := 2#32
  let v378 : BitVec 32 := Scalar.addi v3 c2_i32_226
  let c512_i32_282 : BitVec 32 := 512#32
  let v481 : BitVec 32 := Scalar.muli v378 c512_i32_282
  v481
def k0_mult86 (i : grid0.Coords) : BitVec 32 :=
  let c8_i32 : BitVec 32 := 8#32
  let arg2 : BitVec 32 := BitVec.ofNat 32 (i 2).val
  let v3 : BitVec 32 := Scalar.muli c8_i32 arg2
  let c3_i32_301 : BitVec 32 := 3#32
  let v508 : BitVec 32 := Scalar.addi v3 c3_i32_301
  let c512_i32_304 : BitVec 32 := 512#32
  let v513 : BitVec 32 := Scalar.muli v508 c512_i32_304
  v513
def k0_mult87 (i : grid0.Coords) : BitVec 32 :=
  let c8_i32 : BitVec 32 := 8#32
  let arg2 : BitVec 32 := BitVec.ofNat 32 (i 2).val
  let v3 : BitVec 32 := Scalar.muli c8_i32 arg2
  let c3_i32_301 : BitVec 32 := 3#32
  let v508 : BitVec 32 := Scalar.addi v3 c3_i32_301
  let c512_i32_317 : BitVec 32 := 512#32
  let v535 : BitVec 32 := Scalar.muli v508 c512_i32_317
  v535
def k0_mult88 (i : grid0.Coords) : BitVec 32 :=
  let c8_i32 : BitVec 32 := 8#32
  let arg2 : BitVec 32 := BitVec.ofNat 32 (i 2).val
  let v3 : BitVec 32 := Scalar.muli c8_i32 arg2
  let c3_i32_301 : BitVec 32 := 3#32
  let v508 : BitVec 32 := Scalar.addi v3 c3_i32_301
  let c512_i32_327 : BitVec 32 := 512#32
  let v554 : BitVec 32 := Scalar.muli v508 c512_i32_327
  v554
def k0_mult89 (i : grid0.Coords) : BitVec 32 :=
  let c8_i32 : BitVec 32 := 8#32
  let arg2 : BitVec 32 := BitVec.ofNat 32 (i 2).val
  let v3 : BitVec 32 := Scalar.muli c8_i32 arg2
  let c3_i32_301 : BitVec 32 := 3#32
  let v508 : BitVec 32 := Scalar.addi v3 c3_i32_301
  let c512_i32_337 : BitVec 32 := 512#32
  let v573 : BitVec 32 := Scalar.muli v508 c512_i32_337
  v573
def k0_mult90 (i : grid0.Coords) : BitVec 32 :=
  let c8_i32 : BitVec 32 := 8#32
  let arg2 : BitVec 32 := BitVec.ofNat 32 (i 2).val
  let v3 : BitVec 32 := Scalar.muli c8_i32 arg2
  let c3_i32_301 : BitVec 32 := 3#32
  let v508 : BitVec 32 := Scalar.addi v3 c3_i32_301
  let c512_i32_347 : BitVec 32 := 512#32
  let v592 : BitVec 32 := Scalar.muli v508 c512_i32_347
  v592
def k0_mult91 (i : grid0.Coords) : BitVec 32 :=
  let c8_i32 : BitVec 32 := 8#32
  let arg2 : BitVec 32 := BitVec.ofNat 32 (i 2).val
  let v3 : BitVec 32 := Scalar.muli c8_i32 arg2
  let c4_i32_366 : BitVec 32 := 4#32
  let v619 : BitVec 32 := Scalar.addi v3 c4_i32_366
  let c512_i32_369 : BitVec 32 := 512#32
  let v624 : BitVec 32 := Scalar.muli v619 c512_i32_369
  v624
def k0_mult92 (i : grid0.Coords) : BitVec 32 :=
  let c8_i32 : BitVec 32 := 8#32
  let arg2 : BitVec 32 := BitVec.ofNat 32 (i 2).val
  let v3 : BitVec 32 := Scalar.muli c8_i32 arg2
  let c4_i32_366 : BitVec 32 := 4#32
  let v619 : BitVec 32 := Scalar.addi v3 c4_i32_366
  let c512_i32_382 : BitVec 32 := 512#32
  let v646 : BitVec 32 := Scalar.muli v619 c512_i32_382
  v646
def k0_mult93 (i : grid0.Coords) : BitVec 32 :=
  let c8_i32 : BitVec 32 := 8#32
  let arg2 : BitVec 32 := BitVec.ofNat 32 (i 2).val
  let v3 : BitVec 32 := Scalar.muli c8_i32 arg2
  let c4_i32_366 : BitVec 32 := 4#32
  let v619 : BitVec 32 := Scalar.addi v3 c4_i32_366
  let c512_i32_392 : BitVec 32 := 512#32
  let v665 : BitVec 32 := Scalar.muli v619 c512_i32_392
  v665
def k0_mult94 (i : grid0.Coords) : BitVec 32 :=
  let c8_i32 : BitVec 32 := 8#32
  let arg2 : BitVec 32 := BitVec.ofNat 32 (i 2).val
  let v3 : BitVec 32 := Scalar.muli c8_i32 arg2
  let c4_i32_366 : BitVec 32 := 4#32
  let v619 : BitVec 32 := Scalar.addi v3 c4_i32_366
  let c512_i32_402 : BitVec 32 := 512#32
  let v684 : BitVec 32 := Scalar.muli v619 c512_i32_402
  v684
def k0_mult95 (i : grid0.Coords) : BitVec 32 :=
  let c8_i32 : BitVec 32 := 8#32
  let arg2 : BitVec 32 := BitVec.ofNat 32 (i 2).val
  let v3 : BitVec 32 := Scalar.muli c8_i32 arg2
  let c5_i32_421 : BitVec 32 := 5#32
  let v711 : BitVec 32 := Scalar.addi v3 c5_i32_421
  let c512_i32_424 : BitVec 32 := 512#32
  let v716 : BitVec 32 := Scalar.muli v711 c512_i32_424
  v716
def k0_mult96 (i : grid0.Coords) : BitVec 32 :=
  let c8_i32 : BitVec 32 := 8#32
  let arg2 : BitVec 32 := BitVec.ofNat 32 (i 2).val
  let v3 : BitVec 32 := Scalar.muli c8_i32 arg2
  let c5_i32_421 : BitVec 32 := 5#32
  let v711 : BitVec 32 := Scalar.addi v3 c5_i32_421
  let c512_i32_437 : BitVec 32 := 512#32
  let v738 : BitVec 32 := Scalar.muli v711 c512_i32_437
  v738
def k0_mult97 (i : grid0.Coords) : BitVec 32 :=
  let c8_i32 : BitVec 32 := 8#32
  let arg2 : BitVec 32 := BitVec.ofNat 32 (i 2).val
  let v3 : BitVec 32 := Scalar.muli c8_i32 arg2
  let c5_i32_421 : BitVec 32 := 5#32
  let v711 : BitVec 32 := Scalar.addi v3 c5_i32_421
  let c512_i32_447 : BitVec 32 := 512#32
  let v757 : BitVec 32 := Scalar.muli v711 c512_i32_447
  v757
def k0_mult98 (i : grid0.Coords) : BitVec 32 :=
  let c8_i32 : BitVec 32 := 8#32
  let arg2 : BitVec 32 := BitVec.ofNat 32 (i 2).val
  let v3 : BitVec 32 := Scalar.muli c8_i32 arg2
  let c6_i32_466 : BitVec 32 := 6#32
  let v784 : BitVec 32 := Scalar.addi v3 c6_i32_466
  let c512_i32_469 : BitVec 32 := 512#32
  let v789 : BitVec 32 := Scalar.muli v784 c512_i32_469
  v789
def k0_mult99 (i : grid0.Coords) : BitVec 32 :=
  let c8_i32 : BitVec 32 := 8#32
  let arg2 : BitVec 32 := BitVec.ofNat 32 (i 2).val
  let v3 : BitVec 32 := Scalar.muli c8_i32 arg2
  let c6_i32_466 : BitVec 32 := 6#32
  let v784 : BitVec 32 := Scalar.addi v3 c6_i32_466
  let c512_i32_482 : BitVec 32 := 512#32
  let v811 : BitVec 32 := Scalar.muli v784 c512_i32_482
  v811
def k0_mult100 (i : grid0.Coords) : BitVec 32 :=
  let c8_i32 : BitVec 32 := 8#32
  let arg2 : BitVec 32 := BitVec.ofNat 32 (i 2).val
  let v3 : BitVec 32 := Scalar.muli c8_i32 arg2
  let c7_i32_501 : BitVec 32 := 7#32
  let v838 : BitVec 32 := Scalar.addi v3 c7_i32_501
  let c512_i32_504 : BitVec 32 := 512#32
  let v843 : BitVec 32 := Scalar.muli v838 c512_i32_504
  v843
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S32x8192 : Shape := ⟨2, ![32, 8192]⟩
abbrev S4x8192x8x128 : Shape := ⟨4, ![4, 8192, 8, 128]⟩
abbrev S4x8x8192 : Shape := ⟨3, ![4, 8, 8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S_ : Shape := ⟨0, ![]⟩
abbrev S4x8x128x8192 : Shape := ⟨4, ![4, 8, 128, 8192]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32x8192, .f32⟩
  | .hbm, ⟨4, _⟩ => ⟨S32768x1024, .f32⟩
  | .hbm, ⟨5, _⟩ => ⟨S4x8192x8x128, .f32⟩
  | .hbm, ⟨6, _⟩ => ⟨S32768x1024, .f32⟩
  | .hbm, ⟨7, _⟩ => ⟨S4x8192x8x128, .f32⟩
  | .hbm, ⟨8, _⟩ => ⟨S32768x1024, .f32⟩
  | .hbm, ⟨9, _⟩ => ⟨S4x8192x8x128, .f32⟩
  | .hbm, ⟨10, _⟩ => ⟨S4x8x8192, .f32⟩
  | .hbm, ⟨11, _⟩ => ⟨S4x8x8192x8192, .f32⟩
  | .hbm, ⟨12, _⟩ => ⟨S4x8x8192x8192, .bf16⟩
  | .hbm, ⟨13, _⟩ => ⟨S4x8x8192x8192, .f32⟩
  | .hbm, ⟨14, _⟩ => ⟨S4x8x8192x1, .f32⟩
  | .hbm, ⟨15, _⟩ => ⟨S4x8x8192x8192, .f32⟩
  | .hbm, ⟨16, _⟩ => ⟨S4x8x8192x8192, .f32⟩
  | .hbm, ⟨17, _⟩ => ⟨S4x8x1x8192, .f32⟩
  | .hbm, ⟨18, _⟩ => ⟨S4x8x8192x8192, .f32⟩
  | .hbm, ⟨19, _⟩ => ⟨S4x8x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S1x1x8192x8192, .i1⟩
  | .hbm, ⟨27, _⟩ => ⟨S_, .f32⟩
  | .hbm, ⟨28, _⟩ => ⟨S_, .f32⟩
  | .hbm, ⟨29, _⟩ => ⟨S4x8x8192x8192, .i1⟩
  | .hbm, ⟨30, _⟩ => ⟨S4x8x8192x8192, .f32⟩
  | .hbm, ⟨31, _⟩ => ⟨S4x8x8192x8192, .f32⟩
  | .hbm, ⟨32, _⟩ => ⟨S_, .f32⟩
  | .hbm, ⟨33, _⟩ => ⟨S4x8x8192x8192, .f32⟩
  | .hbm, ⟨34, _⟩ => ⟨S_, .f32⟩
  | .hbm, ⟨35, _⟩ => ⟨S4x8x8192, .f32⟩
  | .hbm, ⟨36, _⟩ => ⟨S4x8x8192x1, .f32⟩
  | .hbm, ⟨37, _⟩ => ⟨S4x8x8192x8192, .f32⟩
  | .hbm, ⟨38, _⟩ => ⟨S4x8x8192x8192, .f32⟩
  | .hbm, ⟨39, _⟩ => ⟨S4x8x8192x8192, .f32⟩
  | .hbm, ⟨40, _⟩ => ⟨S_, .f32⟩
  | .hbm, ⟨41, _⟩ => ⟨S4x8x8192, .f32⟩
  | .hbm, ⟨42, _⟩ => ⟨S4x8x8192x1, .f32⟩
  | .hbm, ⟨43, _⟩ => ⟨S4x8x8192x8192, .f32⟩
  | .hbm, ⟨44, _⟩ => ⟨S4x8x8192x8192, .f32⟩
  | .hbm, ⟨45, _⟩ => ⟨S4x8x8192x8192, .bf16⟩
  | .hbm, ⟨46, _⟩ => ⟨S4x8x8192x8192, .f32⟩
  | .hbm, ⟨47, _⟩ => ⟨S4x8x128x8192, .f32⟩
  | .hbm, ⟨48, _⟩ => ⟨S4x8192x8x128, .f32⟩
  | .hbm, ⟨49, _⟩ => ⟨S32768x1024, .f32⟩
  | .hbm, ⟨50, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel2.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S3x1024 : Shape := ⟨2, ![3, 1024]⟩
abbrev S_ : Shape := ⟨0, ![]⟩
abbrev S4x2x1024 : Shape := ⟨3, ![4, 2, 1024]⟩
abbrev S1x1024 : Shape := ⟨2, ![1, 1024]⟩
abbrev S512x1024 : Shape := ⟨2, ![512, 1024]⟩
abbrev S1x2x1024 : Shape := ⟨3, ![1, 2, 1024]⟩
abbrev S8x1024 : Shape := ⟨2, ![8, 1024]⟩
abbrev S2x1024 : Shape := ⟨2, ![2, 1024]⟩
abbrev S512 : Shape := ⟨1, ![512]⟩
abbrev S512x1 : Shape := ⟨2, ![512, 1]⟩

abbrev nBuf : Space → Nat
  | .hbm => 23
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S3x1024, .f32⟩
  | .hbm, ⟨7, _⟩ => ⟨S1024x1024, .f32⟩
  | .hbm, ⟨8, _⟩ => ⟨S_, .f32⟩
  | .hbm, ⟨9, _⟩ => ⟨S4x2x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1024x1024, .bf16⟩
  | .hbm, ⟨21, _⟩ => ⟨S32768x1024, .f32⟩
  | .hbm, ⟨22, _⟩ => ⟨S4x2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x2x1024, .f32⟩
  | .local _ .vmem, ⟨8, _⟩ => ⟨S1x2x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S3x1024, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1x2x1024, .f32⟩
  | .local _ .vmem, ⟨19, _⟩ => ⟨S1x2x1024, .f32⟩
  | .local _ .vmem, ⟨20, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S3x1024 : Shape := ⟨2, ![3, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S4x8192x4096 : Shape := ⟨3, ![4, 8192, 4096]⟩
abbrev S4x8192x1024 : Shape := ⟨3, ![4, 8192, 1024]⟩
abbrev S4x2x1024 : Shape := ⟨3, ![4, 2, 1024]⟩
abbrev S4x8194x1024 : Shape := ⟨3, ![4, 8194, 1024]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S3x1024, .f32⟩
  | .hbm, ⟨7, _⟩ => ⟨S1024x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x4096, .f32⟩
  | .hbm, ⟨39, _⟩ => ⟨S4x8192x4096, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x2x1024, .f32⟩
  | .hbm, ⟨46, _⟩ => ⟨S4x8192x1024, .f32⟩
  | .hbm, ⟨47, _⟩ => ⟨S4x8194x1024, .f32⟩
  | .hbm, ⟨48, _⟩ => ⟨S1x1024, .f32⟩
  | .hbm, ⟨49, _⟩ => ⟨S1024, .f32⟩
  | .hbm, ⟨50, _⟩ => ⟨S4x8192x1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S1x1024, .f32⟩
  | .hbm, ⟨55, _⟩ => ⟨S1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S1x1024, .f32⟩
  | .hbm, ⟨62, _⟩ => ⟨S1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S_, .f32⟩
  | .hbm, ⟨71, _⟩ => ⟨S4x8192x1024, .f32⟩
  | .hbm, ⟨72, _⟩ => ⟨S4x8192x1024, .f32⟩
  | .hbm, ⟨73, _⟩ => ⟨S_, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S4x2x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x4104 : Shape := ⟨2, ![1024, 4104]⟩
abbrev S8 : Shape := ⟨1, ![8]⟩
abbrev S128 : Shape := ⟨1, ![128]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S1x8 : Shape := ⟨2, ![1, 8]⟩
abbrev S1x128 : Shape := ⟨2, ![1, 128]⟩
abbrev S262144x128 : Shape := ⟨2, ![262144, 128]⟩
abbrev S32768x8 : Shape := ⟨2, ![32768, 8]⟩
abbrev S512x1024 : Shape := ⟨2, ![512, 1024]⟩
abbrev S4096x128 : Shape := ⟨2, ![4096, 128]⟩
abbrev S512x8 : Shape := ⟨2, ![512, 8]⟩
abbrev S512 : Shape := ⟨1, ![512]⟩
abbrev S512x1 : Shape := ⟨2, ![512, 1]⟩
abbrev S512x128 : Shape := ⟨2, ![512, 128]⟩

abbrev nBuf : Space → Nat
  | .hbm => 33
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1x1024, .f32⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S32768x1024, .bf16⟩
  | .hbm, ⟨27, _⟩ => ⟨S262144x128, .f32⟩
  | .hbm, ⟨28, _⟩ => ⟨S32768x1024, .bf16⟩
  | .hbm, ⟨29, _⟩ => ⟨S262144x128, .f32⟩
  | .hbm, ⟨30, _⟩ => ⟨S32768x1024, .bf16⟩
  | .hbm, ⟨31, _⟩ => ⟨S32768x1024, .bf16⟩
  | .hbm, ⟨32, _⟩ => ⟨S32768x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S4096x128, .f32⟩
  | .local _ .vmem, ⟨14, _⟩ => ⟨S4096x128, .f32⟩
  | .local _ .vmem, ⟨15, _⟩ => ⟨S512x1024, .bf16⟩
  | .local _ .vmem, ⟨16, _⟩ => ⟨S512x1024, .bf16⟩
  | .local _ .vmem, ⟨17, _⟩ => ⟨S4096x128, .f32⟩
  | .local _ .vmem, ⟨18, _⟩ => ⟨S4096x128, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x8, .f32⟩
  | .local _ .vmem, ⟨24, _⟩ => ⟨S512x8, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S32768x1024 : Shape := ⟨2, ![32768, 1024]⟩
abbrev S1024 : Shape := ⟨1, ![1024]⟩
abbrev S1024x4104 : Shape := ⟨2, ![1024, 4104]⟩
abbrev S8 : Shape := ⟨1, ![8]⟩
abbrev S128 : Shape := ⟨1, ![128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4104 : Shape := ⟨2, ![32768, 4104]⟩
abbrev S32768x4096 : Shape := ⟨2, ![32768, 4096]⟩
abbrev S32768x8 : Shape := ⟨2, ![32768, 8]⟩
abbrev S1x8 : Shape := ⟨2, ![1, 8]⟩
abbrev S32768x8x128 : Shape := ⟨3, ![32768, 8, 128]⟩
abbrev S32768x8x1 : Shape := ⟨3, ![32768, 8, 1]⟩
abbrev S1x1x128 : Shape := ⟨3, ![1, 1, 128]⟩
abbrev S262144x128 : Shape := ⟨2, ![262144, 128]⟩

abbrev nBuf : Space → Nat
  | .hbm => 93
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x4104, .f32⟩
  | .hbm, ⟨23, _⟩ => ⟨S32768x4096, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x8, .f32⟩
  | .hbm, ⟨29, _⟩ => ⟨S1x8, .f32⟩
  | .hbm, ⟨30, _⟩ => ⟨S32768x8, .f32⟩
  | .hbm, ⟨31, _⟩ => ⟨S32768x8, .f32⟩
  | .hbm, ⟨32, _⟩ => ⟨S32768x8, .f32⟩
  | .hbm, ⟨33, _⟩ => ⟨S_, .f32⟩
  | .hbm, ⟨34, _⟩ => ⟨S32768x8, .f32⟩
  | .hbm, ⟨35, _⟩ => ⟨S32768x8, .f32⟩
  | .hbm, ⟨36, _⟩ => ⟨S32768x8, .f32⟩
  | .hbm, ⟨37, _⟩ => ⟨S32768x8, .f32⟩
  | .hbm, ⟨38, _⟩ => ⟨S32768x8, .i1⟩
  | .hbm, ⟨39, _⟩ => ⟨S32768x8, .f32⟩
  | .hbm, ⟨40, _⟩ => ⟨S32768x8, .f32⟩
  | .hbm, ⟨41, _⟩ => ⟨S32768x8, .f32⟩
  | .hbm, ⟨42, _⟩ => ⟨S32768x8, .f32⟩
  | .hbm, ⟨43, _⟩ => ⟨S32768x8, .f32⟩
  | .hbm, ⟨44, _⟩ => ⟨S32768x8, .f32⟩
  | .hbm, ⟨45, _⟩ => ⟨S32768x8, .f32⟩
  | .hbm, ⟨46, _⟩ => ⟨S32768x8, .f32⟩
  | .hbm, ⟨47, _⟩ => ⟨S32768x8, .f32⟩
  | .hbm, ⟨48, _⟩ => ⟨S32768x8x128, .f32⟩
  | .hbm, ⟨49, _⟩ => ⟨S32768x8x128, .f32⟩
  | .hbm, ⟨50, _⟩ => ⟨S_, .f32⟩
  | .hbm, ⟨51, _⟩ => ⟨S32768x8, .f32⟩
  | .hbm, ⟨52, _⟩ => ⟨S32768x8x1, .f32⟩
  | .hbm, ⟨53, _⟩ => ⟨S_, .f32⟩
  | .hbm, ⟨54, _⟩ => ⟨S32768x8x1, .f32⟩
  | .hbm, ⟨55, _⟩ => ⟨S32768x8x1, .f32⟩
  | .hbm, ⟨56, _⟩ => ⟨S_, .f32⟩
  | .hbm, ⟨57, _⟩ => ⟨S32768x8x1, .f32⟩
  | .hbm, ⟨58, _⟩ => ⟨S32768x8x1, .f32⟩
  | .hbm, ⟨59, _⟩ => ⟨S32768x8x1, .f32⟩
  | .hbm, ⟨60, _⟩ => ⟨S32768x8x128, .f32⟩
  | .hbm, ⟨61, _⟩ => ⟨S32768x8x128, .f32⟩
  | .hbm, ⟨62, _⟩ => ⟨S1x1x128, .f32⟩
  | .hbm, ⟨63, _⟩ => ⟨S32768x8x128, .f32⟩
  | .hbm, ⟨64, _⟩ => ⟨S32768x8x128, .f32⟩
  | .hbm, ⟨65, _⟩ => ⟨S_, .f32⟩
  | .hbm, ⟨66, _⟩ => ⟨S32768x8x128, .f32⟩
  | .hbm, ⟨67, _⟩ => ⟨S32768x8x128, .f32⟩
  | .hbm, ⟨68, _⟩ => ⟨S32768x8x128, .f32⟩
  | .hbm, ⟨69, _⟩ => ⟨S32768x8x128, .f32⟩
  | .hbm, ⟨70, _⟩ => ⟨S_, .f32⟩
  | .hbm, ⟨71, _⟩ => ⟨S32768x8, .f32⟩
  | .hbm, ⟨72, _⟩ => ⟨S32768x8x1, .f32⟩
  | .hbm, ⟨73, _⟩ => ⟨S_, .f32⟩
  | .hbm, ⟨74, _⟩ => ⟨S32768x8x1, .f32⟩
  | .hbm, ⟨75, _⟩ => ⟨S32768x8x1, .f32⟩
  | .hbm, ⟨76, _⟩ => ⟨S_, .f32⟩
  | .hbm, ⟨77, _⟩ => ⟨S32768x8x1, .f32⟩
  | .hbm, ⟨78, _⟩ => ⟨S32768x8x1, .f32⟩
  | .hbm, ⟨79, _⟩ => ⟨S32768x8x1, .f32⟩
  | .hbm, ⟨80, _⟩ => ⟨S32768x8x128, .f32⟩
  | .hbm, ⟨81, _⟩ => ⟨S32768x8x128, .f32⟩
  | .hbm, ⟨82, _⟩ => ⟨S1x1x128, .f32⟩
  | .hbm, ⟨83, _⟩ => ⟨S32768x8x128, .f32⟩
  | .hbm, ⟨84, _⟩ => ⟨S32768x8x128, .f32⟩
  | .hbm, ⟨85, _⟩ => ⟨S32768x1024, .f32⟩
  | .hbm, ⟨86, _⟩ => ⟨S32768x1024, .bf16⟩
  | .hbm, ⟨87, _⟩ => ⟨S262144x128, .f32⟩
  | .hbm, ⟨88, _⟩ => ⟨S32768x1024, .f32⟩
  | .hbm, ⟨89, _⟩ => ⟨S32768x1024, .bf16⟩
  | .hbm, ⟨90, _⟩ => ⟨S262144x128, .f32⟩
  | .hbm, ⟨91, _⟩ => ⟨S32768x1024, .bf16⟩
  | .hbm, ⟨92, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Proof.Opening.lean ====
module

public import proofs.«01_k».proof.Proof.Gen.KernelIdeal.Loops
public import Idealize.ShloMosaic.Lib.Pipeline.FrameBody

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the pipeline's frame runs. -/
local notation "𝕄" => MT nD τ sig Unit (Elt F) ℕ (UR sig nD τ) ℕ

/-- The first block row of a (batch, head) pair prepares the key-side scratches before anything else: from any contents of
    the transposed values, of the broadcast key gates and of the diagonal masks, the opening part of the body runs and leaves
    each of them with the pieces found here written over what it held. -/
@[irreducible] def openFirst (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : Scalar.cmpi .ne (Scalar.extui (Scalar.cmpi .eq (BitVec.ofNat 32 (i 2).val) 0#32)) 0#32 = 1#1) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty) :
    Σ' (R : Σ' (arg2 : BitVec 32) (v3 : BitVec 32) (v7 : FVec F S1x512 .f32) (v11 : FVec F S1x512 .f32) (v15 : FVec F S1x512 .f32) (v19 : FVec F S1x512 .f32) (v23 : FVec F S1x512 .f32) (v27 : FVec F S1x512 .f32), BitVec 32) (L8 : List (View.Piece (Elt F) S16x144x512 .bf16)) (L9 : List (View.Piece (Elt F) S16x512x128 .f32)), { L10 : List (View.Piece (Elt F) S2x512x512 .f32) //
      ∀ (E : Set ℕ), (iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) E (k0_part58 (F := F) i arg3 harg3 arg4 harg4 arg5 harg5 arg6 harg6 arg7 harg7 arg8 harg8 arg9 harg9 arg10 harg10 arg11 harg11 arg12 harg12)
        (fun r => iprop(⌜r = R⌝ ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)))) } := by
  refine ⟨?_, ?_, ?_, ?_, fun E => ?run⟩
  case run =>
    rw [k0_part58_eq_skeleton]; unfold k0_part58_skel
    iintro ⟨H5, H6, H8, H9, H10⟩
    sl_exec (disch := first | sl_exact hc)
    sl_step
    sl_close

/-- A later block row finds those scratches as the first left them, and the opening part reads only the gates. -/
@[irreducible] def openLater (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : ¬ (Scalar.cmpi .ne (Scalar.extui (Scalar.cmpi .eq (BitVec.ofNat 32 (i 2).val) 0#32)) 0#32 = 1#1)) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty) :
    { R : Σ' (arg2 : BitVec 32) (v3 : BitVec 32) (v7 : FVec F S1x512 .f32) (v11 : FVec F S1x512 .f32) (v15 : FVec F S1x512 .f32) (v19 : FVec F S1x512 .f32) (v23 : FVec F S1x512 .f32) (v27 : FVec F S1x512 .f32), BitVec 32 //
      ∀ (E : Set ℕ), (iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) E (k0_part58 (F := F) i arg3 harg3 arg4 harg4 arg5 harg5 arg6 harg6 arg7 harg7 arg8 harg8 arg9 harg9 arg10 harg10 arg11 harg11 arg12 harg12)
        (fun r => iprop(⌜r = R⌝ ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))) } := by
  refine ⟨?_, fun E => ?run⟩
  case run =>
    rw [k0_part58_eq_skeleton]; unfold k0_part58_skel
    iintro ⟨H5, H6, H8, H9, H10⟩
    sl_exec (disch := first | sl_exact hc)
    sl_step
    sl_close

end Cert.KernelIdeal.Flash

end
-- ==== Proof.Run.lean ====
module

public import proofs.«01_k».proof.Proof.Opening

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the pipeline's frame runs. -/
local notation "𝕄" => MT nD τ sig Unit (Elt F) ℕ (UR sig nD τ) ℕ

/-- The whole body after its opening part, run once. The opening part enters as a hypothesis: it leaves the three key-side
    scratches at `X8`, `X9`, `X10` and returns the first six gate rows. The output block then ends with the pieces found here
    written over it; the two working scratches end at contents nobody reads again. -/
@[irreducible] def bodyRun (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec F S1x512 .f32) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (X8 : BufTy.Contents (Elt F) arg8.view.ty) (X9 : BufTy.Contents (Elt F) arg9.view.ty) (X10 : BufTy.Contents (Elt F) arg10.view.ty) (f11 : BufTy.Contents (Elt F) arg11.view.ty) (f12 : BufTy.Contents (Elt F) arg12.view.ty) :
    { L7 : List (View.Piece (Elt F) S4096x128 .bf16) //
      ∀ (E : Set ℕ) (f8 : BufTy.Contents (Elt F) arg8.view.ty) (f9 : BufTy.Contents (Elt F) arg9.view.ty) (f10 : BufTy.Contents (Elt F) arg10.view.ty)
        (h58 : (iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄) ⊢ wp frame (wpE (defs₀ (F := F)) Variants.none (c : Thread nD τ) none) E (k0_part58 (F := F) i arg3 harg3 arg4 harg4 arg5 harg5 arg6 harg6 arg7 harg7 arg8 harg8 arg9 harg9 arg10 harg10 arg11 harg11 arg12 harg12)
          (fun r => iprop(⌜r = ⟨BitVec.ofNat 32 (i 2).val, Scalar.muli 8#32 (BitVec.ofNat 32 (i 2).val), v7, v11, v15, v19, v23, v27, 6#32⟩⌝ ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10)))),
      (iprop(iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg11.view.loc (c : Thread nD τ) ↦[arg11.view.set]{fullShare} f11) ∗ (arg12.view.loc (c : Thread nD τ) ↦[arg12.view.set]{fullShare} f12))) : sProp 𝕄)
      ⊢ wp frame (wpE (defs₀ (F := F)) Variants.none (c : Thread nD τ) none) E (cc0_flash_bounded (F := F) i arg3 harg3 arg4 harg4 arg5 harg5 arg6 harg6 arg7 harg7 arg8 harg8 arg9 harg9 arg10 harg10 arg11 harg11 arg12 harg12)
        (fun _ => iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg3.view.loc (c : Thread nD τ) ↦[arg3.view.set]{fullShare} X3) ∗ (arg4.view.loc (c : Thread nD τ) ↦[arg4.view.set]{fullShare} X4) ∗ (∃ g, (arg7.view.loc (c : Thread nD τ) ↦[arg7.view.set]{fullShare} (arg7.view.writes (Elt F) g L7))) ∗ (∃ g, (arg11.view.loc (c : Thread nD τ) ↦[arg11.view.set]{fullShare} g)) ∗ (∃ g, (arg12.view.loc (c : Thread nD τ) ↦[arg12.view.set]{fullShare} g)))) } := by
  refine ⟨?_, fun E f8 f9 f10 h58 => ?run⟩
  case run =>
    rw [cc0_flash_bounded_eq_skeleton]; unfold cc0_flash_bounded_skel
    rw [wp_bind, k0_part82_eq_skeleton]; unfold k0_part82_skel
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    rw [wp_bind]
    refine (sep_mono_l h58).trans ((wp_frame_r _ _ _).trans (wp_mono _ _ _ fun r => ?_))
    iintro ⟨⟨%hr, H5, H6, H8, H9, H10⟩, H3, H4, H7, H11, H12⟩
    subst hr
    dsimp only
    sl_exec
    sl_step
    isplitl [H5]; · iexact H5
    isplitl [H6]; · iexact H6
    isplitl [H8]; · iexact H8
    isplitl [H9]; · iexact H9
    isplitl [H10]; · iexact H10
    isplitl [H3]; · iexact H3
    isplitl [H4]; · iexact H4
    isplitl [H7]; · iexists _; iexact H7
    isplitl [H11]; · iexists _; iexact H11
    iexists _; iexact H12

end Cert.KernelIdeal.Flash

end
-- ==== Proof.Step.lean ====
module

public import proofs.«01_k».proof.Proof.Run

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the pipeline's frame runs. -/
local notation "𝕄" => MT nD τ sig Unit (Elt F) ℕ (UR sig nD τ) ℕ

/-- Row `n` of the eight rows of the cumulative log gates that belong to the query block of grid point `i`. -/
def gateRow (i : grid0.Coords) (arg6 : Memref sig .tc .vmem S1x16x1x512 .f32) (X6 : BufTy.Contents (Elt F) arg6.view.ty) (n : Fin 8) : FVec F S1x512 .f32 :=
  shapeCast S1x512 (View.readAt (Elt F) arg6.view (Rect.unit (s := S1x16x1x512) (k0_off1 i (BitVec.ofNat 32 n.val)) S1x1x1x512.size (k0_off1_inb i n)).toLoadRect X6) shapeCasts_S1x1x1x512_S1x512

/-- What the opening part returns at the first block row: the block row's number, its first key block and six gate rows. -/
theorem openFirst_returns (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : Scalar.cmpi .ne (Scalar.extui (Scalar.cmpi .eq (BitVec.ofNat 32 (i 2).val) 0#32)) 0#32 = 1#1) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty) :
    (openFirst c i arg3 harg3 arg4 harg4 arg5 harg5 arg6 harg6 arg7 harg7 arg8 harg8 arg9 harg9 arg10 harg10 arg11 harg11 arg12 harg12 hc X5 X6 f8 f9 f10).1 = ⟨BitVec.ofNat 32 (i 2).val, Scalar.muli 8#32 (BitVec.ofNat 32 (i 2).val), gateRow i arg6 X6 0, gateRow i arg6 X6 1, gateRow i arg6 X6 2, gateRow i arg6 X6 3, gateRow i arg6 X6 4, gateRow i arg6 X6 5, 6#32⟩ := by
  unfold openFirst; rfl

/-- The same at a later block row. -/
theorem openLater_returns (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : ¬ (Scalar.cmpi .ne (Scalar.extui (Scalar.cmpi .eq (BitVec.ofNat 32 (i 2).val) 0#32)) 0#32 = 1#1)) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty) :
    (openLater c i arg3 harg3 arg4 harg4 arg5 harg5 arg6 harg6 arg7 harg7 arg8 harg8 arg9 harg9 arg10 harg10 arg11 harg11 arg12 harg12 hc X5 X6 f8 f9 f10).1 = ⟨BitVec.ofNat 32 (i 2).val, Scalar.muli 8#32 (BitVec.ofNat 32 (i 2).val), gateRow i arg6 X6 0, gateRow i arg6 X6 1, gateRow i arg6 X6 2, gateRow i arg6 X6 3, gateRow i arg6 X6 4, gateRow i arg6 X6 5, 6#32⟩ := by
  unfold openLater; rfl

/-- The body at the first block row of a (batch, head) pair: the key-side scratches end as the opening part wrote them, the
    output block at the pieces `bodyRun` finds from them. -/
theorem step_first (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : Scalar.cmpi .ne (Scalar.extui (Scalar.cmpi .eq (BitVec.ofNat 32 (i 2).val) 0#32)) 0#32 = 1#1) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (E : Set ℕ) :
    (iprop(iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg11.view.loc (c : Thread nD τ) ↦[arg11.view.set]{fullShare} f11) ∗ (arg12.view.loc (c : Thread nD τ) ↦[arg12.view.set]{fullShare} f12))) : sProp 𝕄)
      ⊢ wp frame (wpE (defs₀ (F := F)) Variants.none (c : Thread nD τ) none) E (cc0_flash_bounded (F := F) i arg3 harg3 arg4 harg4 arg5 harg5 arg6 harg6 arg7 harg7 arg8 harg8 arg9 harg9 arg10 harg10 arg11 harg11 arg12 harg12)
        (fun _ => iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} (arg8.view.writes (Elt F) f8 (openFirst c i arg3 harg3 arg4 harg4 arg5 harg5 arg6 harg6 arg7 harg7 arg8 harg8 arg9 harg9 arg10 harg10 arg11 harg11 arg12 harg12 hc X5 X6 f8 f9 f10).2.1)) ∗ (arg9.view.loc (c : Thread nD τ) ↦[arg9.view.set]{fullShare} (arg9.view.writes (Elt F) f9 (openFirst c i arg3 harg3 arg4 harg4 arg5 harg5 arg6 harg6 arg7 harg7 arg8 harg8 arg9 harg9 arg10 harg10 arg11 harg11 arg12 harg12 hc X5 X6 f8 f9 f10).2.2.1)) ∗ (arg10.view.loc (c : Thread nD τ) ↦[arg10.view.set]{fullShare} (arg10.view.writes (Elt F) f10 (openFirst c i arg3 harg3 arg4 harg4 arg5 harg5 arg6 harg6 arg7 harg7 arg8 harg8 arg9 harg9 arg10 harg10 arg11 harg11 arg12 harg12 hc X5 X6 f8 f9 f10).2.2.2.1)) ∗ (arg3.view.loc (c : Thread nD τ) ↦[arg3.view.set]{fullShare} X3) ∗ (arg4.view.loc (c : Thread nD τ) ↦[arg4.view.set]{fullShare} X4) ∗ (∃ g, (arg7.view.loc (c : Thread nD τ) ↦[arg7.view.set]{fullShare} (arg7.view.writes (Elt F) g (bodyRun c i arg3 harg3 arg4 harg4 arg5 harg5 arg6 harg6 arg7 harg7 arg8 harg8 arg9 harg9 arg10 harg10 arg11 harg11 arg12 harg12 (gateRow i arg6 X6 0) (gateRow i arg6 X6 1) (gateRow i arg6 X6 2) (gateRow i arg6 X6 3) (gateRow i arg6 X6 4) (gateRow i arg6 X6 5) X3 X4 X5 X6 f7 (arg8.view.writes (Elt F) f8 (openFirst c i arg3 harg3 arg4 harg4 arg5 harg5 arg6 harg6 arg7 harg7 arg8 harg8 arg9 harg9 arg10 harg10 arg11 harg11 arg12 harg12 hc X5 X6 f8 f9 f10).2.1) (arg9.view.writes (Elt F) f9 (openFirst c i arg3 harg3 arg4 harg4 arg5 harg5 arg6 harg6 arg7 harg7 arg8 harg8 arg9 harg9 arg10 harg10 arg11 harg11 arg12 harg12 hc X5 X6 f8 f9 f10).2.2.1) (arg10.view.writes (Elt F) f10 (openFirst c i arg3 harg3 arg4 harg4 arg5 harg5 arg6 harg6 arg7 harg7 arg8 harg8 arg9 harg9 arg10 harg10 arg11 harg11 arg12 harg12 hc X5 X6 f8 f9 f10).2.2.2.1) f11 f12).1))) ∗ (∃ g, (arg11.view.loc (c : Thread nD τ) ↦[arg11.view.set]{fullShare} g)) ∗ (∃ g, (arg12.view.loc (c : Thread nD τ) ↦[arg12.view.set]{fullShare} g)))) := by
  refine (bodyRun c i arg3 harg3 arg4 harg4 arg5 harg5 arg6 harg6 arg7 harg7 arg8 harg8 arg9 harg9 arg10 harg10 arg11 harg11 arg12 harg12 (gateRow i arg6 X6 0) (gateRow i arg6 X6 1) (gateRow i arg6 X6 2) (gateRow i arg6 X6 3) (gateRow i arg6 X6 4) (gateRow i arg6 X6 5) X3 X4 X5 X6 f7 _ _ _ f11 f12).2 E f8 f9 f10 ?_
  exact ((openFirst c i arg3 harg3 arg4 harg4 arg5 harg5 arg6 harg6 arg7 harg7 arg8 harg8 arg9 harg9 arg10 harg10 arg11 harg11 arg12 harg12 hc X5 X6 f8 f9 f10).2.2.2.2 E).trans (wp_mono _ _ _ fun r => sep_mono_l (by rw [openFirst_returns]; exact fun _ h => h))

/-- The body at a later block row: the key-side scratches are read as they stand. -/
theorem step_later (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : ¬ (Scalar.cmpi .ne (Scalar.extui (Scalar.cmpi .eq (BitVec.ofNat 32 (i 2).val) 0#32)) 0#32 = 1#1)) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (E : Set ℕ) :
    (iprop(iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg11.view.loc (c : Thread nD τ) ↦[arg11.view.set]{fullShare} f11) ∗ (arg12.view.loc (c : Thread nD τ) ↦[arg12.view.set]{fullShare} f12))) : sProp 𝕄)
      ⊢ wp frame (wpE (defs₀ (F := F)) Variants.none (c : Thread nD τ) none) E (cc0_flash_bounded (F := F) i arg3 harg3 arg4 harg4 arg5 harg5 arg6 harg6 arg7 harg7 arg8 harg8 arg9 harg9 arg10 harg10 arg11 harg11 arg12 harg12)
        (fun _ => iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg3.view.loc (c : Thread nD τ) ↦[arg3.view.set]{fullShare} X3) ∗ (arg4.view.loc (c : Thread nD τ) ↦[arg4.view.set]{fullShare} X4) ∗ (∃ g, (arg7.view.loc (c : Thread nD τ) ↦[arg7.view.set]{fullShare} (arg7.view.writes (Elt F) g (bodyRun c i arg3 harg3 arg4 harg4 arg5 harg5 arg6 harg6 arg7 harg7 arg8 harg8 arg9 harg9 arg10 harg10 arg11 harg11 arg12 harg12 (gateRow i arg6 X6 0) (gateRow i arg6 X6 1) (gateRow i arg6 X6 2) (gateRow i arg6 X6 3) (gateRow i arg6 X6 4) (gateRow i arg6 X6 5) X3 X4 X5 X6 f7 f8 f9 f10 f11 f12).1))) ∗ (∃ g, (arg11.view.loc (c : Thread nD τ) ↦[arg11.view.set]{fullShare} g)) ∗ (∃ g, (arg12.view.loc (c : Thread nD τ) ↦[arg12.view.set]{fullShare} g)))) := by
  refine (bodyRun c i arg3 harg3 arg4 harg4 arg5 harg5 arg6 harg6 arg7 harg7 arg8 harg8 arg9 harg9 arg10 harg10 arg11 harg11 arg12 harg12 (gateRow i arg6 X6 0) (gateRow i arg6 X6 1) (gateRow i arg6 X6 2) (gateRow i arg6 X6 3) (gateRow i arg6 X6 4) (gateRow i arg6 X6 5) X3 X4 X5 X6 f7 _ _ _ f11 f12).2 E f8 f9 f10 ?_
  exact ((openLater c i arg3 harg3 arg4 harg4 arg5 harg5 arg6 harg6 arg7 harg7 arg8 harg8 arg9 harg9 arg10 harg10 arg11 harg11 arg12 harg12 hc X5 X6 f8 f9 f10).2 E).trans (wp_mono _ _ _ fun r => sep_mono_l (by rw [openLater_returns]; exact fun _ h => h))

/-- The body at any grid point, from any contents of the output block and of the scratches, saying nothing of what it leaves
    in them: the four inputs end as they were. -/
theorem step_any (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (E : Set ℕ) :
    (iprop(iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg11.view.loc (c : Thread nD τ) ↦[arg11.view.set]{fullShare} f11) ∗ (arg12.view.loc (c : Thread nD τ) ↦[arg12.view.set]{fullShare} f12))) : sProp 𝕄)
      ⊢ wp frame (wpE (defs₀ (F := F)) Variants.none (c : Thread nD τ) none) E (cc0_flash_bounded (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)))) := by
  by_cases hc : Scalar.cmpi .ne (Scalar.extui (Scalar.cmpi .eq (BitVec.ofNat 32 (i 2).val) 0#32)) 0#32 = 1#1
  · refine (step_first c i arg3 harg3 arg4 harg4 arg5 harg5 arg6 harg6 arg7 harg7 arg8 harg8 arg9 harg9 arg10 harg10 arg11 harg11 arg12 harg12 hc X3 X4 X5 X6 f7 f8 f9 f10 f11 f12 E).trans (wp_mono _ _ _ fun _ => ?_)
    iintro ⟨H5, H6, H8, H9, H10, H3, H4, ⟨%g7, H7⟩, H11, H12⟩
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexact H11
    iexact H12
  · refine (step_later c i arg3 harg3 arg4 harg4 arg5 harg5 arg6 harg6 arg7 harg7 arg8 harg8 arg9 harg9 arg10 harg10 arg11 harg11 arg12 harg12 hc X3 X4 X5 X6 f7 f8 f9 f10 f11 f12 E).trans (wp_mono _ _ _ fun _ => ?_)
    iintro ⟨H5, H6, H8, H9, H10, H3, H4, ⟨%g7, H7⟩, H11, H12⟩
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexact H11
    iexact H12

end Cert.KernelIdeal.Flash

end
-- ==== Proof.Frame.lean ====
module

public import proofs.«01_k».proof.Proof.Step
public import proofs.«01_k».proof.Proof.Gen.KernelIdeal.Frame
public import Idealize.ShloMosaic.Lib.Pipeline.Frame

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F] [∀ e, Nonempty (Elt F e)]

/-- The resource algebra of the pipeline's frame runs. -/
local notation "𝕄" => MT nD τ sig Unit (Elt F) ℕ (UR sig nD τ) ℕ

variable (m : (ℓ : Loc nD τ sig) → Buf (Elt F) ℓ) (ρ : Dev nD → PrngReg)

/-- The output window is forgotten: the frame reads nothing of it. -/
def forgets0 : Fin 5 → Bool := fun w => w == 4

/-- The proof data of the frame on core `c`: the arrays as the region finds them, every input's block left in place, the
    output's unnamed; between points the scratches at any contents; full shares; nothing owed. -/
def fdats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | ⟨_ + 5, h⟩ => absurd h (Nat.not_lt.2 (Nat.le_add_left _ _))
  Φ _ := Pipeline.ΦA spec0 c
  q _ := fullShare
  owed _ := 0

theorem fdats_A (c : Dev nD) (w : Fin cfg0.W) : (fdats m 0 c).A w = V m c (Pipeline.arrRef spec0 w) := by dsimp only [fdats]

/-- The scratches and the generator register, conjunct by conjunct. -/
theorem PhiA_eq (c : Dev nD) :
    (Pipeline.ΦA (U := UR sig nD τ) (Val := Elt F) spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA; rw [scopedRest0_eq]; simp only [owns_whole]; try rfl

/-- What the body is called with at point `t`, and what it returns. -/
def bodyPre (c : Dev nD) (t : Fin cfg0.N) : sProp 𝕄 :=
  iprop((fdats m 0 c).Φ t.castSucc ∗ (fdats m 0 c).owesAt () t.castSucc
    ∗ (∃ d, owns (c : Thread nD τ) (win0_0.stage (cfg0.slots t 0)) fullShare ((fdats m 0 c).before 0 t d))
    ∗ (∃ d, owns (c : Thread nD τ) (win0_1.stage (cfg0.slots t 1)) fullShare ((fdats m 0 c).before 1 t d))
    ∗ (∃ d, owns (c : Thread nD τ) (win0_2.stage (cfg0.slots t 2)) fullShare ((fdats m 0 c).before 2 t d))
    ∗ (∃ d, owns (c : Thread nD τ) (win0_3.stage (cfg0.slots t 3)) fullShare ((fdats m 0 c).before 3 t d))
    ∗ (∃ d, owns (c : Thread nD τ) (win0_4.stage (cfg0.slots t 4)) fullShare d))
def bodyPost (c : Dev nD) (t : Fin cfg0.N) : sProp 𝕄 :=
  iprop((fdats m 0 c).Φ t.succ ∗ (fdats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ (∃ d, owns (c : Thread nD τ) (win0_4.stage (cfg0.slots t 4)) fullShare d))

/-- `step_any` for any continuation. -/
theorem step_cont (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (E : Set ℕ) (K : PUnit → sProp 𝕄) :
    iprop(iprop(iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg11.view.loc (c : Thread nD τ) ↦[arg11.view.set]{fullShare} f11) ∗ (arg12.view.loc (c : Thread nD τ) ↦[arg12.view.set]{fullShare} f12)))
      ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) -∗ K ⟨⟩))
      ⊢ wp frame (wpE (defs₀ (F := F)) Variants.none (c : Thread nD τ) none) E (cc0_flash_bounded (F := F) i arg3 harg3 arg4 harg4 arg5 harg5 arg6 harg6 arg7 harg7 arg8 harg8 arg9 harg9 arg10 harg10 arg11 harg11 arg12 harg12) K := by
  refine (sep_mono_l (step_any c i arg3 harg3 arg4 harg4 arg5 harg5 arg6 harg6 arg7 harg7 arg8 harg8 arg9 harg9 arg10 harg10 arg11 harg11 arg12 harg12 X3 X4 X5 X6 f7 f8 f9 f10 f11 f12 E)).trans ((wp_frame_r _ _ _).trans (wp_mono _ _ _ fun _ => ?_))
  iintro ⟨H, Hk⟩
  iapply Hk
  iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (fdats m 0 c) (fdats_A m c 0) (fun _ => rfl), before0_1_of m (fdats m 0 c) (fdats_A m c 1) (fun _ => rfl),
    before0_2_of m (fdats m 0 c) (fdats_A m c 2) (fun _ => rfl), before0_3_of m (fdats m 0 c) (fdats_A m c 3) (fun _ => rfl)]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA_eq]
  unfold owns
  iintro ⟨⟨⟨⟨%d8, %f8, -, H8⟩, ⟨%d9, %f9, -, H9⟩, ⟨%d10, %f10, -, H10⟩, ⟨%d11, %f11, -, H11⟩, ⟨%d12, %f12, -, H12⟩⟩, Hg⟩, HO, ⟨%d0, %X3, %h3, H3⟩, ⟨%d1, %X4, %h4, H4⟩, ⟨%d2, %X5, %h5, H5⟩, ⟨%d3, %X6, %h6, H6⟩, ⟨%d4, %f7, -, H7⟩⟩
  iapply (step_cont c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) X3 X4 X5 X6 f7 f8 f9 f10 f11 f12 Set.univ _)
  isplitl [H3 H4 H5 H6 H7 H8 H9 H10 H11 H12]
  · isplitl [H5 H6 H8 H9 H10]
    · isplitl [H5]; · iexact H5
      isplitl [H6]; · iexact H6
      isplitl [H8]; · iexact H8
      isplitl [H9]; · iexact H9
      iexact H10
    isplitl [H3]; · iexact H3
    isplitl [H4]; · iexact H4
    isplitl [H7]; · iexact H7
    isplitl [H11]; · iexact H11
    iexact H12
  iintro ⟨H3, H4, H5, H6, ⟨%g7, H7⟩, ⟨%g8, H8⟩, ⟨%g9, H9⟩, ⟨%g10, H10⟩, ⟨%g11, H11⟩, ⟨%g12, H12⟩⟩
  isplitl [H8 H9 H10 H11 H12 Hg]
  · isplitl [H8 H9 H10 H11 H12]
    · isplitl [H8]; · iexists _, _; isplitr; swap; · iexact H8
                      ipureintro; rfl
      isplitl [H9]; · iexists _, _; isplitr; swap; · iexact H9
                      ipureintro; rfl
      isplitl [H10]; · iexists _, _; isplitr; swap; · iexact H10
                       ipureintro; rfl
      isplitl [H11]; · iexists _, _; isplitr; swap; · iexact H11
                       ipureintro; rfl
      iexists _, _; isplitr; swap; · iexact H12
      ipureintro; rfl
    iexact Hg
  isplitl [HO]; · iexact HO
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro; exact h6
  iexists _, _; isplitr; swap; · iexact H7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (fdats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair execution of the program terminates, every argument ends as launched
    and every semaphore counter ends at zero. -/
theorem run_frame :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget (Q' := _) cfgs (fdats m) (0 : Fin 1) launch0 defs₀ Variants.none forgets0 m ρ main
    (hbody := fun c => (body_obligation m c).loose) (hshare := fun c => (fdats m 0 c).share_full fun _ => rfl)
    (howed := fun _ _ => rfl) (V := V m) (hmain := hmain m Variants.none) (hA := fdats_A m)
    (hΦ := fun _ _ => rfl)

/-- The frame: the arguments unchanged, the counters at zero. -/
theorem frame_holds :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1.arr_in c 0 rfl).trans ((fdats_A m c 0).trans (V_main_arg0 m c)),
     (h.1.arr_in c 1 rfl).trans ((fdats_A m c 1).trans (V_main_arg1 m c)),
     (h.1.arr_in c 2 rfl).trans ((fdats_A m c 2).trans (V_main_arg2 m c)),
     ((h.1 c).2 main_arg3 (Pipeline.mem_restRefs_of main_arg3 (by decide) (by decide))).trans (V_main_arg3 m c)⟩, h.2⟩) (run_frame m ρ)

end Cert.KernelIdeal.Flash

end
-- ==== Proof.Weights.lean ====
module

public import proofs.«01_k».proof.Proof.Gen.KernelIdeal.Skeleton
public import Idealize.ShloMosaic.Lib.Pointwise
public import Idealize.ShloMosaic.Lib.MatmulPlain
public import Idealize.ShloMosaic.Lib.ValueLayout

@[expose] public section

set_option maxRecDepth 16384
set_option maxHeartbeats 1000000

noncomputable section

namespace Cert.KernelIdeal.Flash

open Cert.KernelIdeal Cert.KernelIdeal.Gen
open Idealize.ShloMosaic

/-! The numbers the kernel computes, as functions of plain positions, for one batch and head: `Q t d` the scaled queries,
`K n d` the keys, `C n` the cumulative log gates, `V j r s` row `r` of the transposed values of key block `j` at its
key `s`. -/

/-- The score of key `n` for query `t`: the product of key and query, plus the query's gate, minus the key's. -/
def score (Q K : ℕ → ℕ → EReal) (C : ℕ → EReal) (n t : ℕ) : EReal :=
  (∑ d : Fin 128, K n d.val * Q t d.val) + C t - C n

/-- The weight of key `n` for query `t`: two to the power of the score where the key is not after the query, zero elsewhere. -/
def weight (Q K : ℕ → ℕ → EReal) (C : ℕ → EReal) (n t : ℕ) : EReal :=
  if n ≤ t then Ideal.exp2 (score Q K C n t) else 0

/-- What key block `j` adds to row `r` of the accumulator for query `t`. -/
def gain (Q K : ℕ → ℕ → EReal) (C : ℕ → EReal) (V : ℕ → ℕ → ℕ → EReal) (j r t : ℕ) : EReal :=
  ∑ s : Fin 512, V j r s.val * weight Q K C (512 * j + s.val) t

/-- Row `r` of the accumulator for query `t` after the first `n` key blocks. -/
def total (Q K : ℕ → ℕ → EReal) (C : ℕ → EReal) (V : ℕ → ℕ → ℕ → EReal) : ℕ → ℕ → ℕ → EReal
  | 0, _, _ => 0
  | n + 1, r, t => total Q K C V n r t + gain Q K C V n r t

/-- A key block that lies wholly after a query adds nothing. -/
theorem gain_of_lt (Q K : ℕ → ℕ → EReal) (C : ℕ → EReal) (V : ℕ → ℕ → ℕ → EReal) (j r t : ℕ) (h : t < 512 * j) :
    gain Q K C V j r t = 0 := by
  unfold gain
  refine Finset.sum_eq_zero fun s _ => ?_
  rw [weight, if_neg (by omega), mul_zero]

/-- The scores of one part: key rows against query rows plus the row of query gates, minus the keys' gates. -/
def partScores (o : ℕ) (hs : S1x4096.Slices ![0, o] S1x512) (kb qb : FVec Ideal S512x128 .bf16) (row : FVec Ideal S1x4096 .f32) (cs : FVec Ideal S512x512 .f32) : FVec Ideal S512x512 .f32 :=
  subf (addf (matmul dot_S512x128_S512x128_S512x512_1_1_0_0_n_n none kb qb (constant S512x512 .f32 0x00000000#32)) (broadcastTo S512x512 (extractStridedSlice S1x512 ![0, o] row hs) broadcasts_S1x512_S512x512)) cs

/-- The keys' gates of one block, spread over the columns of a part. -/
def spread (cb : FVec Ideal S1x512x128 .f32) : FVec Ideal S512x512 .f32 :=
  concatenate S512x512 1 [⟨S512x128, shapeCast S512x128 cb shapeCasts_S1x512x128_S512x128⟩, ⟨S512x128, shapeCast S512x128 cb shapeCasts_S1x512x128_S512x128⟩, ⟨S512x128, shapeCast S512x128 cb shapeCasts_S1x512x128_S512x128⟩, ⟨S512x128, shapeCast S512x128 cb shapeCasts_S1x512x128_S512x128⟩] concatenates_S512x128_S512x128_S512x128_S512x128_S512x512_d1

theorem spread_apply (cb : FVec Ideal S1x512x128 .f32) (g : ℕ → EReal) (hg : ∀ x, cb x = g (x 1).val) (x : S512x512.Idx) : spread cb x = g (x 0).val := by
  unfold spread
  pointwise
  simp only [hg]
  split
  · rfl
  split
  · rfl
  split <;> rfl

theorem partScores_apply (o : ℕ) (hs : S1x4096.Slices ![0, o] S1x512) (kb qb : FVec Ideal S512x128 .bf16) (row : FVec Ideal S1x4096 .f32) (cs : FVec Ideal S512x512 .f32)
    (Q K : ℕ → ℕ → EReal) (C : ℕ → EReal) (n t : ℕ) (hk : ∀ x, kb x = K (n + (x 0).val) (x 1).val) (hq : ∀ x, qb x = Q (t + o + (x 0).val) (x 1).val)
    (hr : ∀ x, row x = C (t + (x 1).val)) (hc : ∀ x, cs x = C (n + (x 0).val)) (x : S512x512.Idx) :
    partScores o hs kb qb row cs x = score Q K C (n + (x 0).val) (t + o + (x 1).val) := by
  unfold partScores score
  pointwise
  simp only [hk, hq, hr, hc]
  simp only [Nat.add_assoc]
  rfl

/-- A part of the weights as the kernel stores it: two to the power of its scores, narrowed and given a leading axis. -/
def partStored (z : FVec Ideal S512x512 .f32) : FVec Ideal S1x512x512 .bf16 :=
  shapeCast S1x512x512 (truncf .bf16 (exp2 z) bitsLt_bf16_f32) shapeCasts_S512x512_S1x512x512

theorem partStored_apply (z : FVec Ideal S512x512 .f32) (x : S1x512x512.Idx) : partStored z x = Ideal.exp2 (z (ix2 (x 1) (x 2))) := by
  unfold partStored
  pointwise
  rfl

/-- A part whose keys all lie at or before its queries: what is stored are the weights. -/
theorem part_before (o : ℕ) (hs : S1x4096.Slices ![0, o] S1x512) (kb qb : FVec Ideal S512x128 .bf16) (row : FVec Ideal S1x4096 .f32) (cs : FVec Ideal S512x512 .f32)
    {Q K : ℕ → ℕ → EReal} {C : ℕ → EReal} {n t : ℕ} (hk : ∀ x, kb x = K (n + (x 0).val) (x 1).val) (hq : ∀ x, qb x = Q (t + o + (x 0).val) (x 1).val)
    (hr : ∀ x, row x = C (t + (x 1).val)) (hc : ∀ x, cs x = C (n + (x 0).val)) (hnt : n + 512 ≤ t + o + 1) (x : S1x512x512.Idx) :
    partStored (partScores o hs kb qb row cs) x = weight Q K C (n + (x 1).val) (t + (o + (x 2).val)) := by
  have h1 : (x 1).val < 512 := (x 1).isLt
  rw [partStored_apply, partScores_apply o hs kb qb row cs Q K C n t hk hq hr hc, weight, if_pos (by omega), ← Nat.add_assoc]
  rfl

/-- A masked part: the mask added to the scores is zero where the key is not after the query and minus infinity elsewhere, so
what is stored are the weights. -/
theorem part_masked (o : ℕ) (hs : S1x4096.Slices ![0, o] S1x512) (kb qb : FVec Ideal S512x128 .bf16) (row : FVec Ideal S1x4096 .f32) (cs : FVec Ideal S512x512 .f32)
    (mb : FVec Ideal S1x512x512 .f32)
    {Q K : ℕ → ℕ → EReal} {C : ℕ → EReal} {n t : ℕ} (hk : ∀ x, kb x = K (n + (x 0).val) (x 1).val) (hq : ∀ x, qb x = Q (t + o + (x 0).val) (x 1).val)
    (hr : ∀ x, row x = C (t + (x 1).val)) (hc : ∀ x, cs x = C (n + (x 0).val))
    (hm : ∀ x, mb x = if n + (x 1).val ≤ t + o + (x 2).val then 0 else ⊥) (x : S1x512x512.Idx) :
    partStored (addf (partScores o hs kb qb row cs) (shapeCast S512x512 mb shapeCasts_S1x512x512_S512x512)) x = weight Q K C (n + (x 1).val) (t + (o + (x 2).val)) := by
  rw [partStored_apply]
  pointwise
  rw [partScores_apply o hs kb qb row cs Q K C n t hk hq hr hc, hm, weight, ← Nat.add_assoc]
  show Ideal.exp2 (score Q K C (n + (x 1).val) (t + o + (x 2).val) + if n + (x 1).val ≤ t + o + (x 2).val then 0 else ⊥) = _
  split
  · rw [add_zero]
  · rw [EReal.add_bot]; rfl

/-- What the kernel stores back into columns of the accumulator: the columns plus the values of a key block times its weights. -/
def accStored (w : ℕ) (h1 : (⟨3, ![1, 512, w]⟩ : Shape).ShapeCasts ⟨2, ![512, w]⟩) (h2 : (⟨2, ![144, w]⟩ : Shape).ShapeCasts ⟨2, ![144, w]⟩)
    (acc : FVec Ideal ⟨2, ![144, w]⟩ .f32) (vb : FVec Ideal S1x144x512 .bf16) (pb : FVec Ideal ⟨3, ![1, 512, w]⟩ .bf16) : FVec Ideal ⟨2, ![144, w]⟩ .f32 :=
  shapeCast ⟨2, ![144, w]⟩ (addf acc (matmul (DotDims.plain 144 512 w) none (shapeCast S144x512 vb shapeCasts_S1x144x512_S144x512) (shapeCast ⟨2, ![512, w]⟩ pb h1) (constant ⟨2, ![144, w]⟩ .f32 0x00000000#32))) h2

/-- It is the accumulator after one more key block, where the columns held it before that block. -/
theorem accStored_apply (w : ℕ) (h1 : (⟨3, ![1, 512, w]⟩ : Shape).ShapeCasts ⟨2, ![512, w]⟩) (h2 : (⟨2, ![144, w]⟩ : Shape).ShapeCasts ⟨2, ![144, w]⟩)
    (acc : FVec Ideal ⟨2, ![144, w]⟩ .f32) (vb : FVec Ideal S1x144x512 .bf16) (pb : FVec Ideal ⟨3, ![1, 512, w]⟩ .bf16)
    {Q K : ℕ → ℕ → EReal} {C : ℕ → EReal} {V : ℕ → ℕ → ℕ → EReal} {j t o : ℕ}
    (ha : ∀ x, acc x = total Q K C V j (x 0).val (t + (o + (x 1).val))) (hv : ∀ x, vb x = V j (x 1).val (x 2).val)
    (hp : ∀ x, pb x = weight Q K C (512 * j + (x 1).val) (t + (o + (x 2).val))) (x : (⟨2, ![144, w]⟩ : Shape).Idx) :
    accStored w h1 h2 acc vb pb x = total Q K C V (j + 1) (x 0).val (t + (o + (x 1).val)) := by
  unfold accStored
  rw [shapeCast_self]
  show acc x + _ = _
  rw [ha, total]
  congr 1
  obtain ⟨a, b, rfl⟩ : ∃ (a : Fin 144) (b : Fin w), x = ValueIdx.ix2 a b := ⟨x 0, x 1, by funext i; match i with | ⟨0, _⟩ => rfl | ⟨1, _⟩ => rfl⟩
  rw [show (matmul (DotDims.plain 144 512 w) none (shapeCast S144x512 vb shapeCasts_S1x144x512_S144x512) (shapeCast ⟨2, ![512, w]⟩ pb h1) (constant ⟨2, ![144, w]⟩ .f32 0x00000000#32)) (ValueIdx.ix2 a b) = _ from Ideal.matmul_plain_apply none _ _ _ a b]
  rw [show (constant (F := Ideal) ⟨2, ![144, w]⟩ .f32 0x00000000#32) (ValueIdx.ix2 a b) = (0 : EReal) from Ideal.ofBits_zero_f32, zero_add]
  unfold gain
  refine Finset.sum_congr rfl fun s _ => ?_
  rw [ValueIdx.shapeCast_1ab_ab_apply, ValueIdx.shapeCast_1ab_ab_apply, hv, hp]
  rfl

end Cert.KernelIdeal.Flash
-- ==== Proof.Contents.lean ====
module

public import proofs.«01_k».proof.Proof.Weights
public import Idealize.ShloMosaic.Lib.Pipeline.FrameBody

@[expose] public section

set_option maxRecDepth 16384
set_option maxHeartbeats 1000000

noncomputable section

namespace Cert.KernelIdeal.Flash

open Cert.KernelIdeal Cert.KernelIdeal.Gen
open Idealize.ShloMosaic

/-- The coordinates a load of a block reads: the block's offset plus the coordinate within the block. -/
theorem unit_idx_val {s : Shape} (off size : Fin s.rank → ℕ) (inb : ∀ a, off a + size a ≤ s.size a) (x : (Rect.unit off size inb).shape.Idx) (a : Fin s.rank) :
    ((Rect.unit off size inb).toLoadRect.idx x a).val = off a + (x a).val := by
  show off a + 1 * (x a).val = _
  rw [Nat.one_mul]

section Slots

variable {sig' : RefSig} {κ : Kind} {sp : Space} (v : View sig' κ sp S2x512x4096 .bf16)

/-- Slot `s` of the buffer of weights holds `G` in the columns from `lo` up to `hi`. -/
def SlotHolds (f : v.ty.Contents (Elt Ideal)) (s lo hi : ℕ) (G : ℕ → ℕ → EReal) : Prop :=
  ∀ y : S2x512x4096.Idx, (y 0).val = s → lo ≤ (y 2).val → (y 2).val < hi → v.read (Elt Ideal) f y = G (y 1).val (y 2).val

variable {v} {f : v.ty.Contents (Elt Ideal)} {L : List (View.Piece (Elt Ideal) S2x512x4096 .bf16)} {s lo hi : ℕ} {G : ℕ → ℕ → EReal}

theorem SlotHolds.none : SlotHolds v f s lo lo G := fun y _ h h' => absurd h' (Nat.not_lt.mpr h)

/-- A part stored beside the columns already right. -/
theorem SlotHolds.part {o : ℕ} {inb} {w : FVec Ideal S1x512x512 .bf16} (hw : ∀ x, w x = G (x 1).val (o + (x 2).val))
    (h : SlotHolds v (v.writes (Elt Ideal) f L) s lo o G) :
    SlotHolds v (v.writes (Elt Ideal) f (⟨Rect.unit (s := S2x512x4096) ![s, 0, o] S1x512x512.size inb, w⟩ :: L)) s lo (o + 512) G := by
  intro y h0 h1 h2
  by_cases hc : (y 2).val < o
  · rw [View.read_writes_cons_miss_of_axis v f _ L y 2 o 512 rfl rfl rfl (Or.inl hc)]
    exact h y h0 h1 hc
  · have hb : (y 1).val < 512 := (y 1).isLt
    let x : S1x512x512.Idx := ix3 (n0 := 1) (n1 := 512) (n2 := 512) 0 ⟨(y 1).val, hb⟩ ⟨(y 2).val - o, by omega⟩
    refine (View.read_writes_cons_hit_of_coords v f (Rect.unit (s := S2x512x4096) ![s, 0, o] S1x512x512.size inb) w L x y (by
      intro a
      match a with
      | ⟨0, _⟩ => show (y 0).val = s + 1 * 0; omega
      | ⟨1, _⟩ => show (y 1).val = 0 + 1 * (y 1).val; omega
      | ⟨2, _⟩ => show (y 2).val = o + 1 * ((y 2).val - o); omega)).trans ((hw x).trans ?_)
    show G (y 1).val (o + ((y 2).val - o)) = _
    rw [show o + ((y 2).val - o) = (y 2).val by omega]

/-- A part stored in the other slot changes nothing. -/
theorem SlotHolds.other {s' o : ℕ} {inb} {w : FVec Ideal S1x512x512 .bf16} (hs : s ≠ s') (h : SlotHolds v (v.writes (Elt Ideal) f L) s lo hi G) :
    SlotHolds v (v.writes (Elt Ideal) f (⟨Rect.unit (s := S2x512x4096) ![s', 0, o] S1x512x512.size inb, w⟩ :: L)) s lo hi G := by
  intro y h0 h1 h2
  rw [View.read_writes_cons_miss_of_axis v f _ L y 0 s' 1 rfl rfl rfl (by omega)]
  exact h y h0 h1 h2

theorem SlotHolds.mono {lo' hi' : ℕ} (h : SlotHolds v f s lo hi G) (h1 : lo ≤ lo') (h2 : hi' ≤ hi) : SlotHolds v f s lo' hi' G :=
  fun y h0 a b => h y h0 (h1.trans a) (b.trans_le h2)

/-- A load of columns of a slot. -/
theorem SlotHolds.load {o w : ℕ} {inb} (h : SlotHolds v f s lo hi G) (h1 : lo ≤ o) (h2 : o + w ≤ hi)
    (x : (⟨3, ![1, 512, w]⟩ : Shape).Idx) :
    v.readAt (Elt Ideal) (Rect.unit (s := S2x512x4096) ![s, 0, o] (⟨3, ![1, 512, w]⟩ : Shape).size inb).toLoadRect f x = G (x 1).val (o + (x 2).val) := by
  rw [View.readAt_apply]
  have e : ∀ a, ((Rect.unit (s := S2x512x4096) ![s, 0, o] (⟨3, ![1, 512, w]⟩ : Shape).size inb).toLoadRect.idx x a).val = ![s, 0, o] a + (x a).val :=
    unit_idx_val _ _ inb x
  have x0 : (x 0).val < 1 := (x 0).isLt
  have x2 : (x 2).val < w := (x 2).isLt
  have e0 := e 0
  have e1 := e 1
  have e2 := e 2
  rw [h _ (e0.trans (show s + (x 0).val = s by omega)) (by rw [e2]; show lo ≤ o + _; omega) (by rw [e2]; show o + (x 2).val < hi; omega), e1, e2]
  show G (0 + (x 1).val) (o + (x 2).val) = _
  rw [Nat.zero_add]

end Slots

section Acc

variable {sig' : RefSig} {κ : Kind} {sp : Space} (v : View sig' κ sp S144x4096 .f32)

/-- The accumulator holds `G` in the columns from `lo` up to `hi`. -/
def AccHolds (f : v.ty.Contents (Elt Ideal)) (lo hi : ℕ) (G : ℕ → ℕ → EReal) : Prop :=
  ∀ y : S144x4096.Idx, lo ≤ (y 1).val → (y 1).val < hi → v.read (Elt Ideal) f y = G (y 0).val (y 1).val

variable {v} {f : v.ty.Contents (Elt Ideal)} {L : List (View.Piece (Elt Ideal) S144x4096 .f32)} {lo hi : ℕ} {G : ℕ → ℕ → EReal}

/-- Columns just stored. -/
theorem AccHolds.hit {o w : ℕ} {inb} {p : FVec Ideal ⟨2, ![144, w]⟩ .f32} (hp : ∀ x, p x = G (x 0).val (o + (x 1).val)) :
    AccHolds v (v.writes (Elt Ideal) f (⟨Rect.unit (s := S144x4096) ![0, o] (⟨2, ![144, w]⟩ : Shape).size inb, p⟩ :: L)) o (o + w) G := by
  intro y h1 h2
  have hb : (y 0).val < 144 := (y 0).isLt
  let x : (⟨2, ![144, w]⟩ : Shape).Idx := ix2 (n0 := 144) (n1 := w) ⟨(y 0).val, hb⟩ ⟨(y 1).val - o, by omega⟩
  refine (View.read_writes_cons_hit_of_coords v f (Rect.unit (s := S144x4096) ![0, o] (⟨2, ![144, w]⟩ : Shape).size inb) p L x y (by
    intro a
    match a with
    | ⟨0, _⟩ => show (y 0).val = 0 + 1 * (y 0).val; omega
    | ⟨1, _⟩ => show (y 1).val = o + 1 * ((y 1).val - o); omega)).trans ((hp x).trans ?_)
  show G (y 0).val (o + ((y 1).val - o)) = _
  rw [show o + ((y 1).val - o) = (y 1).val by omega]

/-- Columns beside the ones just stored. -/
theorem AccHolds.miss {o w : ℕ} {inb} {p : FVec Ideal ⟨2, ![144, w]⟩ .f32} (hd : hi ≤ o ∨ o + w ≤ lo) (h : AccHolds v (v.writes (Elt Ideal) f L) lo hi G) :
    AccHolds v (v.writes (Elt Ideal) f (⟨Rect.unit (s := S144x4096) ![0, o] (⟨2, ![144, w]⟩ : Shape).size inb, p⟩ :: L)) lo hi G := by
  intro y h1 h2
  rw [View.read_writes_cons_miss_of_axis v f _ L y 1 o w rfl rfl rfl (by omega)]
  exact h y h1 h2

theorem AccHolds.join {mid : ℕ} (h : AccHolds v f lo mid G) (h' : AccHolds v f mid hi G) : AccHolds v f lo hi G := fun y h1 h2 => by
  by_cases hc : (y 1).val < mid
  · exact h y h1 hc
  · exact h' y (Nat.not_lt.mp hc) h2

theorem AccHolds.mono {lo' hi' : ℕ} (h : AccHolds v f lo hi G) (h1 : lo ≤ lo') (h2 : hi' ≤ hi) : AccHolds v f lo' hi' G :=
  fun y a b => h y (h1.trans a) (b.trans_le h2)

/-- The same columns under another name for what they hold. -/
theorem AccHolds.congr {G' : ℕ → ℕ → EReal} (h : AccHolds v f lo hi G) (e : ∀ r t, lo ≤ t → t < hi → G r t = G' r t) : AccHolds v f lo hi G' :=
  fun y a b => (h y a b).trans (e _ _ a b)

/-- A load of columns of the accumulator. -/
theorem AccHolds.load {o w : ℕ} {inb} (h : AccHolds v f lo hi G) (h1 : lo ≤ o) (h2 : o + w ≤ hi)
    (x : (⟨2, ![144, w]⟩ : Shape).Idx) :
    v.readAt (Elt Ideal) (Rect.unit (s := S144x4096) ![0, o] (⟨2, ![144, w]⟩ : Shape).size inb).toLoadRect f x = G (x 0).val (o + (x 1).val) := by
  rw [View.readAt_apply]
  have e : ∀ a, ((Rect.unit (s := S144x4096) ![0, o] (⟨2, ![144, w]⟩ : Shape).size inb).toLoadRect.idx x a).val = ![0, o] a + (x a).val :=
    unit_idx_val _ _ inb x
  have x1 : (x 1).val < w := (x 1).isLt
  have e0 := e 0
  have e1 := e 1
  rw [h _ (by rw [e1]; show lo ≤ o + _; omega) (by rw [e1]; show o + (x 1).val < hi; omega), e0, e1]
  show G (0 + (x 0).val) (o + (x 1).val) = _
  rw [Nat.zero_add]

end Acc

section Loaded

variable {sig' : RefSig} {κ : Kind} {sp : Space}

/-- What the buffers hold while one batch and head and one block row `b` of queries is worked on. -/
structure Loaded (b : ℕ) (v3 : View sig' κ sp S4096x128 .bf16) (v4 : View sig' κ sp S8192x128 .bf16) (v8 : View sig' κ sp S16x144x512 .bf16)
    (v9 : View sig' κ sp S16x512x128 .f32) (v10 : View sig' κ sp S2x512x512 .f32) (row : FVec Ideal S1x4096 .f32)
    (X3 : v3.ty.Contents (Elt Ideal)) (X4 : v4.ty.Contents (Elt Ideal)) (X8 : v8.ty.Contents (Elt Ideal)) (X9 : v9.ty.Contents (Elt Ideal))
    (X10 : v10.ty.Contents (Elt Ideal)) (Q K : ℕ → ℕ → EReal) (C : ℕ → EReal) (V : ℕ → ℕ → ℕ → EReal) : Prop where
  /-- the block row's queries -/
  q : ∀ y, v3.read (Elt Ideal) X3 y = Q (4096 * b + (y 0).val) (y 1).val
  /-- the keys -/
  k : ∀ y, v4.read (Elt Ideal) X4 y = K (y 0).val (y 1).val
  /-- the transposed values, block by block -/
  v : ∀ y, v8.read (Elt Ideal) X8 y = V (y 0).val (y 1).val (y 2).val
  /-- the keys' gates, block by block -/
  g : ∀ y, v9.read (Elt Ideal) X9 y = C (512 * (y 0).val + (y 1).val)
  /-- the two masks: nothing, and the diagonal block's -/
  m : ∀ y, v10.read (Elt Ideal) X10 y = if (y 0).val = 0 ∨ (y 1).val ≤ (y 2).val then 0 else ⊥
  /-- the queries' gates -/
  r : ∀ x, row x = C (4096 * b + (x 1).val)

variable {b : ℕ} {v3 : View sig' κ sp S4096x128 .bf16} {v4 : View sig' κ sp S8192x128 .bf16} {v8 : View sig' κ sp S16x144x512 .bf16}
    {v9 : View sig' κ sp S16x512x128 .f32} {v10 : View sig' κ sp S2x512x512 .f32} {row : FVec Ideal S1x4096 .f32}
    {X3 : v3.ty.Contents (Elt Ideal)} {X4 : v4.ty.Contents (Elt Ideal)} {X8 : v8.ty.Contents (Elt Ideal)} {X9 : v9.ty.Contents (Elt Ideal)}
    {X10 : v10.ty.Contents (Elt Ideal)} {Q K : ℕ → ℕ → EReal} {C : ℕ → EReal} {V : ℕ → ℕ → ℕ → EReal}

/-- A load of 512 rows of queries. -/
theorem Loaded.loadQ (D : Loaded b v3 v4 v8 v9 v10 row X3 X4 X8 X9 X10 Q K C V) (o : ℕ) (inb) (x : S512x128.Idx) :
    v3.readAt (Elt Ideal) (Rect.unit (s := S4096x128) ![o, 0] S512x128.size inb).toLoadRect X3 x = Q (4096 * b + o + (x 0).val) (x 1).val := by
  rw [View.readAt_apply, D.q]
  have e : ∀ a, ((Rect.unit (s := S4096x128) ![o, 0] S512x128.size inb).toLoadRect.idx x a).val = ![o, 0] a + (x a).val := unit_idx_val _ _ inb x
  rw [e 0, e 1, Nat.add_assoc]
  show Q _ (0 + (x 1).val) = _
  rw [Nat.zero_add]; rfl

/-- A load of the keys of block `j`. -/
theorem Loaded.loadK (D : Loaded b v3 v4 v8 v9 v10 row X3 X4 X8 X9 X10 Q K C V) {off : Fin 2 → ℕ} {inb} {j : ℕ} (ho : off = ![512 * j, 0]) (x : S512x128.Idx) :
    v4.readAt (Elt Ideal) (Rect.unit (s := S8192x128) off S512x128.size inb).toLoadRect X4 x = K (512 * j + (x 0).val) (x 1).val := by
  subst ho
  rw [View.readAt_apply, D.k]
  have e : ∀ a, ((Rect.unit (s := S8192x128) ![512 * j, 0] S512x128.size inb).toLoadRect.idx x a).val = ![512 * j, 0] a + (x a).val := unit_idx_val _ _ inb x
  rw [e 0, e 1]
  show K _ (0 + (x 1).val) = _
  rw [Nat.zero_add]; rfl

/-- A load of the transposed values of block `j`. -/
theorem Loaded.loadV (D : Loaded b v3 v4 v8 v9 v10 row X3 X4 X8 X9 X10 Q K C V) {off : Fin 3 → ℕ} {inb} {j : ℕ} (ho : off = ![j, 0, 0]) (x : S1x144x512.Idx) :
    v8.readAt (Elt Ideal) (Rect.unit (s := S16x144x512) off S1x144x512.size inb).toLoadRect X8 x = V j (x 1).val (x 2).val := by
  subst ho
  rw [View.readAt_apply, D.v]
  have e : ∀ a, ((Rect.unit (s := S16x144x512) ![j, 0, 0] S1x144x512.size inb).toLoadRect.idx x a).val = ![j, 0, 0] a + (x a).val := unit_idx_val _ _ inb x
  have x0 : (x 0).val < 1 := (x 0).isLt
  rw [e 0, e 1, e 2]
  show V (j + (x 0).val) (0 + (x 1).val) (0 + (x 2).val) = _
  rw [Nat.zero_add, Nat.zero_add, show j + (x 0).val = j by omega]

/-- A load of the gates of key block `j`. -/
theorem Loaded.loadG (D : Loaded b v3 v4 v8 v9 v10 row X3 X4 X8 X9 X10 Q K C V) {off : Fin 3 → ℕ} {inb} {j : ℕ} (ho : off = ![j, 0, 0]) (x : S1x512x128.Idx) :
    v9.readAt (Elt Ideal) (Rect.unit (s := S16x512x128) off S1x512x128.size inb).toLoadRect X9 x = C (512 * j + (x 1).val) := by
  subst ho
  rw [View.readAt_apply, D.g]
  have e : ∀ a, ((Rect.unit (s := S16x512x128) ![j, 0, 0] S1x512x128.size inb).toLoadRect.idx x a).val = ![j, 0, 0] a + (x a).val := unit_idx_val _ _ inb x
  have x0 : (x 0).val < 1 := (x 0).isLt
  rw [e 0, e 1]
  show C (512 * (j + (x 0).val) + (0 + (x 1).val)) = _
  rw [Nat.zero_add, show j + (x 0).val = j by omega]

/-- A load of mask `k`. -/
theorem Loaded.loadM (D : Loaded b v3 v4 v8 v9 v10 row X3 X4 X8 X9 X10 Q K C V) {off : Fin 3 → ℕ} {inb} {k : ℕ} (ho : off = ![k, 0, 0]) (x : S1x512x512.Idx) :
    v10.readAt (Elt Ideal) (Rect.unit (s := S2x512x512) off S1x512x512.size inb).toLoadRect X10 x = if k = 0 ∨ (x 1).val ≤ (x 2).val then 0 else ⊥ := by
  subst ho
  rw [View.readAt_apply, D.m]
  have e : ∀ a, ((Rect.unit (s := S2x512x512) ![k, 0, 0] S1x512x512.size inb).toLoadRect.idx x a).val = ![k, 0, 0] a + (x a).val := unit_idx_val _ _ inb x
  have x0 : (x 0).val < 1 := (x 0).isLt
  rw [e 0, e 1, e 2]
  show (if k + (x 0).val = 0 ∨ (0 + (x 1).val) ≤ (0 + (x 2).val) then (0 : EReal) else ⊥) = _
  rw [Nat.zero_add, Nat.zero_add, show k + (x 0).val = k by omega]

/-- The weights of key block `j` against the block row's queries. -/
def blockWeights (b : ℕ) (Q K : ℕ → ℕ → EReal) (C : ℕ → EReal) (j : ℕ) : ℕ → ℕ → EReal :=
  fun s τ => weight Q K C (512 * j + s) (4096 * b + τ)

/-- The accumulator of the block row after the first `n` key blocks. -/
def blockTotals (b : ℕ) (Q K : ℕ → ℕ → EReal) (C : ℕ → EReal) (V : ℕ → ℕ → ℕ → EReal) (n : ℕ) : ℕ → ℕ → EReal :=
  fun r τ => total Q K C V n r (4096 * b + τ)

/-- A part stored without a mask, its keys and queries loaded. -/
theorem Loaded.before (D : Loaded b v3 v4 v8 v9 v10 row X3 X4 X8 X9 X10 Q K C V) {o j : ℕ} {hs} {offk : Fin 2 → ℕ} {offc : Fin 3 → ℕ} {ik iq ic}
    (hk : offk = ![512 * j, 0]) (hc : offc = ![j, 0, 0]) (hj : 512 * j + 512 ≤ 4096 * b + o + 1) (x : S1x512x512.Idx) :
    partStored (partScores o hs (v4.readAt (Elt Ideal) (Rect.unit (s := S8192x128) offk S512x128.size ik).toLoadRect X4)
      (v3.readAt (Elt Ideal) (Rect.unit (s := S4096x128) ![o, 0] S512x128.size iq).toLoadRect X3) row
      (spread (v9.readAt (Elt Ideal) (Rect.unit (s := S16x512x128) offc S1x512x128.size ic).toLoadRect X9))) x = blockWeights b Q K C j (x 1).val (o + (x 2).val) :=
  part_before o hs _ _ row _ (D.loadK hk) (D.loadQ o iq) D.r (spread_apply _ (fun s => C (512 * j + s)) (D.loadG hc)) hj x

/-- A part stored under a mask, its keys and queries loaded: the mask is the diagonal's exactly where the block is the part's own. -/
theorem Loaded.masked (D : Loaded b v3 v4 v8 v9 v10 row X3 X4 X8 X9 X10 Q K C V) {o j k : ℕ} {hs} {offk : Fin 2 → ℕ} {offc offm : Fin 3 → ℕ} {ik iq ic im}
    (hk : offk = ![512 * j, 0]) (hc : offc = ![j, 0, 0]) (hm : offm = ![k, 0, 0]) (h0 : k = 0 → 512 * j + 512 ≤ 4096 * b + o + 1) (h1 : k ≠ 0 → 512 * j = 4096 * b + o)
    (x : S1x512x512.Idx) :
    partStored (addf (partScores o hs (v4.readAt (Elt Ideal) (Rect.unit (s := S8192x128) offk S512x128.size ik).toLoadRect X4)
      (v3.readAt (Elt Ideal) (Rect.unit (s := S4096x128) ![o, 0] S512x128.size iq).toLoadRect X3) row
      (spread (v9.readAt (Elt Ideal) (Rect.unit (s := S16x512x128) offc S1x512x128.size ic).toLoadRect X9)))
      (shapeCast S512x512 (v10.readAt (Elt Ideal) (Rect.unit (s := S2x512x512) offm S1x512x512.size im).toLoadRect X10) shapeCasts_S1x512x512_S512x512)) x
      = blockWeights b Q K C j (x 1).val (o + (x 2).val) :=
  part_masked o hs _ _ row _ _ (D.loadK hk) (D.loadQ o iq) D.r (spread_apply _ (fun s => C (512 * j + s)) (D.loadG hc)) (fun x => by
    have h1' : (x 1).val < 512 := (x 1).isLt
    rw [D.loadM hm]
    refine if_congr ?_ rfl rfl
    by_cases hk0 : k = 0
    · have := h0 hk0; omega
    · have := h1 hk0; omega) x

/-- Columns of the accumulator stored back with key block `j` added. -/
theorem Loaded.acc (D : Loaded b v3 v4 v8 v9 v10 row X3 X4 X8 X9 X10 Q K C V) {w o j : ℕ} {h1 h2} {a : FVec Ideal ⟨2, ![144, w]⟩ .f32} {p : FVec Ideal ⟨3, ![1, 512, w]⟩ .bf16}
    {off : Fin 3 → ℕ} {iv} (ho : off = ![j, 0, 0]) (ha : ∀ x, a x = blockTotals b Q K C V j (x 0).val (o + (x 1).val))
    (hp : ∀ x, p x = blockWeights b Q K C j (x 1).val (o + (x 2).val)) (x : (⟨2, ![144, w]⟩ : Shape).Idx) :
    accStored w h1 h2 a (v8.readAt (Elt Ideal) (Rect.unit (s := S16x144x512) off S1x144x512.size iv).toLoadRect X8) p x
      = blockTotals b Q K C V (j + 1) (x 0).val (o + (x 1).val) :=
  accStored_apply w h1 h2 a _ p ha (D.loadV ho) hp x

end Loaded

end Cert.KernelIdeal.Flash
-- ==== Proof.Trip.lean ====
module

public import proofs.«01_k».proof.Proof.Contents
public import proofs.«01_k».proof.Proof.Gen.KernelIdeal.Loops

@[expose] public section

set_option maxRecDepth 16384
set_option maxHeartbeats 4000000

noncomputable section

namespace Cert.KernelIdeal.Flash

open Cert.KernelIdeal Cert.KernelIdeal.Gen
open Idealize.ShloMosaic

/-- The first loop makes two trips per block row before the present one. -/
theorem trips_first : ∀ i : grid0.Coords, (k0_t1_loop i).trips = 2 * (i 2).val := by decide +kernel

/-- One trip of the first loop: slot 0 and the accumulator go from key block `4 k` to key block `4 k + 4`. -/
theorem trip_holds (𝒱 : Variants) (c : Dev nD) (bd : Option 𝒱.V) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v3 : BitVec 32) (v36 : FVec Ideal S1x4096 .f32) (v164 : FVec Ideal S512x512 .f32) (v167 : Vec Ideal S512x128 .bf16) (X_arg3 : BufTy.Contents (Elt Ideal) arg3.view.ty) (X_arg4 : BufTy.Contents (Elt Ideal) arg4.view.ty) (X_arg8 : BufTy.Contents (Elt Ideal) arg8.view.ty) (X_arg9 : BufTy.Contents (Elt Ideal) arg9.view.ty) (X_arg10 : BufTy.Contents (Elt Ideal) arg10.view.ty) (k : Fin (k0_t1_loop i).trips) (acc : BitVec 32) (f11 : BufTy.Contents (Elt Ideal) arg11.view.ty) (f12 : BufTy.Contents (Elt Ideal) arg12.view.ty)
    (h11 : BufTy.Contents (Elt Ideal) arg11.view.ty) (h12 : BufTy.Contents (Elt Ideal) arg12.view.ty) {Q K : ℕ → ℕ → EReal} {C : ℕ → EReal} {V : ℕ → ℕ → ℕ → EReal} (D : Loaded (i 2).val arg3.view arg4.view arg8.view arg9.view arg10.view v36 X_arg3 X_arg4 X_arg8 X_arg9 X_arg10 Q K C V)
    (hP : SlotHolds arg11.view f11 0 0 4096 (blockWeights (i 2).val Q K C (4 * k.val))) (hA : AccHolds arg12.view f12 0 4096 (blockTotals (i 2).val Q K C V (4 * k.val))) :
    SlotHolds arg11.view (arg11.view.writes (Elt Ideal) h11 (tripL_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 k acc f11 f12).1) 0 0 4096 (blockWeights (i 2).val Q K C (4 * k.val + 4))
      ∧ AccHolds arg12.view (arg12.view.writes (Elt Ideal) h12 (tripL_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 k acc f11 f12).2) 0 4096 (blockTotals (i 2).val Q K C V (4 * k.val + 4)) := by
  have hk : k.val < 2 * (i 2).val := lt_of_lt_of_eq k.isLt (trips_first i)
  have v0 : k0_off3 i k = ![4 * k.val, 0, 0] := k0_off3_eq i k
  have c1 : k0_off4 i k 1#32 = ![4 * k.val + 1, 0, 0] := k0_off4_eq i k 0
  have c2 : k0_off4 i k 2#32 = ![4 * k.val + 2, 0, 0] := k0_off4_eq i k 1
  have k1 : k0_off5 i k 1#32 = ![512 * (4 * k.val + 1), 0] := (k0_off5_eq i k 0).trans (congrArg (fun n => ![n, 0]) (show 2048 * k.val + 512 * 0 + 512 = _ by omega))
  have k2 : k0_off5 i k 2#32 = ![512 * (4 * k.val + 2), 0] := (k0_off5_eq i k 1).trans (congrArg (fun n => ![n, 0]) (show 2048 * k.val + 512 * 1 + 512 = _ by omega))
  have v1 : k0_off6 i k 1#32 = ![4 * k.val + 1, 0, 0] := k0_off6_eq i k 0
  have v2 : k0_off6 i k 2#32 = ![4 * k.val + 2, 0, 0] := k0_off6_eq i k 1
  have c3 : k0_off8 i k 1#32 = ![4 * k.val + 3, 0, 0] := k0_off8_eq i k 0
  have c4 : k0_off8 i k 2#32 = ![4 * k.val + 4, 0, 0] := k0_off8_eq i k 1
  have k3 : k0_off9 i k 1#32 = ![512 * (4 * k.val + 3), 0] := (k0_off9_eq i k 0).trans (congrArg (fun n => ![n, 0]) (show 2048 * k.val + 512 * 0 + 1536 = _ by omega))
  have k4 : k0_off9 i k 2#32 = ![512 * (4 * k.val + 4), 0] := (k0_off9_eq i k 1).trans (congrArg (fun n => ![n, 0]) (show 2048 * k.val + 512 * 1 + 1536 = _ by omega))
  have v3' : k0_off10 i k = ![4 * k.val + 3, 0, 0] := k0_off10_eq i k
  have m2 := k0_off7_eq i k
  have m4 := k0_off11_eq i k
  have h2a : (if 4 * k.val + 2 = 8 * (i 2).val then 1 else 0) = 0 → 512 * (4 * k.val + 2) + 512 ≤ 4096 * (i 2).val + 0 + 1 := by split <;> omega
  have h2b : (if 4 * k.val + 2 = 8 * (i 2).val then 1 else 0) ≠ 0 → 512 * (4 * k.val + 2) = 4096 * (i 2).val + 0 := by split <;> omega
  have h4a : (if 4 * k.val + 4 = 8 * (i 2).val then 1 else 0) = 0 → 512 * (4 * k.val + 4) + 512 ≤ 4096 * (i 2).val + 0 + 1 := by split <;> omega
  have h4b : (if 4 * k.val + 4 = 8 * (i 2).val then 1 else 0) ≠ 0 → 512 * (4 * k.val + 4) = 4096 * (i 2).val + 0 := by split <;> omega
  unfold tripL_k0_t1 trip_k0_t1
  dsimp only
  refine ⟨?_, ?_⟩
  · iterate 7 refine SlotHolds.part (D.before k4 c4 (by omega)) ?_
    exact SlotHolds.part (D.masked k4 c4 m4 h4a h4b) SlotHolds.none
  · refine AccHolds.join (mid := 2048) (AccHolds.miss (Or.inl le_rfl) (AccHolds.hit (D.acc v3' (AccHolds.load ?a3 le_rfl le_rfl) (SlotHolds.load (hi := 4096) ?p3 le_rfl (by norm_num)))))
      (AccHolds.hit (D.acc v3' (AccHolds.load (AccHolds.miss (Or.inr le_rfl) ?b3) le_rfl le_rfl) (SlotHolds.load ?q3 (Nat.zero_le _) le_rfl)))
    case p3 =>
      iterate 8 refine SlotHolds.part (D.before k3 c3 (by omega)) ?_
      exact SlotHolds.none
    case q3 =>
      iterate 8 refine SlotHolds.part (D.before k3 c3 (by omega)) ?_
      exact SlotHolds.none
    case a3 =>
      refine AccHolds.miss (Or.inl le_rfl) (AccHolds.hit (D.acc v2 (AccHolds.load ?a2 le_rfl le_rfl) (SlotHolds.load (hi := 4096) ?p2 le_rfl (by norm_num))))
      case p2 =>
        iterate 7 refine SlotHolds.part (D.before k2 c2 (by omega)) ?_
        exact SlotHolds.part (D.masked k2 c2 m2 h2a h2b) SlotHolds.none
      case a2 =>
        refine AccHolds.miss (Or.inl le_rfl) (AccHolds.hit (D.acc v1 (AccHolds.load ?a1 le_rfl le_rfl) (SlotHolds.load (hi := 4096) ?p1 le_rfl (by norm_num))))
        case p1 =>
          iterate 8 refine SlotHolds.part (D.before k1 c1 (by omega)) ?_
          exact SlotHolds.none
        case a1 =>
          exact AccHolds.miss (Or.inl le_rfl) (AccHolds.hit (D.acc v0 (AccHolds.load hA le_rfl (by norm_num)) (SlotHolds.load hP le_rfl (by norm_num))))
    case b3 =>
      refine AccHolds.hit (D.acc v2 (AccHolds.load (AccHolds.miss (Or.inr le_rfl) ?b2) le_rfl le_rfl) (SlotHolds.load ?q2 (Nat.zero_le _) le_rfl))
      case q2 =>
        iterate 7 refine SlotHolds.part (D.before k2 c2 (by omega)) ?_
        exact SlotHolds.part (D.masked k2 c2 m2 h2a h2b) SlotHolds.none
      case b2 =>
        refine AccHolds.hit (D.acc v1 (AccHolds.load (AccHolds.miss (Or.inr le_rfl) ?b1) le_rfl le_rfl) (SlotHolds.load ?q1 (Nat.zero_le _) le_rfl))
        case q1 =>
          iterate 8 refine SlotHolds.part (D.before k1 c1 (by omega)) ?_
          exact SlotHolds.none
        case b1 =>
          exact AccHolds.hit (D.acc v0 (AccHolds.load hA (Nat.zero_le _) le_rfl) (SlotHolds.load hP (Nat.zero_le _) le_rfl))

/-- The first loop over any contents: before trip `n` slot 0 holds the weights of key block `4 n` and the accumulator the totals of the blocks before it. -/
theorem first_loop (𝒱 : Variants) (c : Dev nD) (bd : Option 𝒱.V) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v3 : BitVec 32) (v36 : FVec Ideal S1x4096 .f32) (v164 : FVec Ideal S512x512 .f32) (v167 : Vec Ideal S512x128 .bf16) (X_arg3 : BufTy.Contents (Elt Ideal) arg3.view.ty) (X_arg4 : BufTy.Contents (Elt Ideal) arg4.view.ty) (X_arg8 : BufTy.Contents (Elt Ideal) arg8.view.ty) (X_arg9 : BufTy.Contents (Elt Ideal) arg9.view.ty) (X_arg10 : BufTy.Contents (Elt Ideal) arg10.view.ty) (init : BitVec 32) (f11 : BufTy.Contents (Elt Ideal) arg11.view.ty) (f12 : BufTy.Contents (Elt Ideal) arg12.view.ty)
    (h11 : BufTy.Contents (Elt Ideal) arg11.view.ty) (h12 : BufTy.Contents (Elt Ideal) arg12.view.ty) {Q K : ℕ → ℕ → EReal} {C : ℕ → EReal} {V : ℕ → ℕ → ℕ → EReal} (D : Loaded (i 2).val arg3.view arg4.view arg8.view arg9.view arg10.view v36 X_arg3 X_arg4 X_arg8 X_arg9 X_arg10 Q K C V)
    (hP : SlotHolds arg11.view f11 0 0 4096 (blockWeights (i 2).val Q K C (0))) (hA : AccHolds arg12.view f12 0 4096 (blockTotals (i 2).val Q K C V (0)))
    (hP' : SlotHolds arg11.view h11 0 0 4096 (blockWeights (i 2).val Q K C (0))) (hA' : AccHolds arg12.view h12 0 4096 (blockTotals (i 2).val Q K C V (0))) :
    ∀ n ≤ (k0_t1_loop i).trips,
      (SlotHolds arg11.view (arg11.view.writes (Elt Ideal) f11 (st_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 f11 f12 init n).2.1) 0 0 4096 (blockWeights (i 2).val Q K C (4 * n))
        ∧ AccHolds arg12.view (arg12.view.writes (Elt Ideal) f12 (st_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 f11 f12 init n).2.2) 0 4096 (blockTotals (i 2).val Q K C V (4 * n)))
      ∧ SlotHolds arg11.view (arg11.view.writes (Elt Ideal) h11 (st_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 f11 f12 init n).2.1) 0 0 4096 (blockWeights (i 2).val Q K C (4 * n))
        ∧ AccHolds arg12.view (arg12.view.writes (Elt Ideal) h12 (st_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 f11 f12 init n).2.2) 0 4096 (blockTotals (i 2).val Q K C V (4 * n)) := by
  intro n
  induction n with
  | zero => exact fun _ => ⟨⟨hP, hA⟩, hP', hA'⟩
  | succ n ih =>
    intro hn
    obtain ⟨⟨p, a⟩, -⟩ := ih (Nat.le_of_succ_le hn)
    have e := st_k0_t1_succ (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 f11 f12 init ⟨n, hn⟩
    dsimp only at e
    rw [e]
    dsimp only
    rw [View.writes_append, View.writes_append, View.writes_append, View.writes_append]
    exact ⟨trip_holds 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 ⟨n, hn⟩ _ _ _ _ _ D p a, trip_holds 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 ⟨n, hn⟩ _ _ _ _ _ D p a⟩

/-- The second loop, over the blocks left by fours, makes no trip. -/
theorem trips_second : ∀ i : grid0.Coords, (k0_t2_loop i).trips = 0 := by decide +kernel

/-- Both loops, over pieces `B11` and `B12` that put the weights of key block 0 in slot 0 and zero in the accumulator. -/
theorem loops_hold (𝒱 : Variants) (c : Dev nD) (bd : Option 𝒱.V) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v3 : BitVec 32) (v36 : FVec Ideal S1x4096 .f32) (v164 : FVec Ideal S512x512 .f32) (v167 : Vec Ideal S512x128 .bf16) (X_arg3 : BufTy.Contents (Elt Ideal) arg3.view.ty) (X_arg4 : BufTy.Contents (Elt Ideal) arg4.view.ty) (X_arg8 : BufTy.Contents (Elt Ideal) arg8.view.ty) (X_arg9 : BufTy.Contents (Elt Ideal) arg9.view.ty) (X_arg10 : BufTy.Contents (Elt Ideal) arg10.view.ty) (v204 v205 : BitVec 32) (init init2 : BitVec 32) (f11 g11 h11 : BufTy.Contents (Elt Ideal) arg11.view.ty) (f12 g12 h12 : BufTy.Contents (Elt Ideal) arg12.view.ty)
    {B11 : List (View.Piece (Elt Ideal) S2x512x4096 .bf16)} {B12 : List (View.Piece (Elt Ideal) S144x4096 .f32)}
    {Q K : ℕ → ℕ → EReal} {C : ℕ → EReal} {V : ℕ → ℕ → ℕ → EReal} (D : Loaded (i 2).val arg3.view arg4.view arg8.view arg9.view arg10.view v36 X_arg3 X_arg4 X_arg8 X_arg9 X_arg10 Q K C V)
    (hP : ∀ f, SlotHolds arg11.view (arg11.view.writes (Elt Ideal) f B11) 0 0 4096 (blockWeights (i 2).val Q K C (0)))
    (hA : ∀ f, AccHolds arg12.view (arg12.view.writes (Elt Ideal) f B12) 0 4096 (blockTotals (i 2).val Q K C V (0))) :
    SlotHolds arg11.view (arg11.view.writes (Elt Ideal) h11 ((st_k0_t2 (F := Ideal) 𝒱 c bd i arg3 harg3 arg4 harg4 arg5 harg5 arg6 harg6 arg7 harg7 arg8 harg8 arg9 harg9 arg10 harg10 arg11 harg11 arg12 harg12 v3 v36 v204 init2 v205 X_arg3 X_arg4 X_arg8 X_arg9 X_arg10 g11 g12 init2 (k0_t2_loop i).trips).2.1
        ++ ((st_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 (arg11.view.writes (Elt Ideal) f11 B11) (arg12.view.writes (Elt Ideal) f12 B12) init (k0_t1_loop i).trips).2.1 ++ B11))) 0 0 4096 (blockWeights (i 2).val Q K C (8 * (i 2).val))
    ∧ AccHolds arg12.view (arg12.view.writes (Elt Ideal) h12 ((st_k0_t2 (F := Ideal) 𝒱 c bd i arg3 harg3 arg4 harg4 arg5 harg5 arg6 harg6 arg7 harg7 arg8 harg8 arg9 harg9 arg10 harg10 arg11 harg11 arg12 harg12 v3 v36 v204 init2 v205 X_arg3 X_arg4 X_arg8 X_arg9 X_arg10 g11 g12 init2 (k0_t2_loop i).trips).2.2
        ++ ((st_k0_t1 (F := Ideal) 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 (arg11.view.writes (Elt Ideal) f11 B11) (arg12.view.writes (Elt Ideal) f12 B12) init (k0_t1_loop i).trips).2.2 ++ B12))) 0 4096 (blockTotals (i 2).val Q K C V (8 * (i 2).val)) := by
  have h := (first_loop 𝒱 c bd i arg3 harg3 arg4 harg4 arg5 harg5 arg6 harg6 arg7 harg7 arg8 harg8 arg9 harg9 arg10 harg10 arg11 harg11 arg12 harg12 v3 v36 v164 v167 X_arg3 X_arg4 X_arg8 X_arg9 X_arg10 init _ _ (arg11.view.writes (Elt Ideal) h11 B11) (arg12.view.writes (Elt Ideal) h12 B12) D (hP f11) (hA f12) (hP _) (hA _) _ le_rfl).2
  have e : 4 * (k0_t1_loop i).trips = 8 * (i 2).val := by rw [trips_first]; omega
  rw [e] at h
  rw [trips_second, st_k0_t2, List.nil_append, List.nil_append, View.writes_append, View.writes_append]
  exact h

end Cert.KernelIdeal.Flash
-- ==== Proof.Body.lean ====
module

public import proofs.«01_k».proof.Proof.Trip
public import proofs.«01_k».proof.Proof.Run

@[expose] public section

set_option maxRecDepth 16384
set_option maxHeartbeats 4000000

noncomputable section

namespace Cert.KernelIdeal.Flash

open Cert.KernelIdeal Cert.KernelIdeal.Gen
open Idealize.ShloMosaic

/-- One diagonal step of the accumulator: the columns stored move on by one key block, and the columns before them get nothing from it. -/
theorem AccHolds.step {sig' : RefSig} {κ : Kind} {sp : Space} {v : View sig' κ sp S144x4096 .f32} {f : v.ty.Contents (Elt Ideal)}
    {L : List (View.Piece (Elt Ideal) S144x4096 .f32)} {b j o w : ℕ} {Q K : ℕ → ℕ → EReal} {C : ℕ → EReal} {V : ℕ → ℕ → ℕ → EReal} {inb} {p : FVec Ideal ⟨2, ![144, w]⟩ .f32}
    (hp : ∀ x, p x = blockTotals b Q K C V (j + 1) (x 0).val (o + (x 1).val)) (hw : o + w = 4096) (hj : 4096 * b + o ≤ 512 * j)
    (h : AccHolds v (v.writes (Elt Ideal) f L) 0 4096 (blockTotals b Q K C V j)) :
    AccHolds v (v.writes (Elt Ideal) f (⟨Rect.unit (s := S144x4096) ![0, o] (⟨2, ![144, w]⟩ : Shape).size inb, p⟩ :: L)) 0 4096 (blockTotals b Q K C V (j + 1)) := by
  refine AccHolds.join (mid := o) (AccHolds.miss (Or.inl le_rfl) ((h.mono le_rfl (by omega)).congr ?_)) (hw ▸ AccHolds.hit hp)
  intro r t _ ht
  show total Q K C V j r _ = total Q K C V j r _ + gain Q K C V j r _
  rw [gain_of_lt Q K C V j r _ (by omega), add_zero]

/-- The last division, read at an index. -/
theorem final_apply (a : Vec Ideal S144x4096 .f32) (x : S4096x128.Idx) :
    k0_pay1 (k0_pay316 a) x = Ideal.div (a (ix2 (n0 := 144) (n1 := 4096) ⟨(x 1).val, (show (x 1).val < 128 from (x 1).isLt).trans (by norm_num)⟩ (x 0))) (a (ix2 (n0 := 144) (n1 := 4096) ⟨128, by norm_num⟩ (x 0))) := by
  unfold k0_pay1 k0_pay316
  pointwise

section Body

/-- The accumulator after the loops and the first block of the diagonal. -/
theorem after_zero (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_2 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 1)) := by
  have v0 := k0_off21_eq i
  have m0 := k0_off2_eq i
  have h0 : (if (i 2).val = 0 then 1 else 0) = 0 → 512 * 0 + 512 ≤ 4096 * (i 2).val + 0 + 1 := by split <;> omega
  have h1 : (if (i 2).val = 0 then 1 else 0) ≠ 0 → 512 * 0 = 4096 * (i 2).val + 0 := by split <;> omega
  have z : ∀ x, k0_pay264 (F := Ideal) x = 0 := fun x => by
    unfold k0_pay264
    pointwise
  delta bodyRun.sl.H12_2 bodyRun.sl.H12_1_1
  refine AccHolds.join (mid := 2048) (AccHolds.miss (Or.inl le_rfl) (AccHolds.hit (D.acc v0 (AccHolds.load (hi := 4096) ?a1 le_rfl (by norm_num)) (SlotHolds.load (hi := 4096) ?p1 le_rfl (by norm_num)))))
    (AccHolds.hit (D.acc v0 (AccHolds.load (hi := 4096) (AccHolds.miss (Or.inr le_rfl) (AccHolds.mono (lo := 0) ?a2 (Nat.zero_le _) le_rfl)) le_rfl le_rfl) (SlotHolds.load (lo := 0) ?p2 (Nat.zero_le _) le_rfl)))
  case a1 =>
    refine (loops_hold _ c _ i arg3 harg3 arg4 harg4 arg5 harg5 arg6 harg6 arg7 harg7 arg8 harg8 arg9 harg9 arg10 harg10 arg11 harg11 arg12 harg12 _ _ _ _ X3 X4 X8 X9 X10 _ _ _ _ _ _ f11 _ _ _ D ?_ ?_).2
    · intro f
      iterate 7 refine SlotHolds.part (D.before (j := 0) rfl rfl (by omega)) ?_
      exact SlotHolds.part (D.masked (j := 0) rfl rfl m0 h0 h1) SlotHolds.none
    · exact fun f => AccHolds.hit (o := 0) (w := 4096) fun x => z x
  case p1 =>
    refine (loops_hold _ c _ i arg3 harg3 arg4 harg4 arg5 harg5 arg6 harg6 arg7 harg7 arg8 harg8 arg9 harg9 arg10 harg10 arg11 harg11 arg12 harg12 _ _ _ _ X3 X4 X8 X9 X10 _ _ _ _ _ _ _ _ _ arg12.view.junk D ?_ ?_).1
    · intro f
      iterate 7 refine SlotHolds.part (D.before (j := 0) rfl rfl (by omega)) ?_
      exact SlotHolds.part (D.masked (j := 0) rfl rfl m0 h0 h1) SlotHolds.none
    · exact fun f => AccHolds.hit (o := 0) (w := 4096) fun x => z x
  case a2 =>
    refine (loops_hold _ c _ i arg3 harg3 arg4 harg4 arg5 harg5 arg6 harg6 arg7 harg7 arg8 harg8 arg9 harg9 arg10 harg10 arg11 harg11 arg12 harg12 _ _ _ _ X3 X4 X8 X9 X10 _ _ _ _ _ _ f11 _ _ _ D ?_ ?_).2
    · intro f
      iterate 7 refine SlotHolds.part (D.before (j := 0) rfl rfl (by omega)) ?_
      exact SlotHolds.part (D.masked (j := 0) rfl rfl m0 h0 h1) SlotHolds.none
    · exact fun f => AccHolds.hit (o := 0) (w := 4096) fun x => z x
  case p2 =>
    refine (loops_hold _ c _ i arg3 harg3 arg4 harg4 arg5 harg5 arg6 harg6 arg7 harg7 arg8 harg8 arg9 harg9 arg10 harg10 arg11 harg11 arg12 harg12 _ _ _ _ X3 X4 X8 X9 X10 _ _ _ _ _ _ _ _ _ arg12.view.junk D ?_ ?_).1
    · intro f
      iterate 7 refine SlotHolds.part (D.before (j := 0) rfl rfl (by omega)) ?_
      exact SlotHolds.part (D.masked (j := 0) rfl rfl m0 h0 h1) SlotHolds.none
    · exact fun f => AccHolds.hit (o := 0) (w := 4096) fun x => z x

/-- The accumulator after block 1 of the diagonal. -/
theorem after_one (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_3 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 2)) := by
  have k := (k0_off23_eq i 0).trans (congrArg (fun n => ![n, 0]) (show 4096 * (i 2).val + 512 * 0 + 512 = 512 * (8 * (i 2).val + 1) by omega))
  have c0 : k0_off22 i 1#32 = ![8 * (i 2).val + 1, 0, 0] := k0_off22_eq i 0
  have v : k0_off24 i 1#32 = ![8 * (i 2).val + 1, 0, 0] := k0_off24_eq i 0
  have h := after_zero c i arg3 harg3 arg4 harg4 arg5 harg5 arg6 harg6 arg7 harg7 arg8 harg8 arg9 harg9 arg10 harg10 arg11 harg11 arg12 harg12 v7 v11 v15 v19 v23 v27 X3 X4 X6 X8 X9 X10 f11 D
  delta bodyRun.sl.H12_3
  refine AccHolds.step (D.acc v (AccHolds.load h (by norm_num) le_rfl) (SlotHolds.load (lo := 512) ?_ le_rfl le_rfl)) (by norm_num) (by omega) h
  iterate 6 refine SlotHolds.part (D.before k c0 (by omega)) ?_
  exact SlotHolds.part (D.masked (k := 1) k c0 rfl (by omega) (fun _ => by omega)) SlotHolds.none

/-- The accumulator after block 2 of the diagonal. -/
theorem after_two (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_4 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 3)) := by
  have k := (k0_off23_eq i 1).trans (congrArg (fun n => ![n, 0]) (show 4096 * (i 2).val + 512 * 1 + 512 = 512 * (8 * (i 2).val + 2) by omega))
  have c0 : k0_off22 i 2#32 = ![8 * (i 2).val + 2, 0, 0] := k0_off22_eq i 1
  have v : k0_off24 i 2#32 = ![8 * (i 2).val + 2, 0, 0] := k0_off24_eq i 1
  have h := after_one c i arg3 harg3 arg4 harg4 arg5 harg5 arg6 harg6 arg7 harg7 arg8 harg8 arg9 harg9 arg10 harg10 arg11 harg11 arg12 harg12 v7 v11 v15 v19 v23 v27 X3 X4 X6 X8 X9 X10 f11 D
  delta bodyRun.sl.H12_4
  refine AccHolds.step (D.acc v (AccHolds.load h (by norm_num) le_rfl) (SlotHolds.load (lo := 1024) ?_ le_rfl le_rfl)) (by norm_num) (by omega) h
  iterate 5 refine SlotHolds.part (D.before k c0 (by omega)) ?_
  exact SlotHolds.part (D.masked (k := 1) k c0 rfl (by omega) (fun _ => by omega)) SlotHolds.none

/-- The accumulator after block 3 of the diagonal. -/
theorem after_three (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_5 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 4)) := by
  have k := (k0_off23_eq i 2).trans (congrArg (fun n => ![n, 0]) (show 4096 * (i 2).val + 512 * 2 + 512 = 512 * (8 * (i 2).val + 3) by omega))
  have c0 : k0_off22 i 3#32 = ![8 * (i 2).val + 3, 0, 0] := k0_off22_eq i 2
  have v : k0_off24 i 3#32 = ![8 * (i 2).val + 3, 0, 0] := k0_off24_eq i 2
  have h := after_two c i arg3 harg3 arg4 harg4 arg5 harg5 arg6 harg6 arg7 harg7 arg8 harg8 arg9 harg9 arg10 harg10 arg11 harg11 arg12 harg12 v7 v11 v15 v19 v23 v27 X3 X4 X6 X8 X9 X10 f11 D
  delta bodyRun.sl.H12_5
  refine AccHolds.step (D.acc v (AccHolds.load h (by norm_num) le_rfl) (SlotHolds.load (lo := 1536) ?_ le_rfl le_rfl)) (by norm_num) (by omega) h
  iterate 4 refine SlotHolds.part (D.before k c0 (by omega)) ?_
  exact SlotHolds.part (D.masked (k := 1) k c0 rfl (by omega) (fun _ => by omega)) SlotHolds.none

/-- The accumulator after block 4 of the diagonal. -/
theorem after_four (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_6 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 5)) := by
  have k := (k0_off23_eq i 3).trans (congrArg (fun n => ![n, 0]) (show 4096 * (i 2).val + 512 * 3 + 512 = 512 * (8 * (i 2).val + 4) by omega))
  have c0 : k0_off22 i 4#32 = ![8 * (i 2).val + 4, 0, 0] := k0_off22_eq i 3
  have v : k0_off24 i 4#32 = ![8 * (i 2).val + 4, 0, 0] := k0_off24_eq i 3
  have h := after_three c i arg3 harg3 arg4 harg4 arg5 harg5 arg6 harg6 arg7 harg7 arg8 harg8 arg9 harg9 arg10 harg10 arg11 harg11 arg12 harg12 v7 v11 v15 v19 v23 v27 X3 X4 X6 X8 X9 X10 f11 D
  delta bodyRun.sl.H12_6
  refine AccHolds.step (D.acc v (AccHolds.load h (by norm_num) le_rfl) (SlotHolds.load (lo := 2048) ?_ le_rfl le_rfl)) (by norm_num) (by omega) h
  iterate 3 refine SlotHolds.part (D.before k c0 (by omega)) ?_
  exact SlotHolds.part (D.masked (k := 1) k c0 rfl (by omega) (fun _ => by omega)) SlotHolds.none

/-- The accumulator after block 5 of the diagonal. -/
theorem after_five (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_7 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 6)) := by
  have k := (k0_off23_eq i 4).trans (congrArg (fun n => ![n, 0]) (show 4096 * (i 2).val + 512 * 4 + 512 = 512 * (8 * (i 2).val + 5) by omega))
  have c0 : k0_off22 i 5#32 = ![8 * (i 2).val + 5, 0, 0] := k0_off22_eq i 4
  have v : k0_off24 i 5#32 = ![8 * (i 2).val + 5, 0, 0] := k0_off24_eq i 4
  have h := after_four c i arg3 harg3 arg4 harg4 arg5 harg5 arg6 harg6 arg7 harg7 arg8 harg8 arg9 harg9 arg10 harg10 arg11 harg11 arg12 harg12 v7 v11 v15 v19 v23 v27 X3 X4 X6 X8 X9 X10 f11 D
  delta bodyRun.sl.H12_7
  refine AccHolds.step (D.acc v (AccHolds.load h (by norm_num) le_rfl) (SlotHolds.load (lo := 2560) ?_ le_rfl le_rfl)) (by norm_num) (by omega) h
  iterate 2 refine SlotHolds.part (D.before k c0 (by omega)) ?_
  exact SlotHolds.part (D.masked (k := 1) k c0 rfl (by omega) (fun _ => by omega)) SlotHolds.none

/-- The accumulator after block 6 of the diagonal. -/
theorem after_six (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_8 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 7)) := by
  have k := (k0_off23_eq i 5).trans (congrArg (fun n => ![n, 0]) (show 4096 * (i 2).val + 512 * 5 + 512 = 512 * (8 * (i 2).val + 6) by omega))
  have c0 : k0_off22 i 6#32 = ![8 * (i 2).val + 6, 0, 0] := k0_off22_eq i 5
  have v : k0_off24 i 6#32 = ![8 * (i 2).val + 6, 0, 0] := k0_off24_eq i 5
  have h := after_five c i arg3 harg3 arg4 harg4 arg5 harg5 arg6 harg6 arg7 harg7 arg8 harg8 arg9 harg9 arg10 harg10 arg11 harg11 arg12 harg12 v7 v11 v15 v19 v23 v27 X3 X4 X6 X8 X9 X10 f11 D
  delta bodyRun.sl.H12_8
  refine AccHolds.step (D.acc v (AccHolds.load h (by norm_num) le_rfl) (SlotHolds.load (lo := 3072) ?_ le_rfl le_rfl)) (by norm_num) (by omega) h
  iterate 1 refine SlotHolds.part (D.before k c0 (by omega)) ?_
  exact SlotHolds.part (D.masked (k := 1) k c0 rfl (by omega) (fun _ => by omega)) SlotHolds.none

/-- The accumulator after block 7 of the diagonal. -/
theorem after_seven (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) :
    AccHolds arg12.view (arg12.view.writes (Elt Ideal) arg12.view.junk (bodyRun.sl.H12_9 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11)) 0 4096 (blockTotals (i 2).val Q K C V (8 * (i 2).val + 8)) := by
  have k := (k0_off23_eq i 6).trans (congrArg (fun n => ![n, 0]) (show 4096 * (i 2).val + 512 * 6 + 512 = 512 * (8 * (i 2).val + 7) by omega))
  have c0 : k0_off22 i 7#32 = ![8 * (i 2).val + 7, 0, 0] := k0_off22_eq i 6
  have v : k0_off24 i 7#32 = ![8 * (i 2).val + 7, 0, 0] := k0_off24_eq i 6
  have h := after_six c i arg3 harg3 arg4 harg4 arg5 harg5 arg6 harg6 arg7 harg7 arg8 harg8 arg9 harg9 arg10 harg10 arg11 harg11 arg12 harg12 v7 v11 v15 v19 v23 v27 X3 X4 X6 X8 X9 X10 f11 D
  delta bodyRun.sl.H12_9
  refine AccHolds.step (D.acc v (AccHolds.load h (by norm_num) le_rfl) (SlotHolds.load (lo := 3584) ?_ le_rfl le_rfl)) (by norm_num) (by omega) h
  exact SlotHolds.part (D.masked (k := 1) k c0 rfl (by omega) (fun _ => by omega)) SlotHolds.none

/-- One grid point's output: the totals of the values over the total of the weights. -/
theorem body_holds (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (v7 v11 v15 v19 v23 v27 : FVec Ideal S1x512 .f32) (X3 : BufTy.Contents (Elt Ideal) arg3.view.ty) (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (f11 : BufTy.Contents (Elt Ideal) arg11.view.ty) (X5 : BufTy.Contents (Elt Ideal) arg5.view.ty) (f7 g : BufTy.Contents (Elt Ideal) arg7.view.ty) (f12 : BufTy.Contents (Elt Ideal) arg12.view.ty) {Q K : ℕ → ℕ → EReal} {C : ℕ → EReal} {V : ℕ → ℕ → ℕ → EReal} (D : Loaded (i 2).val arg3.view arg4.view arg8.view arg9.view arg10.view (bodyRun.sl.r (F := Ideal) i arg6 v7 v11 v15 v19 v23 v27 X6) X3 X4 X8 X9 X10 Q K C V) (y : S4096x128.Idx) :
    arg7.view.read (Elt Ideal) (arg7.view.writes (Elt Ideal) g (bodyRun (F := Ideal) c i arg3 harg3 arg4 harg4 arg5 harg5 arg6 harg6 arg7 harg7 arg8 harg8 arg9 harg9 arg10 harg10 arg11 harg11 arg12 harg12 v7 v11 v15 v19 v23 v27 X3 X4 X5 X6 f7 X8 X9 X10 f11 f12).1) y
      = Ideal.div ((blockTotals (i 2).val Q K C V (8 * (i 2).val + 8)) (y 1).val (y 0).val) ((blockTotals (i 2).val Q K C V (8 * (i 2).val + 8)) 128 (y 0).val) := by
  have h := after_seven c i arg3 harg3 arg4 harg4 arg5 harg5 arg6 harg6 arg7 harg7 arg8 harg8 arg9 harg9 arg10 harg10 arg11 harg11 arg12 harg12 v7 v11 v15 v19 v23 v27 X3 X4 X6 X8 X9 X10 f11 D
  unfold bodyRun
  dsimp only
  have q : ∀ x : S144x4096.Idx, bodyRun.sl.v873 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11 x = (blockTotals (i 2).val Q K C V (8 * (i 2).val + 8)) (x 0).val (x 1).val := fun x =>
    (AccHolds.load (o := 0) (w := 4096) h le_rfl le_rfl x).trans (by rw [Nat.zero_add])
  refine (View.read_writes_cons_hit_of_coords arg7.view g (Rect.unit (s := S4096x128) ![0, 0] ![4096, 128] inb_S4096x128_S4096x128_0_0) _ [] y y (by
    intro a
    fin_cases a <;> exact ((Nat.zero_add _).trans (Nat.one_mul _)).symm)).trans ?_
  refine (final_apply (bodyRun.sl.v873 (F := Ideal) c i arg3 harg3 arg4 harg4 arg5 harg5 arg6 harg6 arg7 harg7 arg8 harg8 arg9 harg9 arg10 harg10 arg11 harg11 arg12 harg12 v7 v11 v15 v19 v23 v27 X3 X4 X6 X8 X9 X10 f11) y).trans ?_
  rw [q, q]
  rfl

end Body

end Cert.KernelIdeal.Flash
-- ==== Proof.Open.lean ====
module

public import proofs.«01_k».proof.Proof.Contents
public import proofs.«01_k».proof.Proof.Step
public import Idealize.ShloMosaic.Lib.WordCmp

@[expose] public section

set_option maxRecDepth 16384
set_option maxHeartbeats 4000000

noncomputable section

namespace Cert.KernelIdeal.Flash

open Cert.KernelIdeal Cert.KernelIdeal.Gen
open Idealize.ShloMosaic

/-- The unit matrix's entry, from the comparison of the two indices. -/
theorem unit_entry (r k : ℕ) (hr : r < 128) (hk : k < 128) :
    FloatOps.sitofp (F := Ideal) FTy.f32 (BitVec.setWidth 32 (IntOp.cmpi CmpIPredicate.eq (BitVec.ofNat 32 r) (BitVec.ofNat 32 k))) = if r = k then 1 else 0 := by
  rw [WordCmp.cmpi_eq_ofNat (by omega) (by omega)]
  by_cases h : r = k
  · rw [if_pos h, decide_eq_true h]
    show (((BitVec.setWidth 32 (BitVec.ofBool true)).toInt : ℝ) : EReal) = 1
    have e : (BitVec.setWidth 32 (BitVec.ofBool true)).toInt = 1 := by decide
    rw [e]
    norm_num
  · rw [if_neg h, decide_eq_false h]
    show (((BitVec.setWidth 32 (BitVec.ofBool false)).toInt : ℝ) : EReal) = 0
    have e : (BitVec.setWidth 32 (BitVec.ofBool false)).toInt = 0 := by decide
    rw [e]
    norm_num

/-- A block of values stored transposed: the product with the unit matrix. -/
theorem values_apply (a : Vec Ideal S512x128 .bf16) (x : S1x128x512.Idx) : k0_pay4 (F := Ideal) a x = a (ix2 (n0 := 512) (n1 := 128) (x 2) (x 1)) := by
  unfold k0_pay4 k0_pay3
  pointwise
  have hx : (x 1).val < 128 := (x 1).isLt
  refine (Finset.sum_eq_single (x 1) ?_ (fun h => absurd (Finset.mem_univ _) h)).trans ?_
  · intro k _ hk
    rw [unit_entry _ _ hx k.isLt, if_neg (fun h => hk (Fin.ext h.symm)), zero_mul]
  · rw [unit_entry _ _ hx hx, if_pos rfl, one_mul]

/-- The rows under the values: ones in the first, zeros below. -/
theorem ones_apply (x : S1x16x512.Idx) : k0_pay5 (F := Ideal) x = if (x 1).val = 0 then 1 else 0 := by
  unfold k0_pay5 k0_pay2
  pointwise
  have hx : (x 1).val < 16 := (x 1).isLt
  rw [WordCmp.cmpi_eq_ofNat (a := (x 1).val) (b := 0) (by omega) (by omega)]
  by_cases h : (x 1).val = 0
  · rw [if_pos h, decide_eq_true h]; rfl
  · rw [if_neg h, decide_eq_false h]; rfl

/-- A block's gates stored down the rows, from column `o` on. -/
def gatePart (o : ℕ) (hs : S1x512.Slices ![0, o] S1x128) (a : Vec Ideal S1x1x1x512 .f32) : FVec Ideal S1x128x128 .f32 :=
  shapeCast S1x128x128 (transpose S128x128 [1, 0] (broadcastTo S128x128 (shapeCast S1x128 (extractStridedSlice S1x128 ![0, o] (shapeCast S1x512 a shapeCasts_S1x1x1x512_S1x512) hs) shapeCasts_S1x128_S1x128) broadcasts_S1x128_S128x128) transposes_S128x128_p1_0_S128x128) shapeCasts_S128x128_S1x128x128

theorem gatePart_apply (o : ℕ) (hs) (a : Vec Ideal S1x1x1x512 .f32) (g : ℕ → EReal) (hg : ∀ x, a x = g (x 3).val) (x : S1x128x128.Idx) : gatePart o hs a x = g (o + (x 1).val) := by
  unfold gatePart
  pointwise
  simp only [hg]
  rfl

/-- The masks stored: nothing in the first, in the second `⊥` above the diagonal. -/
theorem mask0_apply (x : S1x512x512.Idx) : k0_pay243 (F := Ideal) (broadcast S512x512 (Scalar.ofBits (F := Ideal) .f32 0x00000000#32)) x = 0 := by
  unfold k0_pay243
  pointwise

theorem mask1_apply (h0 h1) (x : S1x512x512.Idx) : k0_pay244 (F := Ideal) (iota .tc S512x512 32 [0] h0) (iota .tc S512x512 32 [1] h1) x = if (x 1).val ≤ (x 2).val then 0 else ⊥ := by
  unfold k0_pay244
  pointwise
  have h1 : (x 1).val < 512 := (x 1).isLt
  have h2 : (x 2).val < 512 := (x 2).isLt
  rw [WordCmp.cmpi_sle_ofNat (by omega) (by omega)]
  by_cases h : (x 1).val ≤ (x 2).val
  · rw [if_pos h, decide_eq_true h]; rfl
  · rw [if_neg h, decide_eq_false h]; rfl

/-- The block row's gates, from their eight pieces. -/
theorem row_apply (v : Fin 8 → FVec Ideal S1x512 .f32) (a b : Vec Ideal S1x1x1x512 .f32) (g : ℕ → EReal)
    (hv : ∀ n x, v n x = g (512 * n.val + (x 1).val)) (ha : ∀ x, a x = g (512 * 6 + (x 3).val)) (hb : ∀ x, b x = g (512 * 7 + (x 3).val)) (x : S1x4096.Idx) :
    k0_pay251 (v 0) (v 1) (v 2) (v 3) (v 4) (v 5) a b x = g (x 1).val := by
  unfold k0_pay251
  pointwise
  simp only [hv, ha, hb]
  have hx : (x 1).val < 4096 := (x 1).isLt
  split_ifs
  all_goals
    refine congrArg g ?_
    simp
    try omega

/-- The values' buffer: block `j` holds the block's values with a row of ones below them and zeros below that. -/
def valueRows (v : ℕ → ℕ → EReal) : ℕ → ℕ → ℕ → EReal := fun j r s => if r < 128 then v (512 * j + s) r else if r = 128 then 1 else 0

section Buffers

variable {sig' : RefSig} {κ' : Kind} {sp : Space}

/-- The first `n` blocks of the values' buffer hold `V`. -/
def ValuesHold (w : View sig' κ' sp S16x144x512 .bf16) (f : w.ty.Contents (Elt Ideal)) (n : ℕ) (V : ℕ → ℕ → ℕ → EReal) : Prop :=
  ∀ y, (y 0).val < n → w.read (Elt Ideal) f y = V (y 0).val (y 1).val (y 2).val

theorem ValuesHold.block {w : View sig' κ' sp S16x144x512 .bf16} {f : w.ty.Contents (Elt Ideal)} {L : List (View.Piece (Elt Ideal) S16x144x512 .bf16)} {j : ℕ} {V : ℕ → ℕ → ℕ → EReal} {i1 i2}
    {p : FVec Ideal S1x128x512 .bf16} {q : FVec Ideal S1x16x512 .bf16} (hp : ∀ x, p x = V j (x 1).val (x 2).val) (hq : ∀ x, q x = V j (128 + (x 1).val) (x 2).val)
    (h : ValuesHold w (w.writes (Elt Ideal) f L) j V) :
    ValuesHold w (w.writes (Elt Ideal) f (⟨Rect.unit (s := S16x144x512) ![j, 128, 0] S1x16x512.size i1, q⟩ :: ⟨Rect.unit (s := S16x144x512) ![j, 0, 0] S1x128x512.size i2, p⟩ :: L)) (j + 1) V := by
  intro y hy
  have y1 : (y 1).val < 144 := (y 1).isLt
  have y2 : (y 2).val < 512 := (y 2).isLt
  by_cases hj : (y 0).val < j
  · rw [View.read_writes_cons_miss_of_axis w f _ _ y 0 j 1 rfl rfl rfl (Or.inl hj), View.read_writes_cons_miss_of_axis w f _ _ y 0 j 1 rfl rfl rfl (Or.inl hj)]
    exact h y hj
  have e : (y 0).val = j := by omega
  by_cases hr : (y 1).val < 128
  · rw [View.read_writes_cons_miss_of_axis w f _ _ y 1 128 16 rfl rfl rfl (Or.inl hr)]
    let x : S1x128x512.Idx := ix3 (n0 := 1) (n1 := 128) (n2 := 512) 0 ⟨(y 1).val, hr⟩ ⟨(y 2).val, y2⟩
    refine (View.read_writes_cons_hit_of_coords w f (Rect.unit (s := S16x144x512) ![j, 0, 0] S1x128x512.size i2) p L x y (by
      intro a
      fin_cases a
      · show (y 0).val = j + 1 * 0; omega
      · show (y 1).val = 0 + 1 * (y 1).val; omega
      · show (y 2).val = 0 + 1 * (y 2).val; omega)).trans ?_
    rw [hp, e]
    rfl
  · let x : S1x16x512.Idx := ix3 (n0 := 1) (n1 := 16) (n2 := 512) 0 ⟨(y 1).val - 128, by omega⟩ ⟨(y 2).val, y2⟩
    refine (View.read_writes_cons_hit_of_coords w f (Rect.unit (s := S16x144x512) ![j, 128, 0] S1x16x512.size i1) q _ x y (by
      intro a
      fin_cases a
      · show (y 0).val = j + 1 * 0; omega
      · show (y 1).val = 128 + 1 * ((y 1).val - 128); omega
      · show (y 2).val = 0 + 1 * (y 2).val; omega)).trans ?_
    rw [hq, e]
    show V j (128 + ((y 1).val - 128)) _ = _
    rw [show 128 + ((y 1).val - 128) = (y 1).val by omega]
    rfl

/-- The gates' buffer: the first `n` rows of block `j`, and all of the blocks before it, hold the gates. -/
def GatesHold (w : View sig' κ' sp S16x512x128 .f32) (f : w.ty.Contents (Elt Ideal)) (j n : ℕ) (C : ℕ → EReal) : Prop :=
  ∀ y, (y 0).val < j ∨ (y 0).val = j ∧ (y 1).val < n → w.read (Elt Ideal) f y = C (512 * (y 0).val + (y 1).val)

theorem GatesHold.part {w : View sig' κ' sp S16x512x128 .f32} {f : w.ty.Contents (Elt Ideal)} {L : List (View.Piece (Elt Ideal) S16x512x128 .f32)} {j o : ℕ} {C : ℕ → EReal} {i1}
    {p : FVec Ideal S1x128x128 .f32} (hp : ∀ x, p x = C (512 * j + (o + (x 1).val))) (h : GatesHold w (w.writes (Elt Ideal) f L) j o C) :
    GatesHold w (w.writes (Elt Ideal) f (⟨Rect.unit (s := S16x512x128) ![j, o, 0] S1x128x128.size i1, p⟩ :: L)) j (o + 128) C := by
  intro y hy
  have y2 : (y 2).val < 128 := (y 2).isLt
  by_cases hj : (y 0).val < j
  · rw [View.read_writes_cons_miss_of_axis w f _ _ y 0 j 1 rfl rfl rfl (Or.inl hj)]
    exact h y (Or.inl hj)
  have e : (y 0).val = j := by omega
  by_cases hr : (y 1).val < o
  · rw [View.read_writes_cons_miss_of_axis w f _ _ y 1 o 128 rfl rfl rfl (Or.inl hr)]
    exact h y (Or.inr ⟨e, hr⟩)
  let x : S1x128x128.Idx := ix3 (n0 := 1) (n1 := 128) (n2 := 128) 0 ⟨(y 1).val - o, by omega⟩ ⟨(y 2).val, y2⟩
  refine (View.read_writes_cons_hit_of_coords w f (Rect.unit (s := S16x512x128) ![j, o, 0] S1x128x128.size i1) p L x y (by
    intro a
    fin_cases a
    · show (y 0).val = j + 1 * 0; omega
    · show (y 1).val = o + 1 * ((y 1).val - o); omega
    · show (y 2).val = 0 + 1 * (y 2).val; omega)).trans ?_
  rw [hp, e]
  show C (512 * j + (o + ((y 1).val - o))) = _
  rw [show o + ((y 1).val - o) = (y 1).val by omega]

theorem GatesHold.next {w : View sig' κ' sp S16x512x128 .f32} {f : w.ty.Contents (Elt Ideal)} {j : ℕ} {C : ℕ → EReal} (h : GatesHold w f j 512 C) : GatesHold w f (j + 1) 0 C := fun y hy =>
  h y (by have := (y 1).isLt; have e : (y 1).val < 512 := this; omega)

theorem valueBlock {v : ℕ → ℕ → EReal} (j : ℕ) {a : Vec Ideal S512x128 .bf16} (ha : ∀ x, a x = v (512 * j + (x 0).val) (x 1).val) (x : S1x128x512.Idx) :
    k0_pay4 (F := Ideal) a x = valueRows v j (x 1).val (x 2).val := by
  have h : (x 1).val < 128 := (x 1).isLt
  rw [values_apply, ha, valueRows, if_pos h]
  rfl

theorem onesBlock {v : ℕ → ℕ → EReal} (j : ℕ) (x : S1x16x512.Idx) : k0_pay5 (F := Ideal) x = valueRows v j (128 + (x 1).val) (x 2).val := by
  rw [ones_apply, valueRows, if_neg (show ¬ 128 + (x 1).val < 128 by omega)]
  by_cases h : (x 1).val = 0
  · rw [if_pos h, if_pos (show 128 + (x 1).val = 128 by omega)]
  · rw [if_neg h, if_neg (show ¬ 128 + (x 1).val = 128 by omega)]

theorem loadBlock {w : View sig' κ' sp S8192x128 .bf16} {X : w.ty.Contents (Elt Ideal)} {v : ℕ → ℕ → EReal} (hv : ∀ y, w.read (Elt Ideal) X y = v (y 0).val (y 1).val) {j o : ℕ} {inb} (ho : o = 512 * j)
    (x : S512x128.Idx) : w.readAt (Elt Ideal) (Rect.unit (s := S8192x128) ![o, 0] S512x128.size inb).toLoadRect X x = v (512 * j + (x 0).val) (x 1).val := by
  subst ho
  rw [View.readAt_apply, hv]
  have e : ∀ a, ((Rect.unit (s := S8192x128) ![512 * j, 0] S512x128.size inb).toLoadRect.idx x a).val = ![512 * j, 0] a + (x a).val := unit_idx_val _ _ inb x
  rw [e 0, e 1]
  show v _ (0 + (x 1).val) = _
  rw [Nat.zero_add]; rfl

theorem loadGates {w : View sig' κ' sp S1x16x1x512 .f32} {X : w.ty.Contents (Elt Ideal)} {C : ℕ → EReal} (hg : ∀ y, w.read (Elt Ideal) X y = C (512 * (y 1).val + (y 3).val)) {j : ℕ} {off : Fin 4 → ℕ} {inb} (ho : off = ![0, j, 0, 0])
    (x : S1x1x1x512.Idx) : w.readAt (Elt Ideal) (Rect.unit (s := S1x16x1x512) off S1x1x1x512.size inb).toLoadRect X x = C (512 * j + (x 3).val) := by
  subst ho
  rw [View.readAt_apply, hg]
  have e : ∀ a, ((Rect.unit (s := S1x16x1x512) ![0, j, 0, 0] S1x1x1x512.size inb).toLoadRect.idx x a).val = ![0, j, 0, 0] a + (x a).val := unit_idx_val _ _ inb x
  have x1 : (x 1).val < 1 := (x 1).isLt
  rw [e 1, e 3]
  show C (512 * (j + (x 1).val) + (0 + (x 3).val)) = _
  rw [Nat.zero_add, show (x 1).val = 0 by omega]; rfl

theorem gateBlock {C : ℕ → EReal} (j o : ℕ) (hs) {a : Vec Ideal S1x1x1x512 .f32} (ha : ∀ x, a x = C (512 * j + (x 3).val)) (x : S1x128x128.Idx) : gatePart o hs a x = C (512 * j + (o + (x 1).val)) :=
  gatePart_apply o hs a (fun n => C (512 * j + n)) ha x

end Buffers

/-- At a head's first block row the values' buffer is filled with the head's values. -/
theorem opened_values (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : Scalar.cmpi .ne (Scalar.extui (Scalar.cmpi .eq (BitVec.ofNat 32 (i 2).val) 0#32)) 0#32 = 1#1) (X5 : BufTy.Contents (Elt Ideal) arg5.view.ty) (X6 : BufTy.Contents (Elt Ideal) arg6.view.ty) (f8 g8 : BufTy.Contents (Elt Ideal) arg8.view.ty) (f9 g9 : BufTy.Contents (Elt Ideal) arg9.view.ty) (f10 g10 : BufTy.Contents (Elt Ideal) arg10.view.ty) {v : ℕ → ℕ → EReal} (hv : ∀ y, arg5.view.read (Elt Ideal) X5 y = v (y 0).val (y 1).val) (y : S16x144x512.Idx) :
    arg8.view.read (Elt Ideal) (arg8.view.writes (Elt Ideal) g8 (openFirst (F := Ideal) c i arg3 harg3 arg4 harg4 arg5 harg5 arg6 harg6 arg7 harg7 arg8 harg8 arg9 harg9 arg10 harg10 arg11 harg11 arg12 harg12 hc X5 X6 f8 f9 f10).2.1) y = valueRows v (y 0).val (y 1).val (y 2).val := by
  suffices h : ValuesHold arg8.view (arg8.view.writes (Elt Ideal) g8 (openFirst (F := Ideal) c i arg3 harg3 arg4 harg4 arg5 harg5 arg6 harg6 arg7 harg7 arg8 harg8 arg9 harg9 arg10 harg10 arg11 harg11 arg12 harg12 hc X5 X6 f8 f9 f10).2.1) 16 (valueRows v) from h y (y 0).isLt
  unfold openFirst
  dsimp only
  refine ValuesHold.block (j := 15) (valueBlock 15 (loadBlock hv rfl)) (onesBlock 15) ?_
  refine ValuesHold.block (j := 14) (valueBlock 14 (loadBlock hv rfl)) (onesBlock 14) ?_
  refine ValuesHold.block (j := 13) (valueBlock 13 (loadBlock hv rfl)) (onesBlock 13) ?_
  refine ValuesHold.block (j := 12) (valueBlock 12 (loadBlock hv rfl)) (onesBlock 12) ?_
  refine ValuesHold.block (j := 11) (valueBlock 11 (loadBlock hv rfl)) (onesBlock 11) ?_
  refine ValuesHold.block (j := 10) (valueBlock 10 (loadBlock hv rfl)) (onesBlock 10) ?_
  refine ValuesHold.block (j := 9) (valueBlock 9 (loadBlock hv rfl)) (onesBlock 9) ?_
  refine ValuesHold.block (j := 8) (valueBlock 8 (loadBlock hv rfl)) (onesBlock 8) ?_
  refine ValuesHold.block (j := 7) (valueBlock 7 (loadBlock hv rfl)) (onesBlock 7) ?_
  refine ValuesHold.block (j := 6) (valueBlock 6 (loadBlock hv rfl)) (onesBlock 6) ?_
  refine ValuesHold.block (j := 5) (valueBlock 5 (loadBlock hv rfl)) (onesBlock 5) ?_
  refine ValuesHold.block (j := 4) (valueBlock 4 (loadBlock hv rfl)) (onesBlock 4) ?_
  refine ValuesHold.block (j := 3) (valueBlock 3 (loadBlock hv rfl)) (onesBlock 3) ?_
  refine ValuesHold.block (j := 2) (valueBlock 2 (loadBlock hv rfl)) (onesBlock 2) ?_
  refine ValuesHold.block (j := 1) (valueBlock 1 (loadBlock hv rfl)) (onesBlock 1) ?_
  refine ValuesHold.block (j := 0) (valueBlock 0 (loadBlock hv rfl)) (onesBlock 0) ?_
  exact fun y hy => absurd hy (Nat.not_lt_zero _)

/-- At a head's first block row the gates' buffer is filled with the head's gates. -/
theorem opened_gates (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : Scalar.cmpi .ne (Scalar.extui (Scalar.cmpi .eq (BitVec.ofNat 32 (i 2).val) 0#32)) 0#32 = 1#1) (X5 : BufTy.Contents (Elt Ideal) arg5.view.ty) (X6 : BufTy.Contents (Elt Ideal) arg6.view.ty) (f8 g8 : BufTy.Contents (Elt Ideal) arg8.view.ty) (f9 g9 : BufTy.Contents (Elt Ideal) arg9.view.ty) (f10 g10 : BufTy.Contents (Elt Ideal) arg10.view.ty) {C : ℕ → EReal} (hg : ∀ y, arg6.view.read (Elt Ideal) X6 y = C (512 * (y 1).val + (y 3).val)) (y : S16x512x128.Idx) :
    arg9.view.read (Elt Ideal) (arg9.view.writes (Elt Ideal) g9 (openFirst (F := Ideal) c i arg3 harg3 arg4 harg4 arg5 harg5 arg6 harg6 arg7 harg7 arg8 harg8 arg9 harg9 arg10 harg10 arg11 harg11 arg12 harg12 hc X5 X6 f8 f9 f10).2.2.1) y = C (512 * (y 0).val + (y 1).val) := by
  suffices h : GatesHold arg9.view (arg9.view.writes (Elt Ideal) g9 (openFirst (F := Ideal) c i arg3 harg3 arg4 harg4 arg5 harg5 arg6 harg6 arg7 harg7 arg8 harg8 arg9 harg9 arg10 harg10 arg11 harg11 arg12 harg12 hc X5 X6 f8 f9 f10).2.2.1) 16 0 C from h y (Or.inl (y 0).isLt)
  unfold openFirst
  dsimp only
  refine GatesHold.next ?_
  refine GatesHold.part (j := 15) (o := 384) (gateBlock 15 384 _ (loadGates hg rfl)) ?_
  refine GatesHold.part (j := 15) (o := 256) (gateBlock 15 256 _ (loadGates hg rfl)) ?_
  refine GatesHold.part (j := 15) (o := 128) (gateBlock 15 128 _ (loadGates hg rfl)) ?_
  refine GatesHold.part (j := 15) (o := 0) (gateBlock 15 0 _ (loadGates hg rfl)) ?_
  refine GatesHold.next ?_
  refine GatesHold.part (j := 14) (o := 384) (gateBlock 14 384 _ (loadGates hg rfl)) ?_
  refine GatesHold.part (j := 14) (o := 256) (gateBlock 14 256 _ (loadGates hg rfl)) ?_
  refine GatesHold.part (j := 14) (o := 128) (gateBlock 14 128 _ (loadGates hg rfl)) ?_
  refine GatesHold.part (j := 14) (o := 0) (gateBlock 14 0 _ (loadGates hg rfl)) ?_
  refine GatesHold.next ?_
  refine GatesHold.part (j := 13) (o := 384) (gateBlock 13 384 _ (loadGates hg rfl)) ?_
  refine GatesHold.part (j := 13) (o := 256) (gateBlock 13 256 _ (loadGates hg rfl)) ?_
  refine GatesHold.part (j := 13) (o := 128) (gateBlock 13 128 _ (loadGates hg rfl)) ?_
  refine GatesHold.part (j := 13) (o := 0) (gateBlock 13 0 _ (loadGates hg rfl)) ?_
  refine GatesHold.next ?_
  refine GatesHold.part (j := 12) (o := 384) (gateBlock 12 384 _ (loadGates hg rfl)) ?_
  refine GatesHold.part (j := 12) (o := 256) (gateBlock 12 256 _ (loadGates hg rfl)) ?_
  refine GatesHold.part (j := 12) (o := 128) (gateBlock 12 128 _ (loadGates hg rfl)) ?_
  refine GatesHold.part (j := 12) (o := 0) (gateBlock 12 0 _ (loadGates hg rfl)) ?_
  refine GatesHold.next ?_
  refine GatesHold.part (j := 11) (o := 384) (gateBlock 11 384 _ (loadGates hg rfl)) ?_
  refine GatesHold.part (j := 11) (o := 256) (gateBlock 11 256 _ (loadGates hg rfl)) ?_
  refine GatesHold.part (j := 11) (o := 128) (gateBlock 11 128 _ (loadGates hg rfl)) ?_
  refine GatesHold.part (j := 11) (o := 0) (gateBlock 11 0 _ (loadGates hg rfl)) ?_
  refine GatesHold.next ?_
  refine GatesHold.part (j := 10) (o := 384) (gateBlock 10 384 _ (loadGates hg rfl)) ?_
  refine GatesHold.part (j := 10) (o := 256) (gateBlock 10 256 _ (loadGates hg rfl)) ?_
  refine GatesHold.part (j := 10) (o := 128) (gateBlock 10 128 _ (loadGates hg rfl)) ?_
  refine GatesHold.part (j := 10) (o := 0) (gateBlock 10 0 _ (loadGates hg rfl)) ?_
  refine GatesHold.next ?_
  refine GatesHold.part (j := 9) (o := 384) (gateBlock 9 384 _ (loadGates hg rfl)) ?_
  refine GatesHold.part (j := 9) (o := 256) (gateBlock 9 256 _ (loadGates hg rfl)) ?_
  refine GatesHold.part (j := 9) (o := 128) (gateBlock 9 128 _ (loadGates hg rfl)) ?_
  refine GatesHold.part (j := 9) (o := 0) (gateBlock 9 0 _ (loadGates hg rfl)) ?_
  refine GatesHold.next ?_
  refine GatesHold.part (j := 8) (o := 384) (gateBlock 8 384 _ (loadGates hg rfl)) ?_
  refine GatesHold.part (j := 8) (o := 256) (gateBlock 8 256 _ (loadGates hg rfl)) ?_
  refine GatesHold.part (j := 8) (o := 128) (gateBlock 8 128 _ (loadGates hg rfl)) ?_
  refine GatesHold.part (j := 8) (o := 0) (gateBlock 8 0 _ (loadGates hg rfl)) ?_
  refine GatesHold.next ?_
  refine GatesHold.part (j := 7) (o := 384) (gateBlock 7 384 _ (loadGates hg rfl)) ?_
  refine GatesHold.part (j := 7) (o := 256) (gateBlock 7 256 _ (loadGates hg rfl)) ?_
  refine GatesHold.part (j := 7) (o := 128) (gateBlock 7 128 _ (loadGates hg rfl)) ?_
  refine GatesHold.part (j := 7) (o := 0) (gateBlock 7 0 _ (loadGates hg rfl)) ?_
  refine GatesHold.next ?_
  refine GatesHold.part (j := 6) (o := 384) (gateBlock 6 384 _ (loadGates hg rfl)) ?_
  refine GatesHold.part (j := 6) (o := 256) (gateBlock 6 256 _ (loadGates hg rfl)) ?_
  refine GatesHold.part (j := 6) (o := 128) (gateBlock 6 128 _ (loadGates hg rfl)) ?_
  refine GatesHold.part (j := 6) (o := 0) (gateBlock 6 0 _ (loadGates hg rfl)) ?_
  refine GatesHold.next ?_
  refine GatesHold.part (j := 5) (o := 384) (gateBlock 5 384 _ (loadGates hg rfl)) ?_
  refine GatesHold.part (j := 5) (o := 256) (gateBlock 5 256 _ (loadGates hg rfl)) ?_
  refine GatesHold.part (j := 5) (o := 128) (gateBlock 5 128 _ (loadGates hg rfl)) ?_
  refine GatesHold.part (j := 5) (o := 0) (gateBlock 5 0 _ (loadGates hg rfl)) ?_
  refine GatesHold.next ?_
  refine GatesHold.part (j := 4) (o := 384) (gateBlock 4 384 _ (loadGates hg rfl)) ?_
  refine GatesHold.part (j := 4) (o := 256) (gateBlock 4 256 _ (loadGates hg rfl)) ?_
  refine GatesHold.part (j := 4) (o := 128) (gateBlock 4 128 _ (loadGates hg rfl)) ?_
  refine GatesHold.part (j := 4) (o := 0) (gateBlock 4 0 _ (loadGates hg rfl)) ?_
  refine GatesHold.next ?_
  refine GatesHold.part (j := 3) (o := 384) (gateBlock 3 384 _ (loadGates hg rfl)) ?_
  refine GatesHold.part (j := 3) (o := 256) (gateBlock 3 256 _ (loadGates hg rfl)) ?_
  refine GatesHold.part (j := 3) (o := 128) (gateBlock 3 128 _ (loadGates hg rfl)) ?_
  refine GatesHold.part (j := 3) (o := 0) (gateBlock 3 0 _ (loadGates hg rfl)) ?_
  refine GatesHold.next ?_
  refine GatesHold.part (j := 2) (o := 384) (gateBlock 2 384 _ (loadGates hg rfl)) ?_
  refine GatesHold.part (j := 2) (o := 256) (gateBlock 2 256 _ (loadGates hg rfl)) ?_
  refine GatesHold.part (j := 2) (o := 128) (gateBlock 2 128 _ (loadGates hg rfl)) ?_
  refine GatesHold.part (j := 2) (o := 0) (gateBlock 2 0 _ (loadGates hg rfl)) ?_
  refine GatesHold.next ?_
  refine GatesHold.part (j := 1) (o := 384) (gateBlock 1 384 _ (loadGates hg rfl)) ?_
  refine GatesHold.part (j := 1) (o := 256) (gateBlock 1 256 _ (loadGates hg rfl)) ?_
  refine GatesHold.part (j := 1) (o := 128) (gateBlock 1 128 _ (loadGates hg rfl)) ?_
  refine GatesHold.part (j := 1) (o := 0) (gateBlock 1 0 _ (loadGates hg rfl)) ?_
  refine GatesHold.next ?_
  refine GatesHold.part (j := 0) (o := 384) (gateBlock 0 384 _ (loadGates hg rfl)) ?_
  refine GatesHold.part (j := 0) (o := 256) (gateBlock 0 256 _ (loadGates hg rfl)) ?_
  refine GatesHold.part (j := 0) (o := 128) (gateBlock 0 128 _ (loadGates hg rfl)) ?_
  refine GatesHold.part (j := 0) (o := 0) (gateBlock 0 0 _ (loadGates hg rfl)) ?_
  exact fun y hy => absurd hy (by omega)

/-- At a head's first block row the two masks are stored. -/
theorem opened_masks (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (hc : Scalar.cmpi .ne (Scalar.extui (Scalar.cmpi .eq (BitVec.ofNat 32 (i 2).val) 0#32)) 0#32 = 1#1) (X5 : BufTy.Contents (Elt Ideal) arg5.view.ty) (X6 : BufTy.Contents (Elt Ideal) arg6.view.ty) (f8 g8 : BufTy.Contents (Elt Ideal) arg8.view.ty) (f9 g9 : BufTy.Contents (Elt Ideal) arg9.view.ty) (f10 g10 : BufTy.Contents (Elt Ideal) arg10.view.ty) (y : S2x512x512.Idx) :
    arg10.view.read (Elt Ideal) (arg10.view.writes (Elt Ideal) g10 (openFirst (F := Ideal) c i arg3 harg3 arg4 harg4 arg5 harg5 arg6 harg6 arg7 harg7 arg8 harg8 arg9 harg9 arg10 harg10 arg11 harg11 arg12 harg12 hc X5 X6 f8 f9 f10).2.2.2.1) y = if (y 0).val = 0 ∨ (y 1).val ≤ (y 2).val then 0 else ⊥ := by
  unfold openFirst
  dsimp only
  have y0 : (y 0).val < 2 := (y 0).isLt
  by_cases h : (y 0).val = 0
  · rw [View.read_writes_cons_miss_of_axis arg10.view g10 _ _ y 0 1 1 rfl rfl rfl (Or.inl (by omega)), if_pos (Or.inl h)]
    refine (View.read_writes_cons_hit_of_coords arg10.view g10 (Rect.unit (s := S2x512x512) ![0, 0, 0] S1x512x512.size inb_S2x512x512_S1x512x512_0_0_0) _ [] (ix3 (n0 := 1) (n1 := 512) (n2 := 512) 0 (y 1) (y 2)) y (by
      intro a
      fin_cases a
      · show (y 0).val = 0 + 1 * 0; omega
      · show (y 1).val = 0 + 1 * (y 1).val; omega
      · show (y 2).val = 0 + 1 * (y 2).val; omega)).trans ?_
    exact mask0_apply _
  · refine (View.read_writes_cons_hit_of_coords arg10.view g10 (Rect.unit (s := S2x512x512) ![1, 0, 0] S1x512x512.size inb_S2x512x512_S1x512x512_1_0_0) _ _ (ix3 (n0 := 1) (n1 := 512) (n2 := 512) 0 (y 1) (y 2)) y (by
      intro a
      fin_cases a
      · show (y 0).val = 1 + 1 * 0; omega
      · show (y 1).val = 0 + 1 * (y 1).val; omega
      · show (y 2).val = 0 + 1 * (y 2).val; omega)).trans ?_
    refine (mask1_apply _ _ _).trans ?_
    show (if (y 1).val ≤ (y 2).val then (0 : EReal) else ⊥) = _
    by_cases h' : (y 1).val ≤ (y 2).val
    · rw [if_pos h', if_pos (Or.inr h')]
    · rw [if_neg h', if_neg (by omega)]

/-- The block row's gates. -/
theorem row_holds (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (X6 : BufTy.Contents (Elt Ideal) arg6.view.ty) {C : ℕ → EReal} (hg : ∀ y, arg6.view.read (Elt Ideal) X6 y = C (512 * (y 1).val + (y 3).val)) (a b : Vec Ideal S1x1x1x512 .f32)
    (ha : ∀ x, a x = C (512 * (8 * (i 2).val + 6) + (x 3).val)) (hb : ∀ x, b x = C (512 * (8 * (i 2).val + 7) + (x 3).val)) (x : S1x4096.Idx) :
    k0_pay251 (F := Ideal) (gateRow i arg6 X6 0) (gateRow i arg6 X6 1) (gateRow i arg6 X6 2) (gateRow i arg6 X6 3) (gateRow i arg6 X6 4) (gateRow i arg6 X6 5) a b x = C (4096 * (i 2).val + (x 1).val) := by
  refine row_apply (fun n => gateRow i arg6 X6 n) a b (fun n => C (4096 * (i 2).val + n)) ?_ ?_ ?_ x
  · intro n x
    have e : ∀ z, View.readAt (Elt Ideal) arg6.view (Rect.unit (s := S1x16x1x512) (k0_off1 i (BitVec.ofNat 32 n.val)) S1x1x1x512.size (k0_off1_inb i n)).toLoadRect X6 z = C (512 * (8 * (i 2).val + n.val) + (z 3).val) :=
      loadGates hg (k0_off1_eq i n)
    unfold gateRow
    pointwise
    rw [e]
    refine congrArg C ?_
    show 512 * (8 * (i 2).val + n.val) + (x 1).val = _
    omega
  · intro x; rw [ha]; refine congrArg C ?_; show 512 * (8 * (i 2).val + 6) + _ = 4096 * (i 2).val + (512 * 6 + _); omega
  · intro x; rw [hb]; refine congrArg C ?_; show 512 * (8 * (i 2).val + 7) + _ = 4096 * (i 2).val + (512 * 7 + _); omega

end Cert.KernelIdeal.Flash
-- ==== Proof.ValueStep.lean ====
module

public import proofs.«01_k».proof.Proof.Body
public import proofs.«01_k».proof.Proof.Open

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the pipeline's frame runs. -/
local notation "𝕄" => MT nD τ sig Unit (Elt Ideal) ℕ (UR sig nD τ) ℕ

/-- The attention's quotient at row `n` of a head, channel `d`: the row's block totals of the weighted values and of the
    weights themselves. -/
def quotient (Q K : ℕ → ℕ → EReal) (C : ℕ → EReal) (v : ℕ → ℕ → EReal) (n d : ℕ) : EReal :=
  Ideal.div (total Q K C (valueRows v) (8 * (n / 4096) + 8) d n) (total Q K C (valueRows v) (8 * (n / 4096) + 8) 128 n)

/-- The body's guard holds exactly at a head's first block row. -/
theorem first_iff : ∀ i : grid0.Coords, (Scalar.cmpi .ne (Scalar.extui (Scalar.cmpi .eq (BitVec.ofNat 32 (i 2).val) 0#32)) 0#32 = 1#1) ↔ (i 2).val = 0 := by
  decide +kernel

/-- The body's result block, from what the windows and the key-side scratches hold. -/
theorem quotient_holds (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (g : BufTy.Contents (Elt Ideal) arg7.view.ty) {Q K v : ℕ → ℕ → EReal} {C : ℕ → EReal}
    (hq : ∀ y, arg3.view.read (Elt Ideal) X3 y = Q (4096 * (i 2).val + (y 0).val) (y 1).val)
    (hk : ∀ y, arg4.view.read (Elt Ideal) X4 y = K (y 0).val (y 1).val)
    (hg : ∀ y, arg6.view.read (Elt Ideal) X6 y = C (512 * (y 1).val + (y 3).val))
    (h8 : ∀ y, arg8.view.read (Elt Ideal) f8 y = valueRows v (y 0).val (y 1).val (y 2).val) (h9 : ∀ y, arg9.view.read (Elt Ideal) f9 y = C (512 * (y 0).val + (y 1).val))
    (h10 : ∀ y, arg10.view.read (Elt Ideal) f10 y = if (y 0).val = 0 ∨ (y 1).val ≤ (y 2).val then 0 else ⊥) :
    ∀ y, arg7.view.read (Elt Ideal) (arg7.view.writes (Elt Ideal) g (bodyRun (F := Ideal) c i arg3 harg3 arg4 harg4 arg5 harg5 arg6 harg6 arg7 harg7 arg8 harg8 arg9 harg9 arg10 harg10 arg11 harg11 arg12 harg12 (gateRow i arg6 X6 0) (gateRow i arg6 X6 1) (gateRow i arg6 X6 2) (gateRow i arg6 X6 3) (gateRow i arg6 X6 4) (gateRow i arg6 X6 5) X3 X4 X5 X6 f7 f8 f9 f10 f11 f12).1) y = quotient Q K C v (4096 * (i 2).val + (y 0).val) (y 1).val := by
  intro y
  have hy : (y 0).val < 4096 := (y 0).isLt
  have e : (4096 * (i 2).val + (y 0).val) / 4096 = (i 2).val := by omega
  refine (body_holds c i arg3 harg3 arg4 harg4 arg5 harg5 arg6 harg6 arg7 harg7 arg8 harg8 arg9 harg9 arg10 harg10 arg11 harg11 arg12 harg12 (gateRow i arg6 X6 0) (gateRow i arg6 X6 1) (gateRow i arg6 X6 2) (gateRow i arg6 X6 3) (gateRow i arg6 X6 4) (gateRow i arg6 X6 5) X3 X4 X6 f8 f9 f10 f11 X5 f7 g f12 (Q := Q) (K := K) (C := C) (V := valueRows v) ⟨hq, hk, h8, h9, h10, fun x => ?_⟩ y).trans ?_
  · exact row_holds i arg3 harg3 arg4 harg4 arg5 harg5 arg6 harg6 arg7 harg7 arg8 harg8 arg9 harg9 arg10 harg10 arg11 harg11 arg12 harg12 X6 hg _ _ (loadGates hg (k0_off1_eq i 6)) (loadGates hg (k0_off1_eq i 7)) x
  · unfold quotient blockTotals
    rw [e]

/-- One grid point's body, with what it leaves: the attention's quotient in the output block, and the key-side scratches
    holding the head's values, gates and masks. -/
theorem step_value (c : Dev nD) (i : grid0.Coords) (arg3 : Memref sig .tc .vmem S4096x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x16x1x512 .f32) (harg6 : arg6.IsWhole) (arg7 : Memref sig .tc .vmem S4096x128 .bf16) (harg7 : arg7.IsWhole) (arg8 : Memref sig .tc .vmem S16x144x512 .bf16) (harg8 : arg8.IsWhole) (arg9 : Memref sig .tc .vmem S16x512x128 .f32) (harg9 : arg9.IsWhole) (arg10 : Memref sig .tc .vmem S2x512x512 .f32) (harg10 : arg10.IsWhole) (arg11 : Memref sig .tc .vmem S2x512x4096 .bf16) (harg11 : arg11.IsWhole) (arg12 : Memref sig .tc .vmem S144x4096 .f32) (harg12 : arg12.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) {Q K v : ℕ → ℕ → EReal} {C : ℕ → EReal}
    (hq : ∀ y, arg3.view.read (Elt Ideal) X3 y = Q (4096 * (i 2).val + (y 0).val) (y 1).val)
    (hk : ∀ y, arg4.view.read (Elt Ideal) X4 y = K (y 0).val (y 1).val)
    (hv : ∀ y, arg5.view.read (Elt Ideal) X5 y = v (y 0).val (y 1).val)
    (hg : ∀ y, arg6.view.read (Elt Ideal) X6 y = C (512 * (y 1).val + (y 3).val))
    (h8 : (i 2).val ≠ 0 → ∀ y, arg8.view.read (Elt Ideal) f8 y = valueRows v (y 0).val (y 1).val (y 2).val)
    (h9 : (i 2).val ≠ 0 → ∀ y, arg9.view.read (Elt Ideal) f9 y = C (512 * (y 0).val + (y 1).val))
    (h10 : (i 2).val ≠ 0 → ∀ y, arg10.view.read (Elt Ideal) f10 y = if (y 0).val = 0 ∨ (y 1).val ≤ (y 2).val then 0 else ⊥) (E : Set ℕ) (Kt : PUnit → sProp 𝕄) :
    iprop(iprop(iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg11.view.loc (c : Thread nD τ) ↦[arg11.view.set]{fullShare} f11) ∗ (arg12.view.loc (c : Thread nD τ) ↦[arg12.view.set]{fullShare} f12))) ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ g, ⌜∀ y, arg7.view.read (Elt Ideal) g y = quotient Q K C v (4096 * (i 2).val + (y 0).val) (y 1).val⌝ ∗ (arg7.view.loc (c : Thread nD τ) ↦[arg7.view.set]{fullShare} g)) ∗ (∃ g, ⌜∀ y, arg8.view.read (Elt Ideal) g y = valueRows v (y 0).val (y 1).val (y 2).val⌝ ∗ (arg8.view.loc (c : Thread nD τ) ↦[arg8.view.set]{fullShare} g)) ∗ (∃ g, ⌜∀ y, arg9.view.read (Elt Ideal) g y = C (512 * (y 0).val + (y 1).val)⌝ ∗ (arg9.view.loc (c : Thread nD τ) ↦[arg9.view.set]{fullShare} g)) ∗ (∃ g, ⌜∀ y, arg10.view.read (Elt Ideal) g y = if (y 0).val = 0 ∨ (y 1).val ≤ (y 2).val then 0 else ⊥⌝ ∗ (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) -∗ Kt ⟨⟩))
      ⊢ wp frame (wpE (defs₀ (F := Ideal)) Variants.none (c : Thread nD τ) none) E (cc0_flash_bounded (F := Ideal) i arg3 harg3 arg4 harg4 arg5 harg5 arg6 harg6 arg7 harg7 arg8 harg8 arg9 harg9 arg10 harg10 arg11 harg11 arg12 harg12) Kt := by
  by_cases hc : Scalar.cmpi .ne (Scalar.extui (Scalar.cmpi .eq (BitVec.ofNat 32 (i 2).val) 0#32)) 0#32 = 1#1
  · refine (sep_mono_l (step_first c i arg3 harg3 arg4 harg4 arg5 harg5 arg6 harg6 arg7 harg7 arg8 harg8 arg9 harg9 arg10 harg10 arg11 harg11 arg12 harg12 hc X3 X4 X5 X6 f7 f8 f9 f10 f11 f12 E)).trans ((wp_frame_r _ _ _).trans (wp_mono _ _ _ fun _ => ?_))
    iintro ⟨⟨H5, H6, H8, H9, H10, H3, H4, ⟨%g7, H7⟩, H11, H12⟩, Hk⟩
    iapply Hk
    isplitl [H3]; · iexact H3
    isplitl [H4]; · iexact H4
    isplitl [H5]; · iexact H5
    isplitl [H6]; · iexact H6
    isplitl [H7]
    · iexists _; isplitr; swap; · iexact H7
      ipureintro
      exact quotient_holds c i arg3 harg3 arg4 harg4 arg5 harg5 arg6 harg6 arg7 harg7 arg8 harg8 arg9 harg9 arg10 harg10 arg11 harg11 arg12 harg12 X3 X4 X5 X6 f7 _ _ _ f11 f12 g7 hq hk hg
        (opened_values c i arg3 harg3 arg4 harg4 arg5 harg5 arg6 harg6 arg7 harg7 arg8 harg8 arg9 harg9 arg10 harg10 arg11 harg11 arg12 harg12 hc X5 X6 f8 f8 f9 f9 f10 f10 hv) (opened_gates c i arg3 harg3 arg4 harg4 arg5 harg5 arg6 harg6 arg7 harg7 arg8 harg8 arg9 harg9 arg10 harg10 arg11 harg11 arg12 harg12 hc X5 X6 f8 f8 f9 f9 f10 f10 hg)
        (opened_masks c i arg3 harg3 arg4 harg4 arg5 harg5 arg6 harg6 arg7 harg7 arg8 harg8 arg9 harg9 arg10 harg10 arg11 harg11 arg12 harg12 hc X5 X6 f8 f8 f9 f9 f10 f10)
    isplitl [H8]
    · iexists _; isplitr; swap; · iexact H8
      ipureintro
      exact opened_values c i arg3 harg3 arg4 harg4 arg5 harg5 arg6 harg6 arg7 harg7 arg8 harg8 arg9 harg9 arg10 harg10 arg11 harg11 arg12 harg12 hc X5 X6 f8 f8 f9 f9 f10 f10 hv
    isplitl [H9]
    · iexists _; isplitr; swap; · iexact H9
      ipureintro
      exact opened_gates c i arg3 harg3 arg4 harg4 arg5 harg5 arg6 harg6 arg7 harg7 arg8 harg8 arg9 harg9 arg10 harg10 arg11 harg11 arg12 harg12 hc X5 X6 f8 f8 f9 f9 f10 f10 hg
    isplitl [H10]
    · iexists _; isplitr; swap; · iexact H10
      ipureintro
      exact opened_masks c i arg3 harg3 arg4 harg4 arg5 harg5 arg6 harg6 arg7 harg7 arg8 harg8 arg9 harg9 arg10 harg10 arg11 harg11 arg12 harg12 hc X5 X6 f8 f8 f9 f9 f10 f10
    isplitl [H11]; · iexact H11
    iexact H12
  · have hi : (i 2).val ≠ 0 := fun h => hc ((first_iff i).2 h)
    refine (sep_mono_l (step_later c i arg3 harg3 arg4 harg4 arg5 harg5 arg6 harg6 arg7 harg7 arg8 harg8 arg9 harg9 arg10 harg10 arg11 harg11 arg12 harg12 hc X3 X4 X5 X6 f7 f8 f9 f10 f11 f12 E)).trans ((wp_frame_r _ _ _).trans (wp_mono _ _ _ fun _ => ?_))
    iintro ⟨⟨H5, H6, H8, H9, H10, H3, H4, ⟨%g7, H7⟩, H11, H12⟩, Hk⟩
    iapply Hk
    isplitl [H3]; · iexact H3
    isplitl [H4]; · iexact H4
    isplitl [H5]; · iexact H5
    isplitl [H6]; · iexact H6
    isplitl [H7]
    · iexists _; isplitr; swap; · iexact H7
      ipureintro
      exact quotient_holds c i arg3 harg3 arg4 harg4 arg5 harg5 arg6 harg6 arg7 harg7 arg8 harg8 arg9 harg9 arg10 harg10 arg11 harg11 arg12 harg12 X3 X4 X5 X6 f7 f8 f9 f10 f11 f12 g7 hq hk hg (h8 hi) (h9 hi) (h10 hi)
    isplitl [H8]
    · iexists _; isplitr; swap; · iexact H8
      ipureintro
      exact h8 hi
    isplitl [H9]
    · iexists _; isplitr; swap; · iexact H9
      ipureintro
      exact h9 hi
    isplitl [H10]
    · iexists _; isplitr; swap; · iexact H10
      ipureintro
      exact h10 hi
    isplitl [H11]; · iexact H11
    iexact H12

end Cert.KernelIdeal.Flash

end
-- ==== Proof.Arrays.lean ====
module

public import proofs.«01_k».proof.Proof.ValueStep
public import proofs.«01_k».proof.Proof.Frame
public import Idealize.ShloMosaic.Lib.Pipeline.ValueKit.Geometry

@[expose] public section

set_option maxRecDepth 16384
set_option maxHeartbeats 1000000

noncomputable section

namespace Cert.KernelIdeal.Flash

open Cert.KernelIdeal Cert.KernelIdeal.Gen
open Idealize.ShloMosaic Idealize.ShloMosaic.TcCoe Idealize.ShloMosaic.Tactic

/-- Position `n`, channel `d` of batch `b`, head `h` in an array of rows. -/
def headRow (A : (⟨2, ![32768, 1024]⟩ : Shape).Idx → EReal) (b h n d : ℕ) : EReal :=
  A (ix2 (n0 := 32768) (n1 := 1024) (Fin.ofNat 32768 (8192 * b + n)) (Fin.ofNat 1024 (128 * h + d)))

/-- The gate at position `n` of batch `b`, head `h`. -/
def headGate (A : (⟨2, ![32, 8192]⟩ : Shape).Idx → EReal) (b h n : ℕ) : EReal :=
  A (ix2 (n0 := 32) (n1 := 8192) (Fin.ofNat 32 (8 * b + h)) (Fin.ofNat 8192 n))

/-- The attention of one head at position `n`, channel `d`, from the four argument arrays. -/
def attend (aq ak av : (⟨2, ![32768, 1024]⟩ : Shape).Idx → EReal) (ac : (⟨2, ![32, 8192]⟩ : Shape).Idx → EReal) (b h n d : ℕ) : EReal :=
  quotient (headRow aq b h) (headRow ak b h) (headGate ac b h) (headRow av b h) n d

variable (m : (ℓ : Loc nD τ sig) → Buf (Elt Ideal) ℓ)

/-- A grid point's coordinates, from its number. -/
theorem coords_val : ∀ t : Fin cfg0.N, (grid0.coords t 0).val = t.val / 16 ∧ (grid0.coords t 1).val = t.val / 2 % 8 ∧ (grid0.coords t 2).val = t.val % 2 := by
  decide +kernel

theorem index0 : ∀ t : Fin cfg0.N, win0_0.index t = ![2 * (t.val / 16) + t.val % 2, t.val / 2 % 8] :=
  (by decide +kernel : ∀ t : Fin grid0.N, _)
theorem index1 : ∀ t : Fin cfg0.N, win0_1.index t = ![t.val / 16, t.val / 2 % 8] :=
  (by decide +kernel : ∀ t : Fin grid0.N, _)
theorem index2 : ∀ t : Fin cfg0.N, win0_2.index t = ![t.val / 16, t.val / 2 % 8] :=
  (by decide +kernel : ∀ t : Fin grid0.N, _)
theorem index3 : ∀ t : Fin cfg0.N, win0_3.index t = ![8 * (t.val / 16) + t.val / 2 % 8, 0, 0, 0] :=
  (by decide +kernel : ∀ t : Fin grid0.N, _)
theorem index4 : ∀ t : Fin cfg0.N, win0_4.index t = ![2 * (t.val / 16) + t.val % 2, t.val / 2 % 8] :=
  (by decide +kernel : ∀ t : Fin grid0.N, _)

/-- The query block of a point. -/
theorem block_q (c : Dev nD) (t : Fin cfg0.N) (y : S4096x128.Idx) :
    iblk m c 0 t y = headRow (m ((c : Thread nD τ).loc main_arg0)) (t.val / 16) (t.val / 2 % 8) (4096 * (t.val % 2) + (y 0).val) (y 1).val := by
  have h0 : (y 0).val < 4096 := (y 0).isLt
  have h1 : (y 1).val < 128 := (y 1).isLt
  have ht : t.val < 64 := t.isLt
  blk_simp [iblk]
  rw [show V m c main_arg0 = _ from V_main_arg0 m c]
  unfold headRow
  refine congrArg _ ?_
  funext a
  refine Fin.ext ?_
  match a with
  | ⟨0, _⟩ =>
    blk_simp [index0]
    show (2 * (t.val / 16) + t.val % 2) * 4096 + (y 0).val = (8192 * (t.val / 16) + (4096 * (t.val % 2) + (y 0).val)) % 32768
    omega
  | ⟨1, _⟩ =>
    blk_simp [index0]
    show (t.val / 2 % 8) * 128 + (y 1).val = (128 * (t.val / 2 % 8) + (y 1).val) % 1024
    omega

/-- The keys of a point. -/
theorem block_k (c : Dev nD) (t : Fin cfg0.N) (y : S8192x128.Idx) :
    iblk m c 1 t y = headRow (m ((c : Thread nD τ).loc main_arg1)) (t.val / 16) (t.val / 2 % 8) ((y 0).val) (y 1).val := by
  have h0 : (y 0).val < 8192 := (y 0).isLt
  have h1 : (y 1).val < 128 := (y 1).isLt
  have ht : t.val < 64 := t.isLt
  blk_simp [iblk]
  rw [show V m c main_arg1 = _ from V_main_arg1 m c]
  unfold headRow
  refine congrArg _ ?_
  funext a
  refine Fin.ext ?_
  match a with
  | ⟨0, _⟩ =>
    blk_simp [index1]
    show (t.val / 16) * 8192 + (y 0).val = (8192 * (t.val / 16) + ((y 0).val)) % 32768
    omega
  | ⟨1, _⟩ =>
    blk_simp [index1]
    show (t.val / 2 % 8) * 128 + (y 1).val = (128 * (t.val / 2 % 8) + (y 1).val) % 1024
    omega

/-- The values of a point. -/
theorem block_v (c : Dev nD) (t : Fin cfg0.N) (y : S8192x128.Idx) :
    iblk m c 2 t y = headRow (m ((c : Thread nD τ).loc main_arg2)) (t.val / 16) (t.val / 2 % 8) ((y 0).val) (y 1).val := by
  have h0 : (y 0).val < 8192 := (y 0).isLt
  have h1 : (y 1).val < 128 := (y 1).isLt
  have ht : t.val < 64 := t.isLt
  blk_simp [iblk]
  rw [show V m c main_arg2 = _ from V_main_arg2 m c]
  unfold headRow
  refine congrArg _ ?_
  funext a
  refine Fin.ext ?_
  match a with
  | ⟨0, _⟩ =>
    blk_simp [index2]
    show (t.val / 16) * 8192 + (y 0).val = (8192 * (t.val / 16) + ((y 0).val)) % 32768
    omega
  | ⟨1, _⟩ =>
    blk_simp [index2]
    show (t.val / 2 % 8) * 128 + (y 1).val = (128 * (t.val / 2 % 8) + (y 1).val) % 1024
    omega

/-- The gates as the call takes them, a head's row cut into key blocks. -/
theorem gate_array (c : Dev nD) (x : S32x16x1x512.Idx) :
   V m c main_v0 x = headGate (m ((c : Thread nD τ).loc main_arg3)) 0 (x 0).val (512 * (x 1).val + (x 3).val) := by
  have e : V m c main_v0 = shapeCast S32x16x1x512 (m ((c : Thread nD τ).loc main_arg3)) shapeCasts_S32x8192_S32x16x1x512 := by
    unfold V hostOps0
    after_results_simp
    rfl
  have hx0 : (x 0).val < 32 := (x 0).isLt
  have hx1 : (x 1).val < 16 := (x 1).isLt
  have hx2 : (x 2).val < 1 := (x 2).isLt
  have hx3 : (x 3).val < 512 := (x 3).isLt
  rw [e]
  unfold headGate
  pointwise
  refine congrArg _ (congrArg₂ (ix2 (n0 := 32) (n1 := 8192)) (Fin.ext ?_) (Fin.ext ?_))
  · show (x 0).val = (x 0).val % 32
    omega
  · show (x 1).val * 512 + (x 3).val = (512 * (x 1).val + (x 3).val) % 8192
    omega

/-- The gates of a point. -/
theorem block_c (c : Dev nD) (t : Fin cfg0.N) (y : S1x16x1x512.Idx) :
    iblk m c 3 t y = headGate (m ((c : Thread nD τ).loc main_arg3)) (t.val / 16) (t.val / 2 % 8) (512 * (y 1).val + (y 3).val) := by
  have h0 : (y 0).val < 1 := (y 0).isLt
  have h1 : (y 1).val < 16 := (y 1).isLt
  have h3 : (y 3).val < 512 := (y 3).isLt
  have ht : t.val < 64 := t.isLt
  blk_simp [iblk]
  refine (gate_array m c _).trans ?_
  blk_simp [index3]
  unfold headGate
  rw [Nat.mul_zero, Nat.zero_add]

end Cert.KernelIdeal.Flash

end
-- ==== Proof.Value.lean ====
module

public import proofs.«01_k».proof.Proof.Arrays

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

/-- The resource algebra of the pipeline's frame runs. -/
local notation "𝕄" => MT nD τ sig Unit (Elt Ideal) ℕ (UR sig nD τ) ℕ

variable (m : (ℓ : Loc nD τ sig) → Buf (Elt Ideal) ℓ) (ρ : Dev nD → PrngReg)

/-- A head's queries, keys, values and gates as launched. -/
abbrev hQ (c : Dev nD) (b h : ℕ) : ℕ → ℕ → EReal := headRow (m ((c : Thread nD τ).loc main_arg0)) b h
abbrev hK (c : Dev nD) (b h : ℕ) : ℕ → ℕ → EReal := headRow (m ((c : Thread nD τ).loc main_arg1)) b h
abbrev hV (c : Dev nD) (b h : ℕ) : ℕ → ℕ → EReal := headRow (m ((c : Thread nD τ).loc main_arg2)) b h
abbrev hC (c : Dev nD) (b h : ℕ) : ℕ → EReal := headGate (m ((c : Thread nD τ).loc main_arg3)) b h

/-- The key-side scratches hold the head's transposed values, its gates and the masks. -/
structure Primed (c : Dev nD) (b h : ℕ) (d8 : S16x144x512.Idx → EReal) (d9 : S16x512x128.Idx → EReal) (d10 : S2x512x512.Idx → EReal) : Prop where
  /-- the transposed values -/
  v : ∀ y, d8 y = valueRows (hV m c b h) (y 0).val (y 1).val (y 2).val
  /-- the gates -/
  g : ∀ y, d9 y = hC m c b h (512 * (y 0).val + (y 1).val)
  /-- the masks -/
  k : ∀ y, d10 y = if (y 0).val = 0 ∨ (y 1).val ≤ (y 2).val then 0 else ⊥

/-- What holds before point `n`: the scratches at some contents, the key-side ones primed before a head's second block row. -/
def primedAt (c : Dev nD) (n : ℕ) : sProp 𝕄 :=
  iprop(∃ d8 d9 d10, ⌜n % 2 = 1 → Primed m c (n / 16) (n / 2 % 8) d8 d9 d10⌝
    ∗ owns (c : Thread nD τ) (Memref.whole cc0_scratch0) fullShare d8 ∗ owns (c : Thread nD τ) (Memref.whole cc0_scratch1) fullShare d9
    ∗ owns (c : Thread nD τ) (Memref.whole cc0_scratch2) fullShare d10
    ∗ (∃ d, owns (c : Thread nD τ) (Memref.whole cc0_scratch3) fullShare d) ∗ (∃ d, owns (c : Thread nD τ) (Memref.whole cc0_scratch4) fullShare d)
    ∗ ∃ r, prngReg c r)

/-- The result block of point `t`: the attention's quotients at its rows and channels. -/
def outBlock (c : Dev nD) (t : ℕ) (y : S4096x128.Idx) : EReal :=
  quotient (hQ m c (t / 16) (t / 2 % 8)) (hK m c (t / 16) (t / 2 % 8)) (hC m c (t / 16) (t / 2 % 8)) (hV m c (t / 16) (t / 2 % 8))
    (4096 * (t % 2) + (y 0).val) (y 1).val

/-- The proof data of the run that keeps the values: every input's block left in place, the output's block the attention's
    quotients, the key-side scratches carried from a head's first block row to its second. -/
def vdats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => outBlock m c t.val
    | ⟨_ + 5, h⟩ => absurd h (Nat.not_lt.2 (Nat.le_add_left _ _))
  Φ n := primedAt m c n.val
  q _ := fullShare
  owed _ := 0

theorem vdats_A (c : Dev nD) (w : Fin cfg0.W) : (vdats m 0 c).A w = V m c (Pipeline.arrRef spec0 w) := by dsimp only [vdats]

/-- Before the first point nothing is asked of the scratches. -/
theorem primed_in (c : Dev nD) : (Pipeline.ΦA (U := UR sig nD τ) (Val := Elt Ideal) spec0 c : sProp 𝕄) ⊢ primedAt m c 0 := by
  rw [PhiA_eq]
  unfold primedAt
  iintro ⟨⟨⟨%d8, H8⟩, ⟨%d9, H9⟩, ⟨%d10, H10⟩, H11, H12⟩, Hg⟩
  iexists d8, d9, d10
  isplitr
  · ipureintro
    intro h
    exact absurd h (by decide)
  isplitl [H8]; · iexact H8
  isplitl [H9]; · iexact H9
  isplitl [H10]; · iexact H10
  isplitl [H11]; · iexact H11
  isplitl [H12]; · iexact H12
  iexact Hg

/-- What the scratches hold may be forgotten. -/
theorem primed_out (c : Dev nD) (n : ℕ) : primedAt m c n ⊢ (Pipeline.ΦA (U := UR sig nD τ) (Val := Elt Ideal) spec0 c : sProp 𝕄) := by
  rw [PhiA_eq]
  unfold primedAt
  iintro ⟨%d8, %d9, %d10, -, H8, H9, H10, H11, H12, Hg⟩
  isplitl [H8 H9 H10 H11 H12]
  · isplitl [H8]; · iexists _; iexact H8
    isplitl [H9]; · iexists _; iexact H9
    isplitl [H10]; · iexists _; iexact H10
    isplitl [H11]; · iexact H11
    iexact H12
  iexact Hg

/-- What the body is called with at point `t`, and what it returns. -/
def valuePre (c : Dev nD) (t : Fin cfg0.N) : sProp 𝕄 :=
  iprop((vdats m 0 c).Φ t.castSucc ∗ (vdats m 0 c).owesAt () t.castSucc
    ∗ (∃ d, owns (c : Thread nD τ) (win0_0.stage (cfg0.slots t 0)) fullShare ((vdats m 0 c).before 0 t d))
    ∗ (∃ d, owns (c : Thread nD τ) (win0_1.stage (cfg0.slots t 1)) fullShare ((vdats m 0 c).before 1 t d))
    ∗ (∃ d, owns (c : Thread nD τ) (win0_2.stage (cfg0.slots t 2)) fullShare ((vdats m 0 c).before 2 t d))
    ∗ (∃ d, owns (c : Thread nD τ) (win0_3.stage (cfg0.slots t 3)) fullShare ((vdats m 0 c).before 3 t d))
    ∗ (∃ d, owns (c : Thread nD τ) (win0_4.stage (cfg0.slots t 4)) fullShare ((vdats m 0 c).before 4 t d)))
def valuePost (c : Dev nD) (t : Fin cfg0.N) : sProp 𝕄 :=
  iprop((vdats m 0 c).Φ t.succ ∗ (vdats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (outBlock m c t.val))

theorem sound_value (c : Dev nD) (t : Fin cfg0.N) :
    valuePre m c t ⊢ wp frame (wpE (defs₀ (F := Ideal)) Variants.none c none) Set.univ (bodyAt0 t) (fun _ => valuePost m c t) := by
  obtain ⟨e0, e1, e2⟩ := coords_val t
  have ht : t.val < 64 := t.isLt
  unfold valuePre valuePost bodyAt0
  simp only [before0_0_of m (vdats m 0 c) (vdats_A m c 0) (fun _ => rfl), before0_1_of m (vdats m 0 c) (vdats_A m c 1) (fun _ => rfl),
    before0_2_of m (vdats m 0 c) (vdats_A m c 2) (fun _ => rfl), before0_3_of m (vdats m 0 c) (vdats_A m c 3) (fun _ => rfl)]
  rw [show (vdats m 0 c).Φ t.succ = primedAt m c (t.val + 1) from rfl,
    show (vdats m 0 c).owesAt () t.succ = (vdats m 0 c).owesAt () t.castSucc from rfl,
    show (vdats m 0 c).Φ t.castSucc = primedAt m c t.val from rfl]
  unfold primedAt owns
  iintro ⟨⟨%d8, %d9, %d10, %hp, ⟨%f8, %hf8, H8⟩, ⟨%f9, %hf9, H9⟩, ⟨%f10, %hf10, H10⟩, ⟨%d11, %f11, -, H11⟩, ⟨%d12, %f12, -, H12⟩, Hg⟩, HO, ⟨%d0, %X3, %h3, H3⟩, ⟨%d1, %X4, %h4, H4⟩, ⟨%d2, %X5, %h5, H5⟩, ⟨%d3, %X6, %h6, H6⟩, ⟨%d4, %f7, -, H7⟩⟩
  iapply (step_value c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) X3 X4 X5 X6 f7 f8 f9 f10 f11 f12
    (Q := hQ m c (t.val / 16) (t.val / 2 % 8)) (K := hK m c (t.val / 16) (t.val / 2 % 8)) (C := hC m c (t.val / 16) (t.val / 2 % 8)) (v := hV m c (t.val / 16) (t.val / 2 % 8))
    (fun y => by rw [e2]; exact (congrFun h3 y).trans (block_q m c t y))
    (fun y => (congrFun h4 y).trans (block_k m c t y))
    (fun y => (congrFun h5 y).trans (block_v m c t y))
    (fun y => (congrFun h6 y).trans (block_c m c t y))
    (fun h y => (congrFun hf8 y).trans ((hp (by omega)).v y))
    (fun h y => (congrFun hf9 y).trans ((hp (by omega)).g y))
    (fun h y => (congrFun hf10 y).trans ((hp (by omega)).k y))
    Set.univ _)
  isplitl [H3 H4 H5 H6 H7 H8 H9 H10 H11 H12]
  · isplitl [H5 H6 H8 H9 H10]
    · isplitl [H5]; · iexact H5
      isplitl [H6]; · iexact H6
      isplitl [H8]; · iexact H8
      isplitl [H9]; · iexact H9
      iexact H10
    isplitl [H3]; · iexact H3
    isplitl [H4]; · iexact H4
    isplitl [H7]; · iexact H7
    isplitl [H11]; · iexact H11
    iexact H12
  iintro ⟨H3, H4, H5, H6, ⟨%g7, %hr7, H7⟩, ⟨%g8, %hr8, H8⟩, ⟨%g9, %hr9, H9⟩, ⟨%g10, %hr10, H10⟩, ⟨%g11, H11⟩, ⟨%g12, H12⟩⟩
  isplitl [H8 H9 H10 H11 H12 Hg]
  · iexists ((Memref.whole cc0_scratch0).view.read (Elt Ideal) g8), ((Memref.whole cc0_scratch1).view.read (Elt Ideal) g9), ((Memref.whole cc0_scratch2).view.read (Elt Ideal) g10)
    isplitr
    · ipureintro
      intro h
      have q1 : (t.val + 1) / 16 = t.val / 16 := by omega
      have q2 : (t.val + 1) / 2 % 8 = t.val / 2 % 8 := by omega
      rw [q1, q2]
      exact ⟨hr8, hr9, hr10⟩
    isplitl [H8]; · iexists _; isplitr; swap; · iexact H8
                    ipureintro; rfl
    isplitl [H9]; · iexists _; isplitr; swap; · iexact H9
                    ipureintro; rfl
    isplitl [H10]; · iexists _; isplitr; swap; · iexact H10
                     ipureintro; rfl
    isplitl [H11]; · iexists _, _; isplitr; swap; · iexact H11
                     ipureintro; rfl
    isplitl [H12]; · iexists _, _; isplitr; swap; · iexact H12
                     ipureintro; rfl
    iexact Hg
  isplitl [HO]; · iexact HO
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro; exact h6
  iexists _; isplitr; swap; · iexact H7
  ipureintro
  funext y
  refine (hr7 y).trans ?_
  rw [e2]
  rfl

/-- The library's body obligation with the output's value kept. -/
theorem value_obligation (c : Dev nD) :
    BodyObligation (vdats m 0 c) (defs₀ (F := Ideal)) Variants.none () Set.univ := fun t => by
  rw [bigSep_W0, bigSep_W0, defs₀_row]
  exact triple_restated (sound_value m c t) rfl .rfl fun _ => .rfl

set_option backward.isDefEq.respectTransparency.types false in
/-- From any memory with zero counters every weakly fair execution of the program terminates with the arrays at the contents
    the proof data name and every semaphore counter at zero. -/
theorem run_value :
    θ_run defs (onTc (τ := τ) (main (F := Ideal))) (s₀ m ρ)
      (fun r => Pipeline.FramePost cfgs (vdats m) 0 (V m) r ∧ r.2.sem = fun _ => 0) :=
  Pipeline.θ_run_frame_track (Q' := _) cfgs (vdats m) (0 : Fin 1) launch0 defs₀ Variants.none m ρ main
    (hbody := fun c => (value_obligation m c).loose) (hshare := fun c => (vdats m 0 c).share_full fun _ => rfl)
    (howed := fun _ _ => rfl) (V := V m) (hmain := hmain m Variants.none) (hA := vdats_A m)
    (hin := fun c => primed_in m c) (hout := fun c => primed_out m c _)

/-- The result array. -/
def result (aq ak av : (⟨2, ![32768, 1024]⟩ : Shape).Idx → EReal) (ac : (⟨2, ![32, 8192]⟩ : Shape).Idx → EReal) (y : (⟨2, ![32768, 1024]⟩ : Shape).Idx) : EReal :=
  attend aq ak av ac ((y 0).val / 8192) ((y 1).val / 128) ((y 0).val % 8192) ((y 1).val % 128)

theorem result_holds (c : Dev nD) :
    (vdats m 0 c).arrAt 4 cfg0.N = result (m ((c : Thread nD τ).loc main_arg0)) (m ((c : Thread nD τ).loc main_arg1)) (m ((c : Thread nD τ).loc main_arg2)) (m ((c : Thread nD τ).loc main_arg3)) := by
  refine (vdats m 0 c).arrAt_eq_of_covers 4 _ (by decide +kernel) fun t hf y => ?_
  blk_simp
  show outBlock m c t.val y = result _ _ _ _ _
  have h0 : (y 0).val < 4096 := (y 0).isLt
  have h1 : (y 1).val < 128 := (y 1).isLt
  have ht : t.val < 64 := t.isLt
  unfold result outBlock attend
  blk_simp [index4]
  have q1 : ((2 * (t.val / 16) + t.val % 2) * 4096 + (y 0).val) / 8192 = t.val / 16 := by omega
  have q2 : (t.val / 2 % 8 * 128 + (y 1).val) / 128 = t.val / 2 % 8 := by omega
  have q3 : ((2 * (t.val / 16) + t.val % 2) * 4096 + (y 0).val) % 8192 = 4096 * (t.val % 2) + (y 0).val := by omega
  have q4 : (t.val / 2 % 8 * 128 + (y 1).val) % 128 = (y 1).val := by omega
  rw [q1, q2, q3, q4]

/-- The kernel's run: the result array holds the attention of every head, the arguments are unchanged. -/
theorem value_holds :
    θ_run defs (onTc (τ := τ) (main (F := Ideal))) ⟨m, fun _ => 0, ρ⟩ (fun r => ∀ c : Dev nD,
      r.2.mem ((c.tc : Thread nD τ).loc main_v1) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (result_holds m c),
      ((h.1 c).1 0).trans (((vdats m 0 c).arrAt_in 0 rfl _).trans ((vdats_A m c 0).trans (V_main_arg0 m c))),
      ((h.1 c).1 1).trans (((vdats m 0 c).arrAt_in 1 rfl _).trans ((vdats_A m c 1).trans (V_main_arg1 m c))),
      ((h.1 c).1 2).trans (((vdats m 0 c).arrAt_in 2 rfl _).trans ((vdats_A m c 2).trans (V_main_arg2 m c))),
      ((h.1 c).2 main_arg3 (Pipeline.mem_restRefs_of main_arg3 (by decide) (by decide))).trans (V_main_arg3 m c)⟩) (run_value m ρ)

end Cert.KernelIdeal.Flash

end
-- ==== Proof.Softmax.lean ====
module

public import proofs.«01_k».proof.Proof.ValueStep
public import Mathlib.Data.EReal.Operations
public import Mathlib.Data.EReal.Inv
public import Mathlib.Data.Finset.Fold

@[expose] public section

noncomputable section

namespace Cert.KernelIdeal.Flash

open Idealize.ShloMosaic

/-! The attention of one head as a softmax, and that the kernel's quotient of unnormalised totals equals it when the
queries, the keys and the gates are finite. The values may be infinite. -/

/-- The masked score of key `n` for query `t`. -/
def plainScore (Q K : ℕ → ℕ → EReal) (C : ℕ → EReal) (n t : ℕ) : EReal :=
  if n ≤ t then (∑ d : Fin 128, Q t d.val * K n d.val) + C t - C n else ⊥

/-- The largest score of query `t`. -/
def plainMax (Q K : ℕ → ℕ → EReal) (C : ℕ → EReal) (t : ℕ) : EReal :=
  Finset.fold max ⊥ (fun n : Fin 8192 => plainScore Q K C n.val t) Finset.univ

/-- Two to the power of a score less the largest one. -/
def plainPower (Q K : ℕ → ℕ → EReal) (C : ℕ → EReal) (n t : ℕ) : EReal :=
  Ideal.pow 2 (plainScore Q K C n t - plainMax Q K C t)

/-- The values weighted by the softmax of the scores. -/
def plainAttend (Q K : ℕ → ℕ → EReal) (C : ℕ → EReal) (v : ℕ → ℕ → EReal) (t d : ℕ) : EReal :=
  ∑ n : Fin 8192, v n.val d * Ideal.div (plainPower Q K C n.val t) (∑ k : Fin 8192, plainPower Q K C k.val t)

/-- A sum of reals is real. -/
theorem sum_real {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A nonnegative real factor comes out of a sum, whatever its terms. -/
theorem mul_sum_real {ι : Type} (s : Finset ι) (a : ℝ) (ha : 0 ≤ a) (f : ι → EReal) :
    (∑ i ∈ s, (a : EReal) * f i) = (a : EReal) * ∑ i ∈ s, f i := by
  classical
  induction s using Finset.induction_on with
  | empty => simp
  | insert b s h ih =>
    rw [Finset.sum_insert h, Finset.sum_insert h, ih,
      EReal.left_distrib_of_nonneg_of_ne_top (EReal.coe_nonneg.2 ha) (EReal.coe_ne_top a)]

/-- The totals of the first `N` key blocks are sums over their keys. -/
theorem total_eq (Q K : ℕ → ℕ → EReal) (C : ℕ → EReal) (v : ℕ → ℕ → EReal) (r t : ℕ) (f : ℕ → EReal)
    (hf : ∀ j s, valueRows v j r s = f (512 * j + s)) :
    ∀ N, total Q K C (valueRows v) N r t = ∑ k ∈ Finset.range (512 * N), f k * weight Q K C k t
  | 0 => by simp [total]
  | N + 1 => by
    rw [total, total_eq Q K C v r t f hf N, Nat.mul_succ, Finset.sum_range_add]
    congr 1
    unfold gain
    rw [Finset.sum_range]
    exact Finset.sum_congr rfl fun s _ => by rw [hf]

/-- The block totals that reach a query's own block are sums over all keys. -/
theorem total_all (Q K : ℕ → ℕ → EReal) (C : ℕ → EReal) (v : ℕ → ℕ → EReal) (r t : ℕ) (ht : t < 8192) (f : ℕ → EReal)
    (hf : ∀ j s, valueRows v j r s = f (512 * j + s)) :
    total Q K C (valueRows v) (8 * (t / 4096) + 8) r t = ∑ n : Fin 8192, f n.val * weight Q K C n.val t := by
  rw [total_eq Q K C v r t f hf, ← Finset.sum_range (fun k => f k * weight Q K C k t)]
  refine Finset.sum_subset (fun k hk => ?_) fun k _ hk => ?_
  · rw [Finset.mem_range] at hk ⊢
    omega
  · rw [Finset.mem_range] at hk
    rw [weight, if_neg (by omega), mul_zero]

/-- With finite queries, keys and gates every score is real. -/
theorem score_real {Q K : ℕ → ℕ → EReal} {C : ℕ → EReal} (hQ : ∀ t d, ∃ r : ℝ, Q t d = r) (hK : ∀ n d, ∃ r : ℝ, K n d = r)
    (hC : ∀ n, ∃ r : ℝ, C n = r) (n t : ℕ) : ∃ r : ℝ, score Q K C n t = r := by
  choose q hq using hQ
  choose k hk using hK
  choose g hg using hC
  refine ⟨(∑ d : Fin 128, k n d.val * q t d.val) + g t - g n, ?_⟩
  unfold score
  simp only [hq, hk, hg, ← EReal.coe_mul, sum_real, ← EReal.coe_add, ← EReal.coe_sub]

/-- The masked score is the kernel's where the key is not after the query. -/
theorem plainScore_eq (Q K : ℕ → ℕ → EReal) (C : ℕ → EReal) (n t : ℕ) :
    plainScore Q K C n t = if n ≤ t then score Q K C n t else ⊥ := by
  unfold plainScore score
  simp only [mul_comm (Q t _)]

/-- With real scores the largest one is real. -/
theorem max_real {Q K : ℕ → ℕ → EReal} {C : ℕ → EReal} {ξ : ℕ → ℕ → ℝ} (h : ∀ n t, score Q K C n t = ξ n t) (t : ℕ) :
    ∃ r : ℝ, plainMax Q K C t = r := by
  have h1 : plainMax Q K C t < ⊤ := by
    unfold plainMax
    rw [Finset.fold_max_lt]
    refine ⟨bot_lt_top, fun n _ => ?_⟩
    rw [plainScore_eq]
    split
    · rw [h]; exact EReal.coe_lt_top _
    · exact bot_lt_top
  have h2 : ⊥ < plainMax Q K C t := by
    unfold plainMax
    rw [Finset.lt_fold_max]
    refine Or.inr ⟨0, Finset.mem_univ _, ?_⟩
    rw [plainScore_eq, if_pos (show ((0 : Fin 8192)).val ≤ t from Nat.zero_le _), h]
    exact EReal.bot_lt_coe _
  exact ⟨(plainMax Q K C t).toReal, (EReal.coe_toReal h1.ne h2.ne').symm⟩

/-- The kernel's quotient is the softmax attention. -/
theorem quotient_eq {Q K : ℕ → ℕ → EReal} {C : ℕ → EReal} (hQ : ∀ t d, ∃ r : ℝ, Q t d = r) (hK : ∀ n d, ∃ r : ℝ, K n d = r)
    (hC : ∀ n, ∃ r : ℝ, C n = r) (v : ℕ → ℕ → EReal) (t d : ℕ) (ht : t < 8192) (hd : d < 128) :
    quotient Q K C v t d = plainAttend Q K C v t d := by
  choose ξ hξ using score_real hQ hK hC
  obtain ⟨μ, hμ⟩ := max_real hξ t
  -- the reference's powers and the kernel's weights, as reals
  let w : ℕ → ℝ := fun n => if n ≤ t then (2 : ℝ) ^ (ξ n t - μ) else 0
  have hw0 : ∀ n, 0 ≤ w n := fun n => by
    show 0 ≤ if n ≤ t then (2 : ℝ) ^ (ξ n t - μ) else 0
    split
    · exact (Real.rpow_pos_of_pos two_pos _).le
    · exact le_rfl
  have hp : ∀ n, plainPower Q K C n t = (w n : EReal) := fun n => by
    show Ideal.pow 2 (plainScore Q K C n t - plainMax Q K C t) = ((if n ≤ t then (2 : ℝ) ^ (ξ n t - μ) else 0 : ℝ) : EReal)
    rw [plainScore_eq, hμ, show (2 : EReal) = ((2 : ℝ) : EReal) from rfl]
    split
    · rw [hξ, ← EReal.coe_sub, Ideal.pow_coe_coe]
      rfl
    · rw [EReal.bot_sub, Ideal.pow_coe_bot, if_neg (by norm_num), if_pos (by norm_num)]
      rfl
  let a : ℝ := (2 : ℝ) ^ μ
  have ha : 0 < a := Real.rpow_pos_of_pos two_pos _
  have hwt : ∀ n, weight Q K C n t = (a : EReal) * (w n : EReal) := fun n => by
    rw [← EReal.coe_mul]
    show weight Q K C n t = (((2 : ℝ) ^ μ * if n ≤ t then (2 : ℝ) ^ (ξ n t - μ) else 0 : ℝ) : EReal)
    unfold weight
    split
    · rw [hξ, Ideal.exp2_coe, ← Real.rpow_add two_pos, add_sub_cancel]
      rfl
    · rw [mul_zero]
      rfl
  let s : ℝ := ∑ n : Fin 8192, w n.val
  have hs : 0 < s := Finset.sum_pos' (fun n _ => hw0 n.val) ⟨0, Finset.mem_univ _, by
    show 0 < if ((0 : Fin 8192)).val ≤ t then (2 : ℝ) ^ (ξ ((0 : Fin 8192)).val t - μ) else 0
    rw [if_pos (show ((0 : Fin 8192)).val ≤ t from Nat.zero_le _)]
    exact Real.rpow_pos_of_pos two_pos _⟩
  -- the two totals
  have hden : total Q K C (valueRows v) (8 * (t / 4096) + 8) 128 t = ((a * s : ℝ) : EReal) := by
    rw [total_all Q K C v 128 t ht (fun _ => 1) fun j s => by rw [valueRows, if_neg (by omega), if_pos rfl]]
    simp only [one_mul, hwt]
    rw [mul_sum_real _ _ ha.le, sum_real, ← EReal.coe_mul]
  have hnum : total Q K C (valueRows v) (8 * (t / 4096) + 8) d t = (a : EReal) * ∑ n : Fin 8192, v n.val d * (w n.val : EReal) := by
    rw [total_all Q K C v d t ht (fun n => v n d) fun j s => by rw [valueRows, if_pos hd], ← mul_sum_real _ _ ha.le]
    exact Finset.sum_congr rfl fun n _ => by rw [hwt, mul_left_comm]
  have hne : a * s ≠ 0 := (mul_pos ha hs).ne'
  have hs0 : ((s : ℝ) : EReal) ≠ 0 := by
    rw [Ne, EReal.coe_eq_zero]
    exact hs.ne'
  have hr : plainAttend Q K C v t d = ((s⁻¹ : ℝ) : EReal) * ∑ n : Fin 8192, v n.val d * (w n.val : EReal) := by
    unfold plainAttend
    simp only [hp]
    rw [sum_real, ← mul_sum_real _ _ (inv_pos.2 hs).le]
    refine Finset.sum_congr rfl fun n _ => ?_
    show v n.val d * Ideal.div (w n.val) (s : EReal) = _
    rw [Ideal.div, if_neg hs0, ← EReal.coe_inv, mul_comm ((w n.val : ℝ) : EReal), mul_left_comm]
  have hinv : (a * s)⁻¹ * a = s⁻¹ := by
    rw [mul_inv, mul_comm, ← mul_assoc, mul_inv_cancel₀ ha.ne', one_mul]
  rw [hr]
  unfold quotient
  rw [hden, hnum, Ideal.div, if_neg (by rw [EReal.coe_eq_zero]; exact hne), ← EReal.coe_inv, mul_comm, ← mul_assoc, ← EReal.coe_mul]
  rw [hinv]

end Cert.KernelIdeal.Flash

end
-- ==== Proof.Reference.lean ====
module

public import proofs.«01_k».proof.Proof.Gen.ReferenceIdeal.Run
public import proofs.«01_k».proof.Proof.Arrays
public import proofs.«01_k».proof.Proof.Softmax
public import Idealize.ShloMosaic.Lib.Pointwise
public import Idealize.ShloMosaic.Lib.WordCmp

@[expose] public section

set_option maxRecDepth 16384
set_option maxHeartbeats 1000000

noncomputable section

namespace Cert.ReferenceIdeal.Plain

open Cert.ReferenceIdeal Cert.ReferenceIdeal.Gen Cert.ReferenceIdeal.Value
open Idealize.ShloMosaic Idealize.ShloMosaic.TcCoe
open Cert.KernelIdeal.Flash (headRow headGate plainScore plainPower plainAttend)

/-- The masked scores of the reference. -/
def scores (q k : FVec Ideal S32768x1024 .bf16) (g : FVec Ideal S32x8192 .f32) : FVec Ideal S4x8x8192x8192 .f32 :=
  select (broadcastInDim S4x8x8192x8192 ![0, 1, 2, 3] bcast_S1x1x8192x8192_S4x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (subf (addf (extf .f32 (truncf .bf16 (Host.dotGeneral dot_S4x8192x8x128_S4x8192x8x128_S4x8x8192x8192_3_3_1_1_02_02 none (shapeCast S4x8192x8x128 (extf .f32 q bitsLt_bf16_f32) shapeCasts_S32768x1024_S4x8192x8x128) (shapeCast S4x8192x8x128 (extf .f32 k bitsLt_bf16_f32) shapeCasts_S32768x1024_S4x8192x8x128)) bitsLt_bf16_f32) bitsLt_bf16_f32) (broadcastInDim S4x8x8192x8192 ![0, 1, 2, 3] bcast_S4x8x8192x1_S4x8x8192x8192_0_1_2_3 (broadcastInDim S4x8x8192x1 ![0, 1, 2] bcast_S4x8x8192_S4x8x8192x1_0_1_2 (shapeCast S4x8x8192 g shapeCasts_S32x8192_S4x8x8192)))) (broadcastInDim S4x8x8192x8192 ![0, 1, 2, 3] bcast_S4x8x1x8192_S4x8x8192x8192_0_1_2_3 (broadcastInDim S4x8x1x8192 ![0, 1, 3] bcast_S4x8x8192_S4x8x1x8192_0_1_3 (shapeCast S4x8x8192 g shapeCasts_S32x8192_S4x8x8192)))) (broadcastInDim S4x8x8192x8192 ![] bcast_S_S4x8x8192x8192 (id (constant S_ .f32 0xFF800000#32)))

/-- Two to the power of the scores less their row's maximum. -/
def powers (x : FVec Ideal S4x8x8192x8192 .f32) : FVec Ideal S4x8x8192x8192 .f32 :=
  Host.powf (broadcastInDim S4x8x8192x8192 ![] bcast_S_S4x8x8192x8192 (constant S_ .f32 0x40000000#32)) (subf x (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduce FloatOps.maximumf x (constant S_ .f32 0xFF800000#32) reducesTo_S4x8x8192x8192_S4x8x8192_d3 h_S_))))

/-- The powers divided by their row's sum. -/
def shares (w : FVec Ideal S4x8x8192x8192 .f32) : FVec Ideal S4x8x8192x8192 .f32 :=
  Host.divf w (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd w (constant S_ .f32 0x00000000#32) reducesTo_S4x8x8192x8192_S4x8x8192_d3 h_S_)))

/-- The values weighted by the shares, as rows. -/
def rows (v : FVec Ideal S32768x1024 .bf16) (p : FVec Ideal S4x8x8192x8192 .f32) : FVec Ideal S32768x1024 .bf16 :=
  truncf .bf16 (shapeCast S32768x1024 (transpose S4x8192x8x128 [0, 3, 1, 2] (Host.dotGeneral dot_S4x8192x8x128_S4x8x8192x8192_S4x8x128x8192_1_3_3_2_02_01 none (shapeCast S4x8192x8x128 (extf .f32 v bitsLt_bf16_f32) shapeCasts_S32768x1024_S4x8192x8x128) (extf .f32 (truncf .bf16 p bitsLt_bf16_f32) bitsLt_bf16_f32)) transposes_S4x8x128x8192_S4x8192x8x128_0_3_1_2) shapeCasts_S4x8192x8x128_S32768x1024) bitsLt_bf16_f32

/-- The reference's result is these four steps. -/
theorem result_eq (m : (ℓ : Loc nD τ sig) → Buf (Elt Ideal) ℓ) (c : Dev nD) :
    res_main_v39 m c = rows (m ((c.tc : Thread nD τ).loc main_arg2)) (shares (powers (scores (m ((c.tc : Thread nD τ).loc main_arg0)) (m ((c.tc : Thread nD τ).loc main_arg1)) (m ((c.tc : Thread nD τ).loc main_arg3))))) := by
  unfold res_main_v39
  rfl

/-- The mask word is one exactly where the key is not after the query. -/
theorem mask_word (n t : ℕ) (hn : n < 8192) (ht : t < 8192) (x y : EReal) :
    Scalar.select (α := EReal) (IntOp.cmpi CmpIPredicate.sle (BitVec.ofNat 32 n) (BitVec.ofNat 32 t)) x y = if n ≤ t then x else y := by
  rw [WordCmp.cmpi_sle_ofNat (by omega) (by omega)]
  by_cases h : n ≤ t
  · rw [if_pos h, decide_eq_true h]
    rfl
  · rw [if_neg h, decide_eq_false h]
    rfl

theorem ninf_eq : Ideal.ofBits FTy.f32 0xFF800000#32 = ⊥ := by simp [Ideal.ofBits, Ideal.ieee]
theorem two_eq : Ideal.ofBits FTy.f32 0x40000000#32 = 2 := by
  have h : Ideal.ofBits FTy.f32 0x40000000#32 = ((2 : ℝ) : EReal) := by
    simp [Ideal.ofBits, Ideal.ieee, -EReal.coe_mul]
    try norm_num
  exact h

/-- The masked scores at a batch, a head, a query and a key. -/
theorem scores_apply (q k : FVec Ideal S32768x1024 .bf16) (g : FVec Ideal S32x8192 .f32) (x : S4x8x8192x8192.Idx) :
    scores q k g x = plainScore (headRow q (x 0).val (x 1).val) (headRow k (x 0).val (x 1).val) (headGate g (x 0).val (x 1).val) (x 3).val (x 2).val := by
  have h0 : (x 0).val < 4 := (x 0).isLt
  have h1 : (x 1).val < 8 := (x 1).isLt
  have h2 : (x 2).val < 8192 := (x 2).isLt
  have h3 : (x 3).val < 8192 := (x 3).isLt
  unfold scores
  pointwise
  refine (mask_word (x 3).val (x 2).val h3 h2 _ _).trans ?_
  unfold plainScore
  refine if_congr Iff.rfl ?_ ninf_eq
  refine congrArg₂ (fun u w : EReal => u - w) (congrArg₂ (fun u w : EReal => u + w) (Finset.sum_congr rfl fun d _ => congrArg₂ (fun u w : EReal => u * w) ?_ ?_) ?_) ?_
  · refine congrArg q (congrArg₂ (ix2 (n0 := 32768) (n1 := 1024)) (Fin.ext ?_) (Fin.ext ?_))
    · show (x 0).val * 8192 + (x 2).val = (8192 * (x 0).val + (x 2).val) % 32768
      omega
    · show (x 1).val * 128 + d.val = (128 * (x 1).val + d.val) % 1024
      omega
  · refine congrArg k (congrArg₂ (ix2 (n0 := 32768) (n1 := 1024)) (Fin.ext ?_) (Fin.ext ?_))
    · show (x 0).val * 8192 + (x 3).val = (8192 * (x 0).val + (x 3).val) % 32768
      omega
    · show (x 1).val * 128 + d.val = (128 * (x 1).val + d.val) % 1024
      omega
  · refine congrArg g (congrArg₂ (ix2 (n0 := 32) (n1 := 8192)) (Fin.ext ?_) (Fin.ext ?_))
    · show (x 0).val * 8 + (x 1).val = (8 * (x 0).val + (x 1).val) % 32
      omega
    · show (x 2).val = (x 2).val % 8192
      omega
  · refine congrArg g (congrArg₂ (ix2 (n0 := 32) (n1 := 8192)) (Fin.ext ?_) (Fin.ext ?_))
    · show (x 0).val * 8 + (x 1).val = (8 * (x 0).val + (x 1).val) % 32
      omega
    · show (x 3).val = (x 3).val % 8192
      omega

/-- The powers at a batch, a head, a query and a key. -/
theorem powers_apply (w : FVec Ideal S4x8x8192x8192 .f32) (Q K : ℕ → ℕ → ℕ → ℕ → EReal) (C : ℕ → ℕ → ℕ → EReal)
    (hw : ∀ x, w x = plainScore (Q (x 0).val (x 1).val) (K (x 0).val (x 1).val) (C (x 0).val (x 1).val) (x 3).val (x 2).val) (x : S4x8x8192x8192.Idx) :
    powers w x = plainPower (Q (x 0).val (x 1).val) (K (x 0).val (x 1).val) (C (x 0).val (x 1).val) (x 3).val (x 2).val := by
  unfold powers
  pointwise
  rw [ninf_eq, two_eq]
  simp only [hw]
  rfl

/-- The shares at a batch, a head, a query and a key. -/
theorem shares_apply (w : FVec Ideal S4x8x8192x8192 .f32) (x : S4x8x8192x8192.Idx) :
    shares w x = Ideal.div (w x) (∑ n : Fin 8192, w (ix4 (x 0) (x 1) (x 2) n)) := by
  unfold shares
  pointwise

/-- The rows at a position and a channel. -/
theorem rows_apply (v : FVec Ideal S32768x1024 .bf16) (p : FVec Ideal S4x8x8192x8192 .f32) (P : ℕ → ℕ → ℕ → ℕ → EReal)
    (hp : ∀ x, p x = P (x 0).val (x 1).val (x 2).val (x 3).val) (x : S32768x1024.Idx) :
    rows v p x = ∑ n : Fin 8192, headRow v ((x 0).val / 8192) ((x 1).val / 128) n.val ((x 1).val % 128) * P ((x 0).val / 8192) ((x 1).val / 128) ((x 0).val % 8192) n.val := by
  have h0 : (x 0).val < 32768 := (x 0).isLt
  have h1 : (x 1).val < 1024 := (x 1).isLt
  unfold rows
  pointwise
  refine Finset.sum_congr rfl fun n _ => congrArg₂ (fun u w : EReal => u * w) ?_ ?_
  · refine congrArg v (congrArg₂ (ix2 (n0 := 32768) (n1 := 1024)) (Fin.ext ?_) (Fin.ext ?_))
    · show (x 0).val / 8192 * 8192 + n.val = (8192 * ((x 0).val / 8192) + n.val) % 32768
      omega
    · show (x 1).val = (128 * ((x 1).val / 128) + (x 1).val % 128) % 1024
      omega
  · exact hp _

/-- The reference's result is the softmax attention. -/
theorem result_apply (m : (ℓ : Loc nD τ sig) → Buf (Elt Ideal) ℓ) (c : Dev nD) (x : S32768x1024.Idx) :
    res_main_v39 m c x = plainAttend
      (headRow (m ((c.tc : Thread nD τ).loc main_arg0)) ((x 0).val / 8192) ((x 1).val / 128))
      (headRow (m ((c.tc : Thread nD τ).loc main_arg1)) ((x 0).val / 8192) ((x 1).val / 128))
      (headGate (m ((c.tc : Thread nD τ).loc main_arg3)) ((x 0).val / 8192) ((x 1).val / 128))
      (headRow (m ((c.tc : Thread nD τ).loc main_arg2)) ((x 0).val / 8192) ((x 1).val / 128))
      ((x 0).val % 8192) ((x 1).val % 128) := by
  rw [result_eq]
  refine (rows_apply _ _ (fun b h t n => Ideal.div
      (plainPower (headRow (m ((c.tc : Thread nD τ).loc main_arg0)) b h) (headRow (m ((c.tc : Thread nD τ).loc main_arg1)) b h) (headGate (m ((c.tc : Thread nD τ).loc main_arg3)) b h) n t)
      (∑ k : Fin 8192, plainPower (headRow (m ((c.tc : Thread nD τ).loc main_arg0)) b h) (headRow (m ((c.tc : Thread nD τ).loc main_arg1)) b h) (headGate (m ((c.tc : Thread nD τ).loc main_arg3)) b h) k.val t))
    (fun y => ?_) x).trans rfl
  have e := powers_apply _ (headRow (m ((c.tc : Thread nD τ).loc main_arg0))) (headRow (m ((c.tc : Thread nD τ).loc main_arg1))) (headGate (m ((c.tc : Thread nD τ).loc main_arg3)))
    (scores_apply (m ((c.tc : Thread nD τ).loc main_arg0)) (m ((c.tc : Thread nD τ).loc main_arg1)) (m ((c.tc : Thread nD τ).loc main_arg3)))
  rw [shares_apply, e]
  exact congrArg _ (Finset.sum_congr rfl fun n _ => e _)

end Cert.ReferenceIdeal.Plain

end
-- ==== Proof.Finite.lean ====
module

public import proofs.«01_k».proof.Defs
public import Idealize.ShloMosaic.Lib.Pointwise

@[expose] public section

noncomputable section

namespace Cert.KernelIdeal.Flash

open Idealize.ShloMosaic Idealize.ShloMosaic.TcCoe

/-- The side conditions of the precondition's printed function. -/
theorem finite_facts : Cert.Pre_finite.Facts where
  bitsLt_bf16_f32 := by decide
  bcast_S_S32768x1024 := by decide
  bcast_S_S32x8192 := by decide

/-- A test that an absolute value is below infinity, passed, says the number is real. -/
theorem real_of_test (x : EReal) (h : BitVec.ofBool (decide (FloatOps.absf (F := Ideal) (φ := .f32) x < Ideal.ofBits FTy.f32 0x7F800000#32)) = 1#1) :
    ∃ r : ℝ, x = r := by
  have ht : Ideal.ofBits FTy.f32 0x7F800000#32 = ⊤ := by simp [Ideal.ofBits, Ideal.ieee]
  rw [ht] at h
  have hx : max x (-x) < (⊤ : EReal) := by
    by_contra hn
    rw [decide_eq_false (show ¬ FloatOps.absf (F := Ideal) (φ := .f32) x < (⊤ : EReal) from hn)] at h
    exact absurd h (by decide)
  induction x using EReal.rec with
  | bot => exact absurd hx (by simp)
  | coe r => exact ⟨r, rfl⟩
  | top => exact absurd hx (by simp)

variable [Cert.Pre_finite.Facts]

/-- The precondition's first test says every query is real. -/
theorem finite_q (q k v : FVec Ideal Cert.Pre_finite.S32768x1024 .bf16) (g : FVec Ideal Cert.Pre_finite.S32x8192 .f32)
    (h : (Cert.Pre_finite.fn (F := Ideal) q k v g).1 = fun _ => 1#1) (x : Cert.Pre_finite.S32768x1024.Idx) : ∃ r : ℝ, q x = r := by
  have e := congrFun h x
  unfold Cert.Pre_finite.fn at e
  dsimp only at e
  pointwise at e
  exact real_of_test _ e

/-- The precondition's second test says every key is real. -/
theorem finite_k (q k v : FVec Ideal Cert.Pre_finite.S32768x1024 .bf16) (g : FVec Ideal Cert.Pre_finite.S32x8192 .f32)
    (h : (Cert.Pre_finite.fn (F := Ideal) q k v g).2.1 = fun _ => 1#1) (x : Cert.Pre_finite.S32768x1024.Idx) : ∃ r : ℝ, k x = r := by
  have e := congrFun h x
  unfold Cert.Pre_finite.fn at e
  dsimp only at e
  pointwise at e
  exact real_of_test _ e

/-- The precondition's third test says every gate is real. -/
theorem finite_c (q k v : FVec Ideal Cert.Pre_finite.S32768x1024 .bf16) (g : FVec Ideal Cert.Pre_finite.S32x8192 .f32)
    (h : (Cert.Pre_finite.fn (F := Ideal) q k v g).2.2 = fun _ => 1#1) (x : Cert.Pre_finite.S32x8192.Idx) : ∃ r : ℝ, g x = r := by
  have e := congrFun h x
  unfold Cert.Pre_finite.fn at e
  dsimp only at e
  pointwise at e
  exact real_of_test _ e

end Cert.KernelIdeal.Flash

end
-- ==== Proof.Conv.Rows.lean ====
module

public import Idealize.ShloMosaic.PureOps.Ideal

@[expose] public section

noncomputable section

namespace Cert.Conv

open Idealize.ShloMosaic

/-- The gate function: a number times its logistic. -/
def silu (z : EReal) : EReal :=
  z * Ideal.div 1 (1 + Ideal.exp (-z))

/-- The residual row: the input plus the gated attention times the output weights. -/
def resid (X G O Wa : ℕ → ℕ → EReal) (r d : ℕ) : EReal :=
  X r d + ∑ e : Fin 1024, silu (G r e.val) * O r e.val * Wa e.val d

/-- A row over the root of its mean square, times the norm's weights. -/
def normed (Y : ℕ → ℕ → EReal) (gn : ℕ → EReal) (r d : ℕ) : EReal :=
  Y r d * Ideal.rsqrt (Ideal.div (∑ e : Fin 1024, Y r e.val * Y r e.val) (Ideal.ofBits FTy.f32 0x44800000#32) + Ideal.ofBits FTy.f32 0x358637BD#32) * gn d

/-- A row times a matrix. -/
def product (N W : ℕ → ℕ → EReal) (r d : ℕ) : EReal :=
  ∑ e : Fin 1024, N r e.val * W e.val d

/-- The convolution's input: the product of two of the projections. -/
def gated (N Wc Wu : ℕ → ℕ → EReal) (r d : ℕ) : EReal :=
  product N Wc r d * product N Wu r d

/-- The value `k` rows before, zero before the start of the stream of 8192 rows. -/
def lag (k : ℕ) (U : ℕ → ℕ → EReal) (r d : ℕ) : EReal :=
  if r % 8192 < k then 0 else U (r - k) d

/-- The three taps of the convolution. -/
def taps (cw l2 l1 l0 : ℕ → ℕ → EReal) (r d : ℕ) : EReal :=
  cw 0 d * l2 r d + cw 1 d * l1 r d + cw 2 d * l0 r d

/-- The output row: the residual row plus the gated convolution times the output weights. -/
def output (Y N Wg Wb Wo T : ℕ → ℕ → EReal) (r d : ℕ) : EReal :=
  Y r d + ∑ e : Fin 1024, silu (product N Wg r e.val) * product N Wb r e.val * T r e.val * Wo e.val d

theorem exp_nonneg (z : EReal) : 0 ≤ Ideal.exp z := by
  induction z using EReal.rec with
  | bot => exact le_of_eq rfl
  | coe r => exact EReal.coe_nonneg.mpr (Real.exp_pos r).le
  | top => exact le_top

/-- The gate function as a quotient. -/
theorem silu_div (z : EReal) :
    Ideal.div z (1 + Ideal.exp (0 - z)) = silu z := by
  rw [zero_sub]
  have h : 1 + Ideal.exp (-z) ≠ 0 := by
    have h1 : (1 : EReal) ≤ 1 + Ideal.exp (-z) := le_add_of_nonneg_right (exp_nonneg _)
    exact ne_of_gt (lt_of_lt_of_le zero_lt_one h1)
  unfold silu Ideal.div
  rw [if_neg h, if_neg h, one_mul]

end Cert.Conv

end
-- ==== Proof.Conv.Step.lean ====
module

public import proofs.«01_k».proof.Proof.Conv.Rows
public import proofs.«01_k».proof.Proof.Gen.Kernel2Ideal.Skeleton
public import Idealize.ShloMosaic.Lib.Pointwise
public import Idealize.ShloMosaic.Lib.WordCmp

@[expose] public section

set_option maxRecDepth 16384
set_option maxHeartbeats 1000000

noncomputable section

namespace Cert.Kernel2Ideal.Conv

open Cert.Kernel2Ideal Cert.Kernel2Ideal.Gen Cert.Conv
open Idealize.ShloMosaic Idealize.ShloMosaic.TcCoe

variable (X G O Wa Wb Wc Wu Wg Wo Y N : ℕ → ℕ → EReal) (gn : ℕ → EReal)

/-- A choice by comparing a row number with a small one. -/
theorem select_eq {a b : ℕ} (x y : EReal) (ha : a < 2 ^ 31) (hb : b < 2 ^ 31) :
    Scalar.select (α := EReal) (IntOp.cmpi CmpIPredicate.eq (BitVec.ofNat 32 a) (BitVec.ofNat 32 b)) x y = if a = b then x else y := by
  rw [WordCmp.cmpi_eq_ofNat (by omega) (by omega)]
  by_cases h : a = b
  · rw [if_pos h, decide_eq_true h]; rfl
  · rw [if_neg h, decide_eq_false h]; rfl

/-- The residual rows of a tile. -/
theorem pay6_apply (v3 v11 : FVec Ideal S512x1024 .bf16) (v14 : FVec Ideal S512x1024 .f32) (v16 : FVec Ideal S1024x1024 .bf16)
    (h3 : ∀ y, v3 y = G (y 0).val (y 1).val) (h11 : ∀ y, v11 y = O (y 0).val (y 1).val) (h14 : ∀ y, v14 y = X (y 0).val (y 1).val)
    (h16 : ∀ y, v16 y = Wa (y 0).val (y 1).val) (y : S512x1024.Idx) :
    k0_pay6 (F := Ideal) v3 v11 v14 v16 y = resid X G O Wa (y 0).val (y 1).val := by
  unfold k0_pay6
  pointwise
  simp only [h3, h11, h14, h16]
  simp only [silu_div]
  rfl

/-- The normed rows of a tile. -/
theorem pay7_apply (v3 v11 : FVec Ideal S512x1024 .bf16) (v14 : FVec Ideal S512x1024 .f32) (v16 : FVec Ideal S1024x1024 .bf16) (v30 : FVec Ideal S1x1024 .f32)
    (h : ∀ y, k0_pay6 (F := Ideal) v3 v11 v14 v16 y = Y (y 0).val (y 1).val) (h30 : ∀ y, v30 y = gn (y 1).val) (y : S512x1024.Idx) :
    k0_pay7 (F := Ideal) v3 v11 v14 v16 v30 y = normed Y gn (y 0).val (y 1).val := by
  unfold k0_pay7
  pointwise
  simp only [h, h30]
  rfl

/-- The convolution's input of a tile. -/
theorem pay9_apply (v34 : FVec Ideal S512x1024 .bf16) (v36 v38 : FVec Ideal S1024x1024 .bf16)
    (h34 : ∀ y, v34 y = N (y 0).val (y 1).val) (h36 : ∀ y, v36 y = Wc (y 0).val (y 1).val) (h38 : ∀ y, v38 y = Wu (y 0).val (y 1).val) (y : S512x1024.Idx) :
    k0_pay9 (F := Ideal) v34 v36 v38 y = gated N Wc Wu (y 0).val (y 1).val := by
  unfold k0_pay9
  pointwise
  simp only [h34, h36, h38]
  rfl

/-- The taps of a tile, from the convolution's input and the two rows before the tile. -/
theorem pay10_apply (v34 : FVec Ideal S512x1024 .bf16) (v36 v38 : FVec Ideal S1024x1024 .bf16) (v42 : FVec Ideal S8x1024 .f32) (v63 : FVec Ideal S3x1024 .f32)
    (U cw : ℕ → ℕ → EReal) (T6 T7 : ℕ → EReal)
    (h : ∀ y, k0_pay9 (F := Ideal) v34 v36 v38 y = U (y 0).val (y 1).val) (h63 : ∀ y, v63 y = cw (y 0).val (y 1).val)
    (h6 : ∀ d, v42 (ix2 6 d) = T6 d.val) (h7 : ∀ d, v42 (ix2 7 d) = T7 d.val) (y : S512x1024.Idx) :
    k0_pay10 (F := Ideal) v34 v36 v38 v42 v63 y = taps cw
      (fun r d => if r = 0 then T6 d else if r = 1 then T7 d else U (r - 2) d) (fun r d => if r = 0 then T7 d else U (r - 1) d) U (y 0).val (y 1).val := by
  unfold k0_pay10
  pointwise
  simp only [h, h63]
  have hy : (y 0).val < 512 := (y 0).isLt
  have e0 := h6 (y 1)
  have e1 := h7 (y 1)
  rw [e0, e1, select_eq _ _ (by omega) (by omega), select_eq _ _ (by omega) (by omega), select_eq _ _ (by omega) (by omega)]
  unfold taps
  refine congrArg₂ (· + ·) (congrArg₂ (· + ·) (congrArg₂ (· * ·) rfl ?_) (congrArg₂ (· * ·) rfl ?_)) rfl
  · by_cases a : (y 0).val = 0
    · simp only [a, if_pos]
    · by_cases b : (y 0).val = 1
      · simp only [b, if_pos, if_neg one_ne_zero]
      · simp only [if_neg a, if_neg b]
        refine congrArg₂ U ?_ rfl
        show ((y 0).val + 512 - 2) % 512 = (y 0).val - 2
        omega
  · by_cases a : (y 0).val = 0
    · simp only [a, if_pos]
    · simp only [if_neg a]
      refine congrArg₂ U ?_ rfl
      show ((y 0).val + 512 - 1) % 512 = (y 0).val - 1
      omega

/-- The output rows of a tile. -/
theorem pay1_apply (v19 : FVec Ideal S512x1024 .f32) (v34 : FVec Ideal S512x1024 .bf16) (v74 : FVec Ideal S512x1024 .f32) (v75 v84 v90 : FVec Ideal S1024x1024 .bf16)
    (T : ℕ → ℕ → EReal)
    (h19 : ∀ y, v19 y = Y (y 0).val (y 1).val) (h34 : ∀ y, v34 y = N (y 0).val (y 1).val) (h74 : ∀ y, v74 y = T (y 0).val (y 1).val)
    (h75 : ∀ y, v75 y = Wg (y 0).val (y 1).val) (h84 : ∀ y, v84 y = Wb (y 0).val (y 1).val) (h90 : ∀ y, v90 y = Wo (y 0).val (y 1).val) (y : S512x1024.Idx) :
    k0_pay1 (F := Ideal) v19 v34 v74 (k0_pay11 v34 v75) (k0_pay12 v34 v75) v84 v90 y = output Y N Wg Wb Wo T (y 0).val (y 1).val := by
  unfold k0_pay1 k0_pay12 k0_pay11
  pointwise
  simp only [h19, h34, h74, h75, h84, h90]
  simp only [silu_div]
  rfl

end Cert.Kernel2Ideal.Conv

end
-- ==== Proof.Conv.Tile.lean ====
module

public import proofs.«01_k».proof.Proof.Conv.Step
public import proofs.«01_k».proof.Proof.Gen.Kernel2Ideal.Frame
public import Idealize.ShloMosaic.Lib.WritesUnit

@[expose] public section

set_option maxRecDepth 16384
set_option maxHeartbeats 4000000

noncomputable section

namespace Cert.Kernel2Ideal.Conv

open Cert.Kernel2Ideal Cert.Kernel2Ideal.Gen Cert.Conv
open Idealize.ShloMosaic Idealize.ShloMosaic.TcCoe

/-- A tile's rows of the convolution's input, from the tile's blocks. -/
def tileIn (x0 : Vec Ideal S512x1024 .f32) (x1 x2 : Vec Ideal S512x1024 .bf16) (x3 : Vec Ideal S1024x1024 .bf16) (x5 : Vec Ideal S1x1024 .f32)
    (x7 x8 : Vec Ideal S1024x1024 .bf16) : FVec Ideal S512x1024 .f32 :=
  k0_pay9 (F := Ideal) (k0_pay7 x1 x2 x0 x3 x5) (k0_pay8 x7) x8

/-- A tile's output rows, from the tile's blocks and the rows kept of the tile before. -/
def tileOut (x0 : Vec Ideal S512x1024 .f32) (x1 x2 : Vec Ideal S512x1024 .bf16) (x3 : Vec Ideal S1024x1024 .bf16) (x5 : Vec Ideal S1x1024 .f32)
    (x6 x7 x8 x9 : Vec Ideal S1024x1024 .bf16) (x10 : Vec Ideal S3x1024 .f32) (x11 : Vec Ideal S1024x1024 .bf16) (tail : Vec Ideal S8x1024 .f32) : FVec Ideal S512x1024 .f32 :=
  k0_pay1 (F := Ideal) (k0_pay6 x1 x2 x0 x3) (k0_pay7 x1 x2 x0 x3 x5) (k0_pay10 (k0_pay7 x1 x2 x0 x3 x5) (k0_pay8 x7) x8 tail x10)
    (k0_pay11 (k0_pay7 x1 x2 x0 x3 x5) x9) (k0_pay12 (k0_pay7 x1 x2 x0 x3 x5) x9) x6 x11

section

variable (c : Dev nD) (i : grid0.Coords)
    (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x2x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S3x1024 .f32) (harg12 : arg12.IsWhole) (arg13 : Memref sig .tc .vmem S1024x1024 .bf16) (harg13 : arg13.IsWhole) (arg14 : Memref sig .tc .vmem S512x1024 .f32) (harg14 : arg14.IsWhole) (arg15 : Memref sig .tc .vmem S1x2x1024 .f32) (harg15 : arg15.IsWhole) (arg16 : Memref sig .tc .vmem S8x1024 .f32) (harg16 : arg16.IsWhole)
    (x0 : Vec Ideal S512x1024 .f32) (x1 : Vec Ideal S512x1024 .bf16) (x2 : Vec Ideal S512x1024 .bf16) (x3 : Vec Ideal S1024x1024 .bf16) (x4 : Vec Ideal S1x2x1024 .f32) (x5 : Vec Ideal S1x1024 .f32) (x6 : Vec Ideal S1024x1024 .bf16) (x7 : Vec Ideal S1024x1024 .bf16) (x8 : Vec Ideal S1024x1024 .bf16) (x9 : Vec Ideal S1024x1024 .bf16) (x10 : Vec Ideal S3x1024 .f32) (x11 : Vec Ideal S1024x1024 .bf16)

theorem offsets2 : (![0, 0] : Fin 2 → Nat) = fun _ => 0 := funext fun a => by fin_cases a <;> rfl

theorem offsets3 : (![0, 0, 0] : Fin 3 → Nat) = fun _ => 0 := funext fun a => by fin_cases a <;> rfl

/-- At a stream's first tile the output rows are taken with the history as the rows before. -/
theorem first_out (hc0 : cond0_0 i) :
    ∃ tail : Vec Ideal S8x1024 .f32, (∀ (a : Fin 8) (b : Fin 2) (d : Fin 1024), a.val = 6 + b.val → tail (ix2 a d) = x4 (ix3 0 b d)) ∧
      out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = tileOut x0 x1 x2 x3 x5 x6 x7 x8 x9 x10 x11 tail := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero offsets2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) offsets2, View.ld_unit_zero (S := S1024x1024) offsets2, View.ld_unit_zero (S := S1x1024) offsets2, View.ld_unit_zero (S := S3x1024) offsets2, View.ld_unit_zero (S := S8x1024) offsets2, View.ld_unit_zero (S := S1x2x1024) offsets3, shapeCast_self]
  refine ⟨_, ?_, rfl⟩
  intro a b d hab
  rw [View.readCov, View.readAt_eq_ld, View.ld_unit_zero (S := S8x1024) offsets2]
  refine (View.read_writes_cons_rows_of_mem _ _ _ _ _ (ix2 a d) (ix2 b d) rfl hab rfl).trans ?_
  unfold k0_pay5
  pointwise

/-- At a stream's first tile the state is the last two rows of the convolution's input. -/
theorem first_state (hc0 : cond0_0 i) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay3 (tileIn x0 x1 x2 x3 x5 x7 x8) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero offsets3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) offsets2, View.ld_unit_zero (S := S1024x1024) offsets2, View.ld_unit_zero (S := S1x1024) offsets2, View.ld_unit_zero (S := S3x1024) offsets2, View.ld_unit_zero (S := S8x1024) offsets2, View.ld_unit_zero (S := S1x2x1024) offsets3, shapeCast_self]
  rfl

/-- At a stream's first tile the rows kept are the last eight of the convolution's input. -/
theorem first_tail (hc0 : cond0_0 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay2 (tileIn x0 x1 x2 x3 x5 x7 x8) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_zero (S := S8x1024) offsets2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) offsets2, View.ld_unit_zero (S := S1024x1024) offsets2, View.ld_unit_zero (S := S1x1024) offsets2, View.ld_unit_zero (S := S3x1024) offsets2, View.ld_unit_zero (S := S8x1024) offsets2, View.ld_unit_zero (S := S1x2x1024) offsets3, shapeCast_self]
  rfl

/-- At a later tile the output rows are taken with the rows kept as the rows before. -/
theorem later_out (hc0 : ¬cond0_0 i) (xs0 : Vec Ideal S8x1024 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 = tileOut x0 x1 x2 x3 x5 x6 x7 x8 x9 x10 x11 xs0 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0)]
  unfold kernelRun0_B
  dsimp only
  sl_unfold_words
  rw [View.canon_unit_zero offsets2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S512x1024) offsets2, View.ld_unit_zero (S := S1024x1024) offsets2, View.ld_unit_zero (S := S1x1024) offsets2, View.ld_unit_zero (S := S3x1024) offsets2, View.ld_unit_zero (S := S8x1024) offsets2, View.ld_unit_zero (S := S1x2x1024) offsets3, shapeCast_self]
  rfl

/-- At a later tile the state is the last two rows of the convolution's input. -/
theorem later_state (hc0 : ¬cond0_0 i) (xs0 : Vec Ideal S8x1024 .f32) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 = k0_pay3 (tileIn x0 x1 x2 x3 x5 x7 x8) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0)]
  unfold kernelRun0_B
  dsimp only
  sl_unfold_words
  rw [View.canon_unit_zero offsets3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S512x1024) offsets2, View.ld_unit_zero (S := S1024x1024) offsets2, View.ld_unit_zero (S := S1x1024) offsets2, View.ld_unit_zero (S := S3x1024) offsets2, View.ld_unit_zero (S := S8x1024) offsets2, View.ld_unit_zero (S := S1x2x1024) offsets3, shapeCast_self]
  rfl

/-- At a later tile the rows kept are the last eight of the convolution's input. -/
theorem later_tail (hc0 : ¬cond0_0 i) (xs0 : Vec Ideal S8x1024 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 = k0_pay2 (tileIn x0 x1 x2 x3 x5 x7 x8) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0)]
  unfold kernelRun0_B
  dsimp only
  sl_unfold_words
  rw [View.canon_unit_zero offsets2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S512x1024) offsets2, View.ld_unit_zero (S := S1024x1024) offsets2, View.ld_unit_zero (S := S1x1024) offsets2, View.ld_unit_zero (S := S3x1024) offsets2, View.ld_unit_zero (S := S8x1024) offsets2, View.ld_unit_zero (S := S1x2x1024) offsets3, shapeCast_self]
  rfl

end

section

variable (X G O Wa Wb Wc Wu Wg Wo cw : ℕ → ℕ → EReal) (gn : ℕ → EReal)
  (x0 : Vec Ideal S512x1024 .f32) (x1 x2 : Vec Ideal S512x1024 .bf16) (x3 : Vec Ideal S1024x1024 .bf16) (x5 : Vec Ideal S1x1024 .f32)
  (x6 x7 x8 x9 : Vec Ideal S1024x1024 .bf16) (x10 : Vec Ideal S3x1024 .f32) (x11 : Vec Ideal S1024x1024 .bf16) (tail : Vec Ideal S8x1024 .f32)
  (h0 : ∀ y, x0 y = X (y 0).val (y 1).val) (h1 : ∀ y, x1 y = G (y 0).val (y 1).val) (h2 : ∀ y, x2 y = O (y 0).val (y 1).val)
  (h3 : ∀ y, x3 y = Wa (y 0).val (y 1).val) (h5 : ∀ y, x5 y = gn (y 1).val) (h7 : ∀ y, x7 y = Wc (y 0).val (y 1).val) (h8 : ∀ y, x8 y = Wu (y 0).val (y 1).val)
include h0 h1 h2 h3 h5 h7 h8

/-- A tile's rows of the convolution's input, at an index. -/
theorem tileIn_apply (y : S512x1024.Idx) : tileIn x0 x1 x2 x3 x5 x7 x8 y = gated (normed (resid X G O Wa) gn) Wc Wu (y 0).val (y 1).val := by
  refine pay9_apply Wc Wu _ _ _ _ (pay7_apply _ gn _ _ _ _ _ (pay6_apply X G O Wa _ _ _ _ h1 h2 h0 h3) h5) ?_ h8 y
  intro z
  unfold k0_pay8
  rw [shapeCast_self]
  exact h7 z

/-- A tile's output rows, at an index. -/
theorem tileOut_apply (h6 : ∀ y, x6 y = Wb (y 0).val (y 1).val) (h9 : ∀ y, x9 y = Wg (y 0).val (y 1).val) (h10 : ∀ y, x10 y = cw (y 0).val (y 1).val)
    (h11 : ∀ y, x11 y = Wo (y 0).val (y 1).val) (T6 T7 : ℕ → EReal) (t6 : ∀ d, tail (ix2 6 d) = T6 d.val) (t7 : ∀ d, tail (ix2 7 d) = T7 d.val) (y : S512x1024.Idx) :
    tileOut x0 x1 x2 x3 x5 x6 x7 x8 x9 x10 x11 tail y = output (resid X G O Wa) (normed (resid X G O Wa) gn) Wg Wb Wo
      (taps cw (fun r d => if r = 0 then T6 d else if r = 1 then T7 d else gated (normed (resid X G O Wa) gn) Wc Wu (r - 2) d)
        (fun r d => if r = 0 then T7 d else gated (normed (resid X G O Wa) gn) Wc Wu (r - 1) d) (gated (normed (resid X G O Wa) gn) Wc Wu)) (y 0).val (y 1).val := by
  have r6 := pay6_apply X G O Wa x1 x2 x0 x3 h1 h2 h0 h3
  exact pay1_apply Wb Wg Wo _ _ _ _ _ _ _ _ _ r6 (pay7_apply _ gn _ _ _ _ _ r6 h5)
    (pay10_apply _ _ _ _ _ _ cw T6 T7 (tileIn_apply X G O Wa Wc Wu gn x0 x1 x2 x3 x5 x7 x8 h0 h1 h2 h3 h5 h7 h8) h10 t6 t7) h9 h6 h11 y

end

end Cert.Kernel2Ideal.Conv

end
-- ==== Proof.Conv.Blocks.lean ====
module

public import proofs.«01_k».proof.Proof.Conv.Rows
public import proofs.«01_k».proof.Proof.Gen.Kernel2Ideal.Frame
public import Idealize.ShloMosaic.Lib.Pointwise
public import Idealize.ShloMosaic.Lib.Pipeline.ValueKit.Geometry

@[expose] public section

set_option maxRecDepth 16384
set_option maxHeartbeats 1000000

noncomputable section

namespace Cert.Conv

open Idealize.ShloMosaic

/-- A matrix's entry at a row and a column. -/
def entry {n0 n1 : ℕ} [NeZero n0] [NeZero n1] (A : (⟨2, ![n0, n1]⟩ : Shape).Idx → EReal) (r d : ℕ) : EReal :=
  A (ix2 (n0 := n0) (n1 := n1) (Fin.ofNat n0 r) (Fin.ofNat n1 d))

/-- The entry of the `k`-th quarter of the columns of the projections' weights. -/
def quarter (A : (⟨2, ![1024, 4096]⟩ : Shape).Idx → EReal) (k r d : ℕ) : EReal :=
  entry A r (1024 * k + d)

/-- A vector's entry. -/
def element (A : (⟨1, ![1024]⟩ : Shape).Idx → EReal) (d : ℕ) : EReal :=
  A (ix1 (n0 := 1024) (Fin.ofNat 1024 d))

/-- A matrix at an index, by the index's row and column. -/
theorem eq_entry {n0 n1 : ℕ} [NeZero n0] [NeZero n1] (A : (⟨2, ![n0, n1]⟩ : Shape).Idx → EReal) (x : (⟨2, ![n0, n1]⟩ : Shape).Idx) {r d : ℕ}
    (h0 : (x 0).val = r % n0) (h1 : (x 1).val = d % n1) : A x = entry A r d := by
  unfold entry
  refine congrArg A ?_
  funext a
  match a with
  | ⟨0, _⟩ => exact Fin.ext h0
  | ⟨1, _⟩ => exact Fin.ext h1

/-- A vector at an index, by the index's number. -/
theorem eq_element (A : (⟨1, ![1024]⟩ : Shape).Idx → EReal) (x : (⟨1, ![1024]⟩ : Shape).Idx) {d : ℕ} (h0 : (x 0).val = d % 1024) : A x = element A d := by
  unfold element
  refine congrArg A ?_
  funext a
  match a with
  | ⟨0, _⟩ => exact Fin.ext h0

end Cert.Conv

namespace Cert.Kernel2Ideal.Conv

open Cert.Kernel2Ideal Cert.Kernel2Ideal.Gen Cert.Conv
open Idealize.ShloMosaic Idealize.ShloMosaic.TcCoe Idealize.ShloMosaic.Tactic

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)
theorem index2 : ∀ t : Fin cfg0.N, win0_2.index t = ![t.val, 0] :=
  (by decide +kernel : ∀ t : Fin grid0.N, _)
theorem index3 : ∀ t : Fin cfg0.N, win0_3.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)

/-- The input rows of a tile. -/
theorem block_x (t : Fin cfg0.N) (y : S512x1024.Idx) : iblk m c 0 t y = entry (m ((c : Thread nD τ).loc main_arg0)) (512 * t.val + (y 0).val) (y 1).val := by
  have h0 : (y 0).val < 512 := (y 0).isLt
  have h1 : (y 1).val < 1024 := (y 1).isLt
  have ht : t.val < 64 := t.isLt
  blk_simp [iblk]
  rw [show V m c main_arg0 = _ from V_main_arg0 m c]
  refine eq_entry _ _ ?_ ?_
  · blk_simp [index0]
    show t.val * 512 + (y 0).val = _
    omega
  · blk_simp [index0]
    show (y 1).val = _
    omega

/-- The gate's rows of a tile. -/
theorem block_gate (t : Fin cfg0.N) (y : S512x1024.Idx) : iblk m c 1 t y = entry (m ((c : Thread nD τ).loc main_arg1)) (512 * t.val + (y 0).val) (y 1).val := by
  have h0 : (y 0).val < 512 := (y 0).isLt
  have h1 : (y 1).val < 1024 := (y 1).isLt
  have ht : t.val < 64 := t.isLt
  blk_simp [iblk]
  rw [show V m c main_arg1 = _ from V_main_arg1 m c]
  refine eq_entry _ _ ?_ ?_
  · blk_simp [index1]
    show t.val * 512 + (y 0).val = _
    omega
  · blk_simp [index1]
    show (y 1).val = _
    omega

/-- The attention's rows of a tile. -/
theorem block_o (t : Fin cfg0.N) (y : S512x1024.Idx) : iblk m c 2 t y = entry (m ((c : Thread nD τ).loc main_arg2)) (512 * t.val + (y 0).val) (y 1).val := by
  have h0 : (y 0).val < 512 := (y 0).isLt
  have h1 : (y 1).val < 1024 := (y 1).isLt
  have ht : t.val < 64 := t.isLt
  blk_simp [iblk]
  rw [show V m c main_arg2 = _ from V_main_arg2 m c]
  refine eq_entry _ _ ?_ ?_
  · blk_simp [index2]
    show t.val * 512 + (y 0).val = _
    omega
  · blk_simp [index2]
    show (y 1).val = _
    omega

/-- The attention's output weights. -/
theorem block_wa (t : Fin cfg0.N) (y : S1024x1024.Idx) : iblk m c 3 t y = entry (m ((c : Thread nD τ).loc main_arg3)) (y 0).val (y 1).val := by
  have h0 : (y 0).val < 1024 := (y 0).isLt
  have h1 : (y 1).val < 1024 := (y 1).isLt
  have e : ∀ x, V m c main_v1 x = m ((c : Thread nD τ).loc main_arg3) x := fun x => by
    unfold V hostOps0
    after_results_simp
    rfl
  blk_simp [iblk]
  refine (e _).trans (eq_entry _ _ ?_ ?_)
  · blk_simp [index3]
    show (y 0).val = _
    omega
  · blk_simp [index3]
    show (y 1).val = _
    omega

/-- The convolution's output weights. -/
theorem block_wo (t : Fin cfg0.N) (y : S1024x1024.Idx) : iblk m c 11 t y = entry (m ((c : Thread nD τ).loc main_arg7)) (y 0).val (y 1).val := by
  have h0 : (y 0).val < 1024 := (y 0).isLt
  have h1 : (y 1).val < 1024 := (y 1).isLt
  have e : ∀ x, V m c main_v11 x = m ((c : Thread nD τ).loc main_arg7) x := fun x => by
    unfold V hostOps0
    after_results_simp
    rfl
  blk_simp [iblk]
  refine (e _).trans (eq_entry _ _ ?_ ?_)
  · blk_simp [index11]
    show (y 0).val = _
    omega
  · blk_simp [index11]
    show (y 1).val = _
    omega

/-- The taps' weights. -/
theorem block_taps (t : Fin cfg0.N) (y : S3x1024.Idx) : iblk m c 10 t y = entry (m ((c : Thread nD τ).loc main_arg6)) (y 0).val (y 1).val := by
  have h0 : (y 0).val < 3 := (y 0).isLt
  have h1 : (y 1).val < 1024 := (y 1).isLt
  blk_simp [iblk]
  rw [show V m c main_arg6 = _ from V_main_arg6 m c]
  refine eq_entry _ _ ?_ ?_
  · blk_simp [index10]
    show (y 0).val = _
    omega
  · blk_simp [index10]
    show (y 1).val = _
    omega

/-- The norm's weights. -/
theorem block_norm (t : Fin cfg0.N) (y : S1x1024.Idx) : iblk m c 5 t y = element (m ((c : Thread nD τ).loc main_arg4)) (y 1).val := by
  have h0 : (y 0).val < 1 := (y 0).isLt
  have h1 : (y 1).val < 1024 := (y 1).isLt
  have e : V m c main_v10 = shapeCast S1x1024 (m ((c : Thread nD τ).loc main_arg4)) shapeCasts_S1024_S1x1024 := by
    unfold V hostOps0
    after_results_simp
    rfl
  blk_simp [iblk]
  rw [show V m c (Pipeline.arrRef spec0 5) = _ from e]
  pointwise
  refine eq_element _ _ ?_
  blk_simp [index5]
  show (y 1).val = _
  omega

theorem index4 : ∀ t : Fin cfg0.N, win0_4.index t = ![t.val / 16, 0, 0] :=
  (by decide +kernel : ∀ t : Fin grid0.N, _)

/-- The history is zero. -/
theorem block_hist (t : Fin cfg0.N) (y : S1x2x1024.Idx) : iblk m c 4 t y = (0 : EReal) := by
  have e : ∀ x, V m c main_v0 x = (0 : EReal) := fun x => by
    have e1 : V m c main_v0 = broadcastInDim S4x2x1024 ![] bcast_S_S4x2x1024 (constant (F := Ideal) S_ .f32 0x00000000#32) := by
      unfold V hostOps0
      after_results_simp
    rw [e1]
    pointwise
  blk_simp [iblk]
  exact e _

/-- A quarter of the projections' weights, from its slice. -/
theorem slice_apply (A : FVec Ideal S1024x4096 .f32) (k : ℕ) (hk : k < 4) (hs) (x : S1024x1024.Idx) :
    truncf (F := Ideal) .bf16 (extractStridedSlice S1024x1024 ![0, 1024 * k] A hs) bitsLt_bf16_f32 x = quarter A k (x 0).val (x 1).val := by
  have h0 : (x 0).val < 1024 := (x 0).isLt
  have h1 : (x 1).val < 1024 := (x 1).isLt
  pointwise
  unfold quarter
  refine eq_entry _ _ ?_ ?_
  · show (x 0).val = _
    omega
  · show 1024 * k + (x 1).val = _
    omega

/-- The projections' weights, quarter 0. -/
theorem block_wb (t : Fin cfg0.N) (y : S1024x1024.Idx) : iblk m c 6 t y = quarter (m ((c : Thread nD τ).loc main_arg5)) 0 (y 0).val (y 1).val := by
  have e : V m c main_v3 = truncf (F := Ideal) .bf16 (extractStridedSlice S1024x1024 ![0, 1024 * 0] (m ((c : Thread nD τ).loc main_arg5)) slices_S1024x4096_S1024x1024_0_0) bitsLt_bf16_f32 := by
    unfold V hostOps0
    after_results_simp
  blk_simp [iblk]
  refine (congrFun e _).trans ((slice_apply _ 0 (by decide) _ _).trans ?_)
  blk_simp [index6]

/-- The projections' weights, quarter 1. -/
theorem block_wc (t : Fin cfg0.N) (y : S1024x1024.Idx) : iblk m c 7 t y = quarter (m ((c : Thread nD τ).loc main_arg5)) 1 (y 0).val (y 1).val := by
  have e : V m c main_v5 = truncf (F := Ideal) .bf16 (extractStridedSlice S1024x1024 ![0, 1024 * 1] (m ((c : Thread nD τ).loc main_arg5)) slices_S1024x4096_S1024x1024_0_1024) bitsLt_bf16_f32 := by
    unfold V hostOps0
    after_results_simp
  blk_simp [iblk]
  refine (congrFun e _).trans ((slice_apply _ 1 (by decide) _ _).trans ?_)
  blk_simp [index7]

/-- The projections' weights, quarter 2. -/
theorem block_wu (t : Fin cfg0.N) (y : S1024x1024.Idx) : iblk m c 8 t y = quarter (m ((c : Thread nD τ).loc main_arg5)) 2 (y 0).val (y 1).val := by
  have e : V m c main_v7 = truncf (F := Ideal) .bf16 (extractStridedSlice S1024x1024 ![0, 1024 * 2] (m ((c : Thread nD τ).loc main_arg5)) slices_S1024x4096_S1024x1024_0_2048) bitsLt_bf16_f32 := by
    unfold V hostOps0
    after_results_simp
  blk_simp [iblk]
  refine (congrFun e _).trans ((slice_apply _ 2 (by decide) _ _).trans ?_)
  blk_simp [index8]

/-- The projections' weights, quarter 3. -/
theorem block_wg (t : Fin cfg0.N) (y : S1024x1024.Idx) : iblk m c 9 t y = quarter (m ((c : Thread nD τ).loc main_arg5)) 3 (y 0).val (y 1).val := by
  have e : V m c main_v9 = truncf (F := Ideal) .bf16 (extractStridedSlice S1024x1024 ![0, 1024 * 3] (m ((c : Thread nD τ).loc main_arg5)) slices_S1024x4096_S1024x1024_0_3072) bitsLt_bf16_f32 := by
    unfold V hostOps0
    after_results_simp
  blk_simp [iblk]
  refine (congrFun e _).trans ((slice_apply _ 3 (by decide) _ _).trans ?_)
  blk_simp [index9]

end Cert.Kernel2Ideal.Conv

end
-- ==== Proof.Conv.Result.lean ====
module

public import proofs.«01_k».proof.Proof.Conv.Tile
public import proofs.«01_k».proof.Proof.Conv.Blocks
public import proofs.«01_k».proof.Proof.Gen.Kernel2Ideal.Value

@[expose] public section

set_option maxRecDepth 16384
set_option maxHeartbeats 1000000

noncomputable section

namespace Cert.Conv

open Idealize.ShloMosaic

section

variable (a0 a1 a2 : (⟨2, ![32768, 1024]⟩ : Shape).Idx → EReal) (a3 : (⟨2, ![1024, 1024]⟩ : Shape).Idx → EReal) (a4 : (⟨1, ![1024]⟩ : Shape).Idx → EReal)
  (a5 : (⟨2, ![1024, 4096]⟩ : Shape).Idx → EReal) (a6 : (⟨2, ![3, 1024]⟩ : Shape).Idx → EReal) (a7 : (⟨2, ![1024, 1024]⟩ : Shape).Idx → EReal)

/-- The residual rows, from the arguments. -/
def rowsY : ℕ → ℕ → EReal := resid (entry a0) (entry a1) (entry a2) (entry a3)

/-- The normed rows, from the arguments. -/
def rowsN : ℕ → ℕ → EReal := normed (rowsY a0 a1 a2 a3) (element a4)

/-- The convolution's input, from the arguments. -/
def rowsU : ℕ → ℕ → EReal := gated (rowsN a0 a1 a2 a3 a4) (quarter a5 1) (quarter a5 2)

/-- The convolution, from the arguments. -/
def rowsT : ℕ → ℕ → EReal := taps (entry a6) (lag 2 (rowsU a0 a1 a2 a3 a4 a5)) (lag 1 (rowsU a0 a1 a2 a3 a4 a5)) (rowsU a0 a1 a2 a3 a4 a5)

/-- The output rows, from the arguments. -/
def rowsOut : ℕ → ℕ → EReal :=
  output (rowsY a0 a1 a2 a3) (rowsN a0 a1 a2 a3 a4) (quarter a5 3) (quarter a5 0) (entry a7) (rowsT a0 a1 a2 a3 a4 a5 a6)

/-- The state of stream `b`: the convolution's input at the stream's last two rows. -/
def rowsState (b i d : ℕ) : EReal := rowsU a0 a1 a2 a3 a4 a5 (8192 * b + 8190 + i) d

end

/-- Output rows from two convolutions that agree on a row agree on it. -/
theorem output_congr (Y N Wg Wb Wo T T' : ℕ → ℕ → EReal) (o r d : ℕ) (h : ∀ e, T' r e = T (o + r) e) :
    output (fun r d => Y (o + r) d) (fun r d => N (o + r) d) Wg Wb Wo T' r d = output Y N Wg Wb Wo T (o + r) d := by
  unfold output
  simp only [h]
  rfl

/-- The taps of a tile starting at row `o`, from the two rows before it. -/
theorem taps_tile (cw U : ℕ → ℕ → EReal) (T6 T7 : ℕ → EReal) (o r : ℕ)
    (h : (o % 8192 = 0 ∧ (∀ d, T6 d = 0) ∧ ∀ d, T7 d = 0) ∨ (2 ≤ o % 8192 ∧ (∀ d, T6 d = U (o - 2) d) ∧ ∀ d, T7 d = U (o - 1) d))
    (hr : o % 8192 + r < 8192) (e : ℕ) :
    taps cw (fun r d => if r = 0 then T6 d else if r = 1 then T7 d else U (o + (r - 2)) d) (fun r d => if r = 0 then T7 d else U (o + (r - 1)) d) (fun r d => U (o + r) d) r e
      = taps cw (lag 2 U) (lag 1 U) U (o + r) e := by
  unfold taps lag
  dsimp only
  have hm : (o + r) % 8192 = o % 8192 + r := by omega
  rw [hm]
  refine congrArg₂ (· + ·) (congrArg₂ (· + ·) (congrArg (_ * ·) ?_) (congrArg (_ * ·) ?_)) rfl
  · rcases h with ⟨h0, h6, h7⟩ | ⟨h0, h6, h7⟩
    · by_cases r0 : r = 0
      · rw [if_pos r0, if_pos (by omega), h6]
      · by_cases r1 : r = 1
        · rw [if_neg r0, if_pos r1, if_pos (by omega), h7]
        · rw [if_neg r0, if_neg r1, if_neg (by omega), show o + r - 2 = o + (r - 2) by omega]
    · rw [if_neg (by omega : ¬ o % 8192 + r < 2)]
      by_cases r0 : r = 0
      · rw [if_pos r0, h6, show o + r - 2 = o - 2 by omega]
      · by_cases r1 : r = 1
        · rw [if_neg r0, if_pos r1, h7, show o + r - 2 = o - 1 by omega]
        · rw [if_neg r0, if_neg r1, show o + r - 2 = o + (r - 2) by omega]
  · rcases h with ⟨h0, h6, h7⟩ | ⟨h0, h6, h7⟩
    · by_cases r0 : r = 0
      · rw [if_pos r0, if_pos (by omega), h7]
      · rw [if_neg r0, if_neg (by omega), show o + r - 1 = o + (r - 1) by omega]
    · rw [if_neg (by omega : ¬ o % 8192 + r < 1)]
      by_cases r0 : r = 0
      · rw [if_pos r0, h7, show o + r - 1 = o - 1 by omega]
      · rw [if_neg r0, show o + r - 1 = o + (r - 1) by omega]

end Cert.Conv

namespace Cert.Kernel2Ideal.Conv

open Cert.Kernel2Ideal Cert.Kernel2Ideal.Gen Cert.Conv
open Idealize.ShloMosaic Idealize.ShloMosaic.TcCoe Idealize.ShloMosaic.Tactic

variable (m : (ℓ : Loc nD τ sig) → Buf (Elt Ideal) ℓ) (c : Dev nD)

/-- The convolution's input, from the launch memory. -/
def rowsU : ℕ → ℕ → EReal :=
  Cert.Conv.rowsU (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The output rows, from the launch memory. -/
def rowsOut : ℕ → ℕ → EReal :=
  Cert.Conv.rowsOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- A tile's convolution input is that of its rows. -/
theorem tileIn_rows (t : Fin cfg0.N) (y : S512x1024.Idx) :
    tileIn (iblk m c 0 t) (iblk m c 1 t) (iblk m c 2 t) (iblk m c 3 t) (iblk m c 5 t) (iblk m c 7 t) (iblk m c 8 t) y = rowsU m c (512 * t.val + (y 0).val) (y 1).val :=
  tileIn_apply (fun r d => entry (m ((c : Thread nD τ).loc main_arg0)) (512 * t.val + r) d) (fun r d => entry (m ((c : Thread nD τ).loc main_arg1)) (512 * t.val + r) d)
    (fun r d => entry (m ((c : Thread nD τ).loc main_arg2)) (512 * t.val + r) d) _ _ _ _ _ _ _ _ _ _ _
    (block_x m c t) (block_gate m c t) (block_o m c t) (block_wa m c t) (block_norm m c t) (block_wc m c t) (block_wu m c t) y

/-- A tile's output is that of its rows, when the rows kept are right. -/
theorem tileOut_rows (t : Fin cfg0.N) (tail : Vec Ideal S8x1024 .f32) (T6 T7 : ℕ → EReal) (t6 : ∀ d, tail (ix2 6 d) = T6 d.val) (t7 : ∀ d, tail (ix2 7 d) = T7 d.val)
    (h : ((512 * t.val) % 8192 = 0 ∧ (∀ d, T6 d = 0) ∧ ∀ d, T7 d = 0) ∨
      (2 ≤ (512 * t.val) % 8192 ∧ (∀ d, T6 d = rowsU m c (512 * t.val - 2) d) ∧ ∀ d, T7 d = rowsU m c (512 * t.val - 1) d)) (y : S512x1024.Idx) :
    tileOut (iblk m c 0 t) (iblk m c 1 t) (iblk m c 2 t) (iblk m c 3 t) (iblk m c 5 t) (iblk m c 6 t) (iblk m c 7 t) (iblk m c 8 t) (iblk m c 9 t) (iblk m c 10 t) (iblk m c 11 t) tail y
      = rowsOut m c (512 * t.val + (y 0).val) (y 1).val := by
  have hy : (y 0).val < 512 := (y 0).isLt
  refine (tileOut_apply (fun r d => entry (m ((c : Thread nD τ).loc main_arg0)) (512 * t.val + r) d) (fun r d => entry (m ((c : Thread nD τ).loc main_arg1)) (512 * t.val + r) d)
    (fun r d => entry (m ((c : Thread nD τ).loc main_arg2)) (512 * t.val + r) d) _ _ _ _ _ _ _ _ _ _ _ _ _ _ _ _ _ _ _ _
    (block_x m c t) (block_gate m c t) (block_o m c t) (block_wa m c t) (block_norm m c t) (block_wc m c t) (block_wu m c t)
    (block_wb m c t) (block_wg m c t) (block_taps m c t) (block_wo m c t) T6 T7 t6 t7 y).trans ?_
  exact output_congr (rowsY (m ((c : Thread nD τ).loc main_arg0)) (m ((c : Thread nD τ).loc main_arg1)) (m ((c : Thread nD τ).loc main_arg2)) (m ((c : Thread nD τ).loc main_arg3)))
    (rowsN (m ((c : Thread nD τ).loc main_arg0)) (m ((c : Thread nD τ).loc main_arg1)) (m ((c : Thread nD τ).loc main_arg2)) (m ((c : Thread nD τ).loc main_arg3)) (m ((c : Thread nD τ).loc main_arg4)))
    (quarter (m ((c : Thread nD τ).loc main_arg5)) 3) (quarter (m ((c : Thread nD τ).loc main_arg5)) 0) (entry (m ((c : Thread nD τ).loc main_arg7)))
    (rowsT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    _ (512 * t.val) (y 0).val (y 1).val (taps_tile _ (rowsU m c) T6 T7 (512 * t.val) (y 0).val h (by omega))

/-- The last eight rows of a tile. -/
theorem pay2_apply (v : FVec Ideal S512x1024 .f32) (y : S8x1024.Idx) : k0_pay2 (F := Ideal) v y = v (ix2 (n0 := 512) (n1 := 1024) ⟨504 + (y 0).val, by have := (y 0).isLt; show _ < 512; have h : (y 0).val < 8 := (y 0).isLt; omega⟩ (y 1)) := by
  unfold k0_pay2
  pointwise

/-- The last two rows of a tile. -/
theorem pay3_apply (v : FVec Ideal S512x1024 .f32) (y : S1x2x1024.Idx) : k0_pay3 (F := Ideal) v y = v (ix2 (n0 := 512) (n1 := 1024) ⟨510 + (y 1).val, by have h : (y 1).val < 2 := (y 1).isLt; omega⟩ (y 2)) := by
  unfold k0_pay3
  pointwise

/-- What a point keeps: the last eight rows of its tile's convolution input. -/
theorem kept_rows (t : Fin cfg0.N) (y : S8x1024.Idx) : (outsAt0 m c t.val t.isLt).2.2 y = rowsU m c (512 * t.val + (504 + (y 0).val)) (y 1).val := by
  by_cases h0 : t.val % 16 = 0
  · rw [outsAt0_A m c t h0]
    dsimp only
    rw [first_tail, pay2_apply, tileIn_rows]
    rfl
  · rw [outsAt0_B m c t h0]
    dsimp only
    rw [later_tail, pay2_apply, tileIn_rows]
    rfl

/-- What a point leaves of the output: its tile's rows. -/
theorem out_rows (t : Fin cfg0.N) (y : S512x1024.Idx) : (outsAt0 m c t.val t.isLt).1 y = rowsOut m c (512 * t.val + (y 0).val) (y 1).val := by
  have ht : t.val < 64 := t.isLt
  by_cases h0 : t.val % 16 = 0
  · rw [outsAt0_A m c t h0]
    dsimp only
    obtain ⟨tail, htail, e⟩ := first_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)
    rw [e]
    exact tileOut_rows m c t tail (fun _ => 0) (fun _ => 0) (fun d => (htail 6 0 d rfl).trans (block_hist m c t _)) (fun d => (htail 7 1 d rfl).trans (block_hist m c t _))
      (.inl ⟨by omega, fun _ => rfl, fun _ => rfl⟩) y
  · rw [outsAt0_B m c t h0]
    dsimp only
    rw [later_out]
    have k := kept_rows m c ⟨t.val - 1, Nat.lt_of_le_of_lt (Nat.sub_le _ _) t.isLt⟩
    refine tileOut_rows m c t _ (rowsU m c (512 * t.val - 2)) (rowsU m c (512 * t.val - 1)) (fun d => (k (ix2 6 d)).trans ?_) (fun d => (k (ix2 7 d)).trans ?_)
      (.inr ⟨by omega, fun _ => rfl, fun _ => rfl⟩) y
    · refine congrArg₂ (rowsU m c) ?_ rfl
      show 512 * (t.val - 1) + (504 + 6) = 512 * t.val - 2
      omega
    · refine congrArg₂ (rowsU m c) ?_ rfl
      show 512 * (t.val - 1) + (504 + 7) = 512 * t.val - 1
      omega

/-- What a stream's last point leaves of the state. -/
theorem state_rows (t : Fin cfg0.N) (y : S1x2x1024.Idx) : (outsAt0 m c t.val t.isLt).2.1 y = rowsU m c (512 * t.val + (510 + (y 1).val)) (y 2).val := by
  by_cases h0 : t.val % 16 = 0
  · rw [outsAt0_A m c t h0]
    dsimp only
    rw [first_state, pay3_apply, tileIn_rows]
    rfl
  · rw [outsAt0_B m c t h0]
    dsimp only
    rw [later_state, pay3_apply, tileIn_rows]
    rfl

/-- The output array. -/
theorem G12_apply (x : S32768x1024.Idx) : Value.G12 m c x = rowsOut m c (x 0).val (x 1).val := by
  have h0 : (x 0).val < 32768 := (x 0).isLt
  have h1 : (x 1).val < 1024 := (x 1).isLt
  have h : Value.pt12Of x < cfg0.N := by
    show 1 * ((x 0).val / 512 - 0) + 1 * ((x 1).val / 1024 - 0) < 64
    omega
  unfold Value.G12
  rw [dif_pos h, ← Value.outsAt0_sweep m c _ h]
  refine (out_rows m c ⟨Value.pt12Of x, h⟩ _).trans ?_
  refine congrArg₂ (rowsOut m c) ?_ ?_
  · show 512 * (1 * ((x 0).val / 512 - 0) + 1 * ((x 1).val / 1024 - 0)) + (x 0).val % 512 = (x 0).val
    omega
  · show (x 1).val % 1024 = (x 1).val
    omega

/-- The state array. -/
theorem G13_apply (x : S4x2x1024.Idx) : Value.G13 m c x = rowsU m c (8192 * (x 0).val + 8190 + (x 1).val) (x 2).val := by
  have h0 : (x 0).val < 4 := (x 0).isLt
  have h1 : (x 1).val < 2 := (x 1).isLt
  have h2 : (x 2).val < 1024 := (x 2).isLt
  have hp : Value.pt13Of x = 16 * (x 0).val + 15 := by
    show 16 * _ + 15 = _
    unfold Value.run13Of
    omega
  have h : Value.pt13Of x < cfg0.N := by
    show Value.pt13Of x < 64
    omega
  unfold Value.G13
  rw [dif_pos h, ← Value.outsAt0_sweep m c _ h]
  refine (state_rows m c ⟨Value.pt13Of x, h⟩ _).trans ?_
  refine congrArg₂ (rowsU m c) ?_ ?_
  · show 512 * Value.pt13Of x + (510 + (x 1).val % 2) = _
    omega
  · show (x 2).val % 1024 = (x 2).val
    omega

end Cert.Kernel2Ideal.Conv

end
-- ==== Proof.Conv.Reference.lean ====
module

public import proofs.«01_k».proof.Proof.Gen.Reference2Ideal.Run
public import proofs.«01_k».proof.Proof.Conv.Result
public import Idealize.ShloMosaic.Lib.Pointwise

@[expose] public section

set_option maxRecDepth 16384
set_option maxHeartbeats 1000000

noncomputable section

namespace Cert.Reference2Ideal.Conv

open Cert.Reference2Ideal Cert.Reference2Ideal.Gen Cert.Reference2Ideal.Value Cert.Conv
open Idealize.ShloMosaic Idealize.ShloMosaic.TcCoe

/-- The residual rows of the reference. -/
def residual (x : FVec Ideal S32768x1024 .f32) (g o : FVec Ideal S32768x1024 .bf16) (w : FVec Ideal S1024x1024 .f32) : FVec Ideal S32768x1024 .f32 :=
  addf x (Host.dotGeneral dot_S32768x1024_S1024x1024_S32768x1024_1_0_0_1_n_n none (mulf (mulf (extf .f32 g bitsLt_bf16_f32) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 g bitsLt_bf16_f32)))))) (extf .f32 o bitsLt_bf16_f32)) w)

/-- The normed rows. -/
def norm (y : FVec Ideal S32768x1024 .f32) (g : FVec Ideal S1024 .f32) : FVec Ideal S32768x1024 .f32 :=
  mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The four projections side by side, by stream and position. -/
def projections (z : FVec Ideal S32768x1024 .f32) (w : FVec Ideal S1024x4096 .f32) : FVec Ideal S4x8192x4096 .f32 :=
  shapeCast S4x8192x4096 (Host.dotGeneral dot_S32768x1024_S1024x4096_S32768x4096_1_0_0_1_n_n none z w) shapeCasts_S32768x4096_S4x8192x4096

/-- The convolution's input under two rows of zeros. -/
def padded (p : FVec Ideal S4x8192x4096 .f32) : FVec Ideal S4x8194x1024 .f32 :=
  concatenate S4x8194x1024 1 [⟨S4x2x1024, (broadcastInDim S4x2x1024 ![] bcast_S_S4x2x1024 (constant S_ .f32 0x00000000#32))⟩, ⟨S4x8192x1024, (mulf (extractStridedSlice S4x8192x1024 ![0, 0, 1024] p slices_S4x8192x4096_S4x8192x1024_0_0_1024) (extractStridedSlice S4x8192x1024 ![0, 0, 2048] p slices_S4x8192x4096_S4x8192x1024_0_0_2048))⟩] concatenates_S4x2x1024_S4x8192x1024_S4x8194x1024_d1

/-- A tap's weights over every stream and position. -/
def spread (w : FVec Ideal S1x1024 .f32) : FVec Ideal S4x8192x1024 .f32 :=
  broadcastInDim S4x8192x1024 ![0, 1, 2] bcast_S1x1x1024_S4x8192x1024_0_1_2 (broadcastInDim S1x1x1024 ![2] bcast_S1024_S1x1x1024_2 (shapeCast S1024 w shapeCasts_S1x1024_S1024))

/-- The convolution. -/
def convolution (u : FVec Ideal S4x8194x1024 .f32) (w : FVec Ideal S3x1024 .f32) : FVec Ideal S4x8192x1024 .f32 :=
  addf (addf (mulf (spread (extractStridedSlice S1x1024 ![0, 0] w slices_S3x1024_S1x1024_0_0)) (extractStridedSlice S4x8192x1024 ![0, 0, 0] u slices_S4x8194x1024_S4x8192x1024_0_0_0))
    (mulf (spread (extractStridedSlice S1x1024 ![1, 0] w slices_S3x1024_S1x1024_1_0)) (extractStridedSlice S4x8192x1024 ![0, 1, 0] u slices_S4x8194x1024_S4x8192x1024_0_1_0)))
    (mulf (spread (extractStridedSlice S1x1024 ![2, 0] w slices_S3x1024_S1x1024_2_0)) (extractStridedSlice S4x8192x1024 ![0, 2, 0] u slices_S4x8194x1024_S4x8192x1024_0_2_0))

/-- The output rows. -/
def result (y : FVec Ideal S32768x1024 .f32) (p : FVec Ideal S4x8192x4096 .f32) (t : FVec Ideal S4x8192x1024 .f32) (w : FVec Ideal S1024x1024 .f32) : FVec Ideal S32768x1024 .f32 :=
  addf y (Host.dotGeneral dot_S32768x1024_S1024x1024_S32768x1024_1_0_0_1_n_n none (shapeCast S32768x1024 (mulf (mulf (mulf (extractStridedSlice S4x8192x1024 ![0, 0, 3072] p slices_S4x8192x4096_S4x8192x1024_0_0_3072) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 3072] p slices_S4x8192x4096_S4x8192x1024_0_0_3072)))))) (extractStridedSlice S4x8192x1024 ![0, 0, 0] p slices_S4x8192x4096_S4x8192x1024_0_0_0)) t) shapeCasts_S4x8192x1024_S32768x1024) w)

section

variable (m : (ℓ : Loc nD τ sig) → Buf (Elt Ideal) ℓ) (c : Dev nD)

/-- The reference's residual rows, from the launch memory. -/
def residualAt : FVec Ideal S32768x1024 .f32 :=
  residual (m ((c.tc : Thread nD τ).loc main_arg0)) (m ((c.tc : Thread nD τ).loc main_arg1)) (m ((c.tc : Thread nD τ).loc main_arg2)) (m ((c.tc : Thread nD τ).loc main_arg3))

/-- The reference's projections, from the launch memory. -/
def projectionsAt : FVec Ideal S4x8192x4096 .f32 :=
  projections (norm (residualAt m c) (m ((c.tc : Thread nD τ).loc main_arg4))) (m ((c.tc : Thread nD τ).loc main_arg5))

/-- The reference's output is these steps. -/
theorem out_eq : res_main_v53 m c = result (residualAt m c) (projectionsAt m c)
    (convolution (padded (projectionsAt m c)) (m ((c.tc : Thread nD τ).loc main_arg6))) (m ((c.tc : Thread nD τ).loc main_arg7)) := by
  unfold res_main_v53
  rfl

/-- The reference's state is the last two rows of the convolution's input. -/
theorem state_eq : res_main_v54 m c = extractStridedSlice S4x2x1024 ![0, 8192, 0] (padded (projectionsAt m c)) slices_S4x8194x1024_S4x2x1024_0_8192_0 := by
  unfold res_main_v54
  rfl

end

/-- The residual rows at an index. -/
theorem residual_apply (x : FVec Ideal S32768x1024 .f32) (g o : FVec Ideal S32768x1024 .bf16) (w : FVec Ideal S1024x1024 .f32) (y : S32768x1024.Idx) :
    residual x g o w y = rowsY x g o w (y 0).val (y 1).val := by
  have h0 : (y 0).val < 32768 := (y 0).isLt
  have h1 : (y 1).val < 1024 := (y 1).isLt
  have hx : ∀ y, x y = entry x (y 0).val (y 1).val := fun y => eq_entry x y (Nat.mod_eq_of_lt (y 0).isLt).symm (Nat.mod_eq_of_lt (y 1).isLt).symm
  have hg : ∀ y, g y = entry g (y 0).val (y 1).val := fun y => eq_entry g y (Nat.mod_eq_of_lt (y 0).isLt).symm (Nat.mod_eq_of_lt (y 1).isLt).symm
  have ho : ∀ y, o y = entry o (y 0).val (y 1).val := fun y => eq_entry o y (Nat.mod_eq_of_lt (y 0).isLt).symm (Nat.mod_eq_of_lt (y 1).isLt).symm
  have hw : ∀ y, w y = entry w (y 0).val (y 1).val := fun y => eq_entry w y (Nat.mod_eq_of_lt (y 0).isLt).symm (Nat.mod_eq_of_lt (y 1).isLt).symm
  unfold residual
  pointwise
  rw [hx]
  refine congrArg (_ + ·) (Finset.sum_congr rfl fun k _ => ?_)
  rw [hg, ho, hw]
  rfl

/-- The normed rows at an index. -/
theorem norm_apply (y : FVec Ideal S32768x1024 .f32) (g : FVec Ideal S1024 .f32) (Y : ℕ → ℕ → EReal) (h : ∀ x, y x = Y (x 0).val (x 1).val) (x : S32768x1024.Idx) :
    norm y g x = normed Y (element g) (x 0).val (x 1).val := by
  have h1 : (x 1).val < 1024 := (x 1).isLt
  unfold norm
  pointwise
  simp only [h]
  refine congrArg₂ (· * ·) rfl (eq_element g _ ?_)
  exact (Nat.mod_eq_of_lt h1).symm

/-- The projections at an index. -/
theorem projections_apply (z : FVec Ideal S32768x1024 .f32) (w : FVec Ideal S1024x4096 .f32) (N : ℕ → ℕ → EReal) (h : ∀ x, z x = N (x 0).val (x 1).val) (x : S4x8192x4096.Idx) :
    projections z w x = product N (entry w) (8192 * (x 0).val + (x 1).val) (x 2).val := by
  have hw : ∀ y, w y = entry w (y 0).val (y 1).val := fun y => eq_entry w y (Nat.mod_eq_of_lt (y 0).isLt).symm (Nat.mod_eq_of_lt (y 1).isLt).symm
  unfold projections
  pointwise
  simp only [h]
  unfold product
  refine Finset.sum_congr rfl fun k _ => ?_
  rw [hw]
  exact congrArg₂ (fun a b : EReal => a * b) (congrArg₂ N (congrArg (· + _) (Nat.mul_comm _ _)) rfl) rfl

/-- The padded input at an index. -/
theorem padded_apply (p : FVec Ideal S4x8192x4096 .f32) (N W : ℕ → ℕ → EReal) (h : ∀ x, p x = product N W (8192 * (x 0).val + (x 1).val) (x 2).val) (x : S4x8194x1024.Idx) :
    padded p x = if (x 1).val < 2 then 0 else
      gated N (fun e d => W e (1024 * 1 + d)) (fun e d => W e (1024 * 2 + d)) (8192 * (x 0).val + ((x 1).val - 2)) (x 2).val := by
  unfold padded
  pointwise
  simp only [h]
  by_cases h2 : (x 1).val < 2
  · rw [dif_pos h2, if_pos h2]
  · rw [dif_neg h2, if_neg h2]
    rfl

/-- The convolution at an index. -/
theorem convolution_apply (u : FVec Ideal S4x8194x1024 .f32) (w : FVec Ideal S3x1024 .f32) (U : ℕ → ℕ → EReal)
    (h : ∀ x, u x = if (x 1).val < 2 then 0 else U (8192 * (x 0).val + ((x 1).val - 2)) (x 2).val) (x : S4x8192x1024.Idx) :
    convolution u w x = taps (entry w) (lag 2 U) (lag 1 U) U (8192 * (x 0).val + (x 1).val) (x 2).val := by
  unfold convolution spread
  pointwise
  have h1 : (x 1).val < 8192 := (x 1).isLt
  have hm : (8192 * (x 0).val + (x 1).val) % 8192 = (x 1).val := by omega
  rw [h, h, h]
  unfold taps lag
  dsimp only
  rw [hm]
  refine congrArg₂ (· + ·) (congrArg₂ (· + ·) (congrArg₂ (· * ·) (eq_entry w _ rfl (Nat.mod_eq_of_lt (x 2).isLt).symm) ?_) (congrArg₂ (· * ·) (eq_entry w _ rfl (Nat.mod_eq_of_lt (x 2).isLt).symm) ?_))
    (congrArg₂ (· * ·) (eq_entry w _ rfl (Nat.mod_eq_of_lt (x 2).isLt).symm) ?_)
  · show (if (x 1).val < 2 then 0 else U (8192 * (x 0).val + ((x 1).val - 2)) (x 2).val) = _
    by_cases a : (x 1).val < 2
    · rw [if_pos a, if_pos a]
    · rw [if_neg a, if_neg a, show 8192 * (x 0).val + (x 1).val - 2 = 8192 * (x 0).val + ((x 1).val - 2) by omega]
  · show (if 1 + (x 1).val < 2 then 0 else U (8192 * (x 0).val + (1 + (x 1).val - 2)) (x 2).val) = _
    by_cases a : (x 1).val < 1
    · rw [if_pos (by omega), if_pos a]
    · rw [if_neg (by omega), if_neg a, show 8192 * (x 0).val + (x 1).val - 1 = 8192 * (x 0).val + (1 + (x 1).val - 2) by omega]
  · show (if 2 + (x 1).val < 2 then 0 else U (8192 * (x 0).val + (2 + (x 1).val - 2)) (x 2).val) = _
    rw [if_neg (by omega), show 2 + (x 1).val - 2 = (x 1).val by omega]

/-- The output at an index. -/
theorem result_apply (y : FVec Ideal S32768x1024 .f32) (p : FVec Ideal S4x8192x4096 .f32) (t : FVec Ideal S4x8192x1024 .f32) (w : FVec Ideal S1024x1024 .f32)
    (Y N W T : ℕ → ℕ → EReal) (hy : ∀ x, y x = Y (x 0).val (x 1).val) (hp : ∀ x, p x = product N W (8192 * (x 0).val + (x 1).val) (x 2).val)
    (ht : ∀ x, t x = T (8192 * (x 0).val + (x 1).val) (x 2).val) (x : S32768x1024.Idx) :
    result y p t w x = output Y N (fun e d => W e (1024 * 3 + d)) (fun e d => W e (1024 * 0 + d)) (entry w) T (x 0).val (x 1).val := by
  unfold result
  pointwise
  simp only [hy, hp, ht]
  have hr : 8192 * ((x 0).val / 8192) + (x 0).val % 8192 = (x 0).val := Nat.div_add_mod _ _
  unfold output
  refine congrArg (_ + ·) (Finset.sum_congr rfl fun k _ => congrArg₂ (· * ·) ?_ (eq_entry w _ (Nat.mod_eq_of_lt k.isLt).symm (Nat.mod_eq_of_lt (x 1).isLt).symm))
  show silu (product N W (8192 * ((x 0).val / 8192) + (x 0).val % 8192) (3072 + k.val)) * product N W (8192 * ((x 0).val / 8192) + (x 0).val % 8192) k.val
    * T (8192 * ((x 0).val / 8192) + (x 0).val % 8192) k.val = _
  rw [hr]
  unfold product
  rfl

variable (m : (ℓ : Loc nD τ sig) → Buf (Elt Ideal) ℓ) (c : Dev nD)

/-- The projections of the launch memory. -/
theorem projectionsAt_apply (x : S4x8192x4096.Idx) :
    projectionsAt m c x = product (rowsN (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (entry (m ((c.tc : Thread nD τ).loc main_arg5))) (8192 * (x 0).val + (x 1).val) (x 2).val :=
  projections_apply _ _ _ (norm_apply _ _ _ (residual_apply _ _ _ _)) x

/-- The padded input of the launch memory. -/
theorem paddedAt_apply (x : S4x8194x1024.Idx) :
    padded (projectionsAt m c) x = if (x 1).val < 2 then 0 else
      rowsU (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (8192 * (x 0).val + ((x 1).val - 2)) (x 2).val :=
  padded_apply _ _ _ (projectionsAt_apply m c) x

/-- The reference's output, from the launch memory. -/
theorem out_apply (x : S32768x1024.Idx) :
    res_main_v53 m c x = rowsOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (x 0).val (x 1).val := by
  rw [out_eq]
  exact result_apply _ _ _ _ _ _ _ _ (residual_apply _ _ _ _) (projectionsAt_apply m c) (convolution_apply _ _ _ (paddedAt_apply m c)) x

/-- The reference's state, from the launch memory. -/
theorem state_apply (x : S4x2x1024.Idx) :
    res_main_v54 m c x = rowsState (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (x 0).val (x 1).val (x 2).val := by
  rw [state_eq]
  pointwise
  rw [paddedAt_apply]
  show (if 8192 + (x 1).val < 2 then (0 : EReal) else _) = _
  rw [if_neg (by omega)]
  unfold rowsState
  refine congrArg₂ (rowsU _ _ _ _ _ _) ?_ rfl
  show 8192 * (x 0).val + (8192 + (x 1).val - 2) = 8192 * (x 0).val + 8190 + (x 1).val
  omega

end Cert.Reference2Ideal.Conv

end
-- ==== Proof.Proj.Body.lean ====
module

public import proofs.«01_k».proof.Proof.Gen.Kernel3Ideal.Skeleton
public import proofs.«01_k».proof.Proof.Gen.Kernel3Ideal.Frame
public import Idealize.ShloMosaic.Lib.Tactic

@[expose] public section

set_option maxRecDepth 16384
set_option maxHeartbeats 1000000

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the pipeline's frame runs. -/
local notation "𝕄" => MT nD τ sig Unit (Elt F) ℕ (UR sig nD τ) ℕ

/-! The places the body reads and writes: whole blocks, a head's columns, and every eighth row for a head. -/

abbrev whole : Rect S512x1024 := Rect.unit (s := S512x1024) ![0, 0] S512x1024.size inb_S512x1024_S512x1024_0_0
abbrev wholeNorm : Rect S1x1024 := Rect.unit (s := S1x1024) ![0, 0] S1x1024.size inb_S1x1024_S1x1024_0_0
abbrev wholeW : Rect S1024x1024 := Rect.unit (s := S1024x1024) ![0, 0] S1024x1024.size inb_S1024x1024_S1024x1024_0_0
abbrev wholeWf : Rect S1024x128 := Rect.unit (s := S1024x128) ![0, 0] S1024x128.size inb_S1024x128_S1024x128_0_0
abbrev wholeHead : Rect S1x128 := Rect.unit (s := S1x128) ![0, 0] S1x128.size inb_S1x128_S1x128_0_0
abbrev wholeGates : Rect S512x8 := Rect.unit (s := S512x8) ![0, 0] S512x8.size inb_S512x8_S512x8_0_0
abbrev col0 : Rect S512x1024 := Rect.unit (s := S512x1024) ![0, 0] S512x128.size inb_S512x1024_S512x128_0_0
abbrev col1 : Rect S512x1024 := Rect.unit (s := S512x1024) ![0, 128] S512x128.size inb_S512x1024_S512x128_0_128
abbrev col2 : Rect S512x1024 := Rect.unit (s := S512x1024) ![0, 256] S512x128.size inb_S512x1024_S512x128_0_256
abbrev col3 : Rect S512x1024 := Rect.unit (s := S512x1024) ![0, 384] S512x128.size inb_S512x1024_S512x128_0_384
abbrev col4 : Rect S512x1024 := Rect.unit (s := S512x1024) ![0, 512] S512x128.size inb_S512x1024_S512x128_0_512
abbrev col5 : Rect S512x1024 := Rect.unit (s := S512x1024) ![0, 640] S512x128.size inb_S512x1024_S512x128_0_640
abbrev col6 : Rect S512x1024 := Rect.unit (s := S512x1024) ![0, 768] S512x128.size inb_S512x1024_S512x128_0_768
abbrev col7 : Rect S512x1024 := Rect.unit (s := S512x1024) ![0, 896] S512x128.size inb_S512x1024_S512x128_0_896
abbrev row0 : Rect S4096x128 := ⟨(⟨![0, 0], S512x128.size, ![8, 1], inb_S4096x128_S512x128_0_0_s_8_1⟩ : LoadRect S4096x128), spos_8_1⟩
abbrev row1 : Rect S4096x128 := ⟨(⟨![1, 0], S512x128.size, ![8, 1], inb_S4096x128_S512x128_1_0_s_8_1⟩ : LoadRect S4096x128), spos_8_1⟩
abbrev row2 : Rect S4096x128 := ⟨(⟨![2, 0], S512x128.size, ![8, 1], inb_S4096x128_S512x128_2_0_s_8_1⟩ : LoadRect S4096x128), spos_8_1⟩
abbrev row3 : Rect S4096x128 := ⟨(⟨![3, 0], S512x128.size, ![8, 1], inb_S4096x128_S512x128_3_0_s_8_1⟩ : LoadRect S4096x128), spos_8_1⟩
abbrev row4 : Rect S4096x128 := ⟨(⟨![4, 0], S512x128.size, ![8, 1], inb_S4096x128_S512x128_4_0_s_8_1⟩ : LoadRect S4096x128), spos_8_1⟩
abbrev row5 : Rect S4096x128 := ⟨(⟨![5, 0], S512x128.size, ![8, 1], inb_S4096x128_S512x128_5_0_s_8_1⟩ : LoadRect S4096x128), spos_8_1⟩
abbrev row6 : Rect S4096x128 := ⟨(⟨![6, 0], S512x128.size, ![8, 1], inb_S4096x128_S512x128_6_0_s_8_1⟩ : LoadRect S4096x128), spos_8_1⟩
abbrev row7 : Rect S4096x128 := ⟨(⟨![7, 0], S512x128.size, ![8, 1], inb_S4096x128_S512x128_7_0_s_8_1⟩ : LoadRect S4096x128), spos_8_1⟩

/-- The eight heads' columns are all columns. -/
theorem coverColumns (p7 p6 p5 p4 p3 p2 p1 p0 : Vec F S512x128 .bf16) (y : S512x1024.Idx) :
    ∃ p ∈ ([⟨col7, p7⟩, ⟨col6, p6⟩, ⟨col5, p5⟩, ⟨col4, p4⟩, ⟨col3, p3⟩, ⟨col2, p2⟩, ⟨col1, p1⟩, ⟨col0, p0⟩] : List (View.Piece (Elt F) S512x1024 .bf16)), y ∈ p.1.set :=
  View.cover_of_tiled [⟨col7, p7⟩, ⟨col6, p6⟩, ⟨col5, p5⟩, ⟨col4, p4⟩, ⟨col3, p3⟩, ⟨col2, p2⟩, ⟨col1, p1⟩, ⟨col0, p0⟩] S512x128.size (by rfl) y

/-- A row lies in the window of the head its number has modulo eight. -/
theorem mem_row (h : ℕ) (inb : ∀ a, S512x128.size a = 0 ∨ (![h, 0] : Fin 2 → ℕ) a + (![8, 1] : Fin 2 → ℕ) a * (S512x128.size a - 1) < S4096x128.size a)
    (y : S4096x128.Idx) (hy : (y 0).val % 8 = h) :
    y ∈ (⟨(⟨![h, 0], S512x128.size, ![8, 1], inb⟩ : LoadRect S4096x128), spos_8_1⟩ : Rect S4096x128).set := by
  have h0 : (y 0).val < 4096 := (y 0).isLt
  have h1 : (y 1).val < 128 := (y 1).isLt
  refine (LoadRect.mem_set _).mpr fun a => ?_
  match a with
  | ⟨0, _⟩ => exact ⟨(y 0).val / 8, (by omega : (y 0).val / 8 < 512), (by omega : (y 0).val = h + 8 * ((y 0).val / 8))⟩
  | ⟨1, _⟩ => exact ⟨(y 1).val, h1, (by omega : (y 1).val = 0 + 1 * (y 1).val)⟩

/-- Every eighth row, from each of the first eight rows on, is every row. -/
theorem coverRows (p7 p6 p5 p4 p3 p2 p1 p0 : Vec F S512x128 .f32) (y : S4096x128.Idx) :
    ∃ p ∈ ([⟨row7, p7⟩, ⟨row6, p6⟩, ⟨row5, p5⟩, ⟨row4, p4⟩, ⟨row3, p3⟩, ⟨row2, p2⟩, ⟨row1, p1⟩, ⟨row0, p0⟩] : List (View.Piece (Elt F) S4096x128 .f32)), y ∈ p.1.set := by
  have h : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  simp only [List.exists_mem_cons_iff]
  rcases h with e | e | e | e | e | e | e | e
  · exact .inr (.inr (.inr (.inr (.inr (.inr (.inr (.inl (mem_row 0 _ y e))))))))
  · exact .inr (.inr (.inr (.inr (.inr (.inr (.inl (mem_row 1 _ y e)))))))
  · exact .inr (.inr (.inr (.inr (.inr (.inl (mem_row 2 _ y e))))))
  · exact .inr (.inr (.inr (.inr (.inl (mem_row 3 _ y e)))))
  · exact .inr (.inr (.inr (.inl (mem_row 4 _ y e))))
  · exact .inr (.inr (.inl (mem_row 5 _ y e)))
  · exact .inr (.inl (mem_row 6 _ y e))
  · exact .inl (mem_row 7 _ y e)

/-- One store of the whole tile covers it. -/
theorem coverTile (p : Vec F S512x1024 .bf16) (y : S512x1024.Idx) :
    ∃ q ∈ ([⟨whole, p⟩] : List (View.Piece (Elt F) S512x1024 .bf16)), y ∈ q.1.set :=
  View.cover_of_tiled [⟨whole, p⟩] S512x1024.size (by rfl) y

/-- One store of all the gates covers them. -/
theorem coverGates (p : Vec F S512x8 .f32) (y : S512x8.Idx) :
    ∃ q ∈ ([⟨wholeGates, p⟩] : List (View.Piece (Elt F) S512x8 .f32)), y ∈ q.1.set :=
  View.cover_of_tiled [⟨wholeGates, p⟩] S512x8.size (by rfl) y

variable (x0 : Vec F S512x1024 .f32) (x1 : Vec F S1x1024 .f32) (x2 x3 x4 x5 : Vec F S1024x1024 .bf16) (x6 : Vec F S1024x128 .bf16) (x7 x8 x9 : Vec F S1x128 .f32)

/-- The normed rows of the tile. -/
def rowsN : FVec F S512x1024 .bf16 := k0_pay2 (View.ld x0 whole) (View.ld x1 wholeNorm)
/-- The tile's query projection. -/
def projQ : FVec F S512x1024 .f32 := k0_pay3 (View.ld x0 whole) (View.ld x1 wholeNorm) (View.ld x2 wholeW)
/-- The tile's key projection. -/
def projK : FVec F S512x1024 .f32 := k0_pay4 (View.ld x0 whole) (View.ld x1 wholeNorm) (View.ld x3 wholeW)
/-- The tile's value projection. -/
def projV : FVec F S512x1024 .f32 := k0_pay5 (View.ld x0 whole) (View.ld x1 wholeNorm) (View.ld x4 wholeW)
/-- The queries' head weights with their factor. -/
def weightQ : FVec F S1x128 .f32 := k0_pay6 (View.ld x8 wholeHead)
/-- The keys' head weights. -/
def weightK : FVec F S1x128 .f32 := k0_pay7 (View.ld x9 wholeHead)

/-- What the body leaves in the query block: eight heads side by side. -/
def outQ : Vec F S512x1024 .bf16 := View.canon [⟨col7, k0_pay48 (weightQ x8) (k0_pay45 (projQ x0 x1 x2)) (k0_pay46 (projQ x0 x1 x2)) (k0_pay47 (F := F))⟩, ⟨col6, k0_pay41 (weightQ x8) (k0_pay40 (projQ x0 x1 x2))⟩, ⟨col5, k0_pay36 (projQ x0 x1 x2) (weightQ x8)⟩, ⟨col4, k0_pay32 (projQ x0 x1 x2) (weightQ x8)⟩, ⟨col3, k0_pay26 (projQ x0 x1 x2) (weightQ x8)⟩, ⟨col2, k0_pay20 (projQ x0 x1 x2) (weightQ x8)⟩, ⟨col1, k0_pay16 (k0_pay15 (projQ x0 x1 x2) (weightQ x8))⟩, ⟨col0, k0_pay11 (weightQ x8) (k0_pay8 (View.ld x0 whole) (View.ld x1 wholeNorm) (View.ld x2 wholeW)) (k0_pay9 (View.ld x0 whole) (View.ld x1 wholeNorm) (View.ld x2 wholeW)) (k0_pay10 (F := F))⟩]
/-- What the body leaves in the key block with one head a row: every eighth row is a head's. -/
def outK : Vec F S4096x128 .f32 := View.canon [⟨row7, k0_pay49 (projK x0 x1 x3) (weightK x9)⟩, ⟨row6, k0_pay42 (projK x0 x1 x3) (weightK x9)⟩, ⟨row5, k0_pay37 (projK x0 x1 x3) (weightK x9)⟩, ⟨row4, k0_pay33 (projK x0 x1 x3) (weightK x9)⟩, ⟨row3, k0_pay29 (weightK x9) (k0_pay27 (projK x0 x1 x3)) (k0_pay28 (projK x0 x1 x3))⟩, ⟨row2, k0_pay23 (weightK x9) (k0_pay21 (projK x0 x1 x3)) (k0_pay22 (projK x0 x1 x3))⟩, ⟨row1, k0_pay17 (projK x0 x1 x3) (weightK x9)⟩, ⟨row0, k0_pay12 (projK x0 x1 x3) (weightK x9)⟩]
/-- What the body leaves in the key block: eight heads side by side. -/
def outKb : Vec F S512x1024 .bf16 := View.canon [⟨col7, k0_pay50 (projK x0 x1 x3) (weightK x9)⟩, ⟨col6, k0_pay43 (projK x0 x1 x3) (weightK x9)⟩, ⟨col5, k0_pay38 (projK x0 x1 x3) (weightK x9)⟩, ⟨col4, k0_pay34 (projK x0 x1 x3) (weightK x9)⟩, ⟨col3, k0_pay30 (weightK x9) (k0_pay27 (projK x0 x1 x3)) (k0_pay28 (projK x0 x1 x3))⟩, ⟨col2, k0_pay24 (weightK x9) (k0_pay21 (projK x0 x1 x3)) (k0_pay22 (projK x0 x1 x3))⟩, ⟨col1, k0_pay18 (projK x0 x1 x3) (weightK x9)⟩, ⟨col0, k0_pay13 (projK x0 x1 x3) (weightK x9)⟩]
/-- What the body leaves in the value block with one head a row: every eighth row is a head's. -/
def outV : Vec F S4096x128 .f32 := View.canon [⟨row7, k0_pay51 (projV x0 x1 x4)⟩, ⟨row6, k0_pay44 (projV x0 x1 x4)⟩, ⟨row5, k0_pay39 (projV x0 x1 x4)⟩, ⟨row4, k0_pay35 (projV x0 x1 x4)⟩, ⟨row3, k0_pay31 (projV x0 x1 x4)⟩, ⟨row2, k0_pay25 (projV x0 x1 x4)⟩, ⟨row1, k0_pay19 (projV x0 x1 x4)⟩, ⟨row0, k0_pay14 (projV x0 x1 x4)⟩]
/-- What the body leaves in the value block. -/
def outVb : Vec F S512x1024 .bf16 := View.canon [⟨whole, k0_pay52 (projV x0 x1 x4)⟩]
/-- What the body leaves in the gate's block. -/
def outG : Vec F S512x1024 .bf16 := View.canon [⟨whole, k0_pay53 (rowsN x0 x1) (View.ld x5 wholeW)⟩]
/-- What the body leaves in the forget gates' block. -/
def outF : Vec F S512x8 .f32 := View.canon [⟨wholeGates, k0_pay1 (rowsN x0 x1) (View.ld x6 wholeWf) (View.ld x7 wholeHead)⟩]

set_option maxHeartbeats 2000000 in
/-- The body on whole staging blocks, the inputs' at `x0` … `x9` and the outputs' at anything: the inputs' blocks end as
    they were and each output's block at what the definitions above name. -/
theorem body_spec (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x1024 .bf16) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S4096x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x8 .f32) (harg17 : arg17.IsWhole)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outQ x0 x1 x2 x8) ∗ owns (c : Thread nD τ) arg12 fullShare (outK x0 x1 x3 x9) ∗ owns (c : Thread nD τ) arg13 fullShare (outKb x0 x1 x3 x9) ∗ owns (c : Thread nD τ) arg14 fullShare (outV x0 x1 x4) ∗ owns (c : Thread nD τ) arg15 fullShare (outVb x0 x1 x4) ∗ owns (c : Thread nD τ) arg16 fullShare (outG x0 x1 x5) ∗ owns (c : Thread nD τ) arg17 fullShare (outF x0 x1 x6 x7)) -∗ K ⟨⟩))
      ⊢ wp frame (wpE (defs₀ (F := F)) Variants.none c none) E (cc0_attn_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attn_inproj_eq_skeleton]
  unfold cc0_attn_inproj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (coverColumns (F := F) _ _ _ _ _ _ _ _)).trans rfl
  isplitl [H11]
  · iexists _; isplitr
    swap; · iexact H11
    ipureintro
    exact (View.read_writes_eq_canon _ _ _ (coverRows (F := F) _ _ _ _ _ _ _ _)).trans rfl
  isplitl [H12]
  · iexists _; isplitr
    swap; · iexact H12
    ipureintro
    exact (View.read_writes_eq_canon _ _ _ (coverColumns (F := F) _ _ _ _ _ _ _ _)).trans rfl
  isplitl [H13]
  · iexists _; isplitr
    swap; · iexact H13
    ipureintro
    exact (View.read_writes_eq_canon _ _ _ (coverRows (F := F) _ _ _ _ _ _ _ _)).trans rfl
  isplitl [H14]
  · iexists _; isplitr
    swap; · iexact H14
    ipureintro
    exact (View.read_writes_eq_canon _ _ _ (coverTile (F := F) _)).trans rfl
  isplitl [H15]
  · iexists _; isplitr
    swap; · iexact H15
    ipureintro
    exact (View.read_writes_eq_canon _ _ _ (coverTile (F := F) _)).trans rfl
  iexists _; isplitr
  swap; · iexact H16
  ipureintro
  exact (View.read_writes_eq_canon _ _ _ (coverGates (F := F) _)).trans rfl

end Cert.Kernel3Ideal.Proj

end
-- ==== Proof.Proj.Frame.lean ====
module

public import proofs.«01_k».proof.Proof.Proj.Body
public import proofs.«01_k».proof.Proof.Gen.Kernel3Ideal.Launch
public import proofs.«01_k».proof.Proof.Gen.Kernel3Ideal.Points
public import Idealize.ShloMosaic.Lib.Pipeline.FrameBody
public import Idealize.ShloMosaic.Lib.Claim

@[expose] public section

set_option maxRecDepth 16384
set_option maxHeartbeats 1000000

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the pipeline's frame runs. -/
local notation "𝕄" => MT nD τ sig Unit (Elt F) ℕ (UR sig nD τ) ℕ

variable (m : (ℓ : Loc nD τ sig) → Buf (Elt F) ℓ) (ρ : Dev nD → PrngReg)

/-- What each window's block holds after the body at a point of the grid: an input's block as it was fetched, an output's
    block as the body leaves it from the inputs' blocks of that point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outQ (iblk m c 0 t) (iblk m c 1 t) (iblk m c 2 t) (iblk m c 8 t)
    | ⟨11, _⟩ => outK (iblk m c 0 t) (iblk m c 1 t) (iblk m c 3 t) (iblk m c 9 t)
    | ⟨12, _⟩ => outKb (iblk m c 0 t) (iblk m c 1 t) (iblk m c 3 t) (iblk m c 9 t)
    | ⟨13, _⟩ => outV (iblk m c 0 t) (iblk m c 1 t) (iblk m c 4 t)
    | ⟨14, _⟩ => outVb (iblk m c 0 t) (iblk m c 1 t) (iblk m c 4 t)
    | ⟨15, _⟩ => outG (iblk m c 0 t) (iblk m c 1 t) (iblk m c 5 t)
    | ⟨16, _⟩ => outF (iblk m c 0 t) (iblk m c 1 t) (iblk m c 6 t) (iblk m c 7 t)
    | ⟨_ + 17, h⟩ => absurd h (Nat.not_lt.2 (Nat.le_add_left _ _))
  Φ _ := Pipeline.ΦA spec0 c
  q _ := fullShare
  owed _ := 0

/-- The arrays are what the grid finds. -/
theorem A_eq (c : Dev nD) (w : Fin cfg0.W) : (dats m 0 c).A w = V m c (Pipeline.arrRef spec0 w) := by
  dsimp only [dats]

section

variable (c : Dev nD) (t : Fin cfg0.N)

/-! What each window holds after a point, and what each input's block holds before it. -/

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = outQ (iblk m c 0 t) (iblk m c 1 t) (iblk m c 2 t) (iblk m c 8 t) := by dsimp only [dats]
theorem after0_11 : (dats m 0 c).after 11 t = outK (iblk m c 0 t) (iblk m c 1 t) (iblk m c 3 t) (iblk m c 9 t) := by dsimp only [dats]
theorem after0_12 : (dats m 0 c).after 12 t = outKb (iblk m c 0 t) (iblk m c 1 t) (iblk m c 3 t) (iblk m c 9 t) := by dsimp only [dats]
theorem after0_13 : (dats m 0 c).after 13 t = outV (iblk m c 0 t) (iblk m c 1 t) (iblk m c 4 t) := by dsimp only [dats]
theorem after0_14 : (dats m 0 c).after 14 t = outVb (iblk m c 0 t) (iblk m c 1 t) (iblk m c 4 t) := by dsimp only [dats]
theorem after0_15 : (dats m 0 c).after 15 t = outG (iblk m c 0 t) (iblk m c 1 t) (iblk m c 5 t) := by dsimp only [dats]
theorem after0_16 : (dats m 0 c).after 16 t = outF (iblk m c 0 t) (iblk m c 1 t) (iblk m c 6 t) (iblk m c 7 t) := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
theorem before0_9 (d) : (dats m 0 c).before 9 t d = iblk m c 9 t := before0_9_of m (dats m 0 c) (A_eq m c 9) (after0_9 m c) t d

/-- What the body is called with at a point. -/
def givenAt : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What the body gives back at a point. -/
def leftAt : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The body at a point, from the body on any blocks. -/
theorem point_spec : givenAt m c t ⊢ wp frame (wpE (defs₀ (F := F)) Variants.none c none) Set.univ (bodyAt0 t) (fun _ => leftAt m c t) := by
  unfold givenAt leftAt bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_spec (iblk m c 0 t) (iblk m c 1 t) (iblk m c 2 t) (iblk m c 3 t) (iblk m c 4 t) (iblk m c 5 t) (iblk m c 6 t) (iblk m c 7 t) (iblk m c 8 t) (iblk m c 9 t) c Set.univ (grid0.coords t) _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The procedure the grid calls at a point is the body on that point's blocks. -/
theorem called_body : defs₀ (F := F) .tc cfg0.body (cfg0.bodyArgs t (cfg0.slots t)) = bodyAt0 t := by
  unfold defs₀
  rw [Defs.onTc_tc]

end

/-- The body meets what the grid asks of it, at every point. -/
theorem obligation (c : Dev nD) : BodyObligation (dats (F := F) m 0 c) (defs₀ (F := F)) Variants.none () Set.univ := fun t => by
  rw [bigSep_W0, bigSep_W0, called_body]
  exact triple_restated (point_spec m c t) rfl .rfl fun _ => .rfl

set_option backward.isDefEq.respectTransparency.types false in
/-- The run: every array ends as the blocks written out at the points make it, and every counter is at zero. -/
theorem run_arrays : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run leaves the six arguments as they were. -/
theorem arguments_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the six arguments end as they began and every counter is at zero. -/
theorem arguments_unchanged : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => arguments_kept m r h.1 c, h.2⟩) (run_arrays m ρ)

/-- The seven result arrays and the six arguments at the run's end. -/
theorem run_results : θ_run defs (onTc (τ := τ) (main (F := F))) ⟨m, fun _ => 0, ρ⟩ fun r => ∀ c : Dev nD,
    r.2.mem ((c.tc : Thread nD τ).loc main_v16_0) = (dats m 0 c).arrAt 10 cfg0.N
      ∧ r.2.mem ((c.tc : Thread nD τ).loc main_v16_1) = (dats m 0 c).arrAt 11 cfg0.N
      ∧ r.2.mem ((c.tc : Thread nD τ).loc main_v16_2) = (dats m 0 c).arrAt 12 cfg0.N
      ∧ r.2.mem ((c.tc : Thread nD τ).loc main_v16_3) = (dats m 0 c).arrAt 13 cfg0.N
      ∧ r.2.mem ((c.tc : Thread nD τ).loc main_v16_4) = (dats m 0 c).arrAt 14 cfg0.N
      ∧ r.2.mem ((c.tc : Thread nD τ).loc main_v16_5) = (dats m 0 c).arrAt 15 cfg0.N
      ∧ r.2.mem ((c.tc : Thread nD τ).loc main_v16_6) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 10, (h.1 c).1 11, (h.1 c).1 12, (h.1 c).1 13, (h.1 c).1 14, (h.1 c).1 15, (h.1 c).1 16, arguments_kept m r h.1 c⟩) (run_arrays m ρ)

end Cert.Kernel3Ideal.Proj

end
-- ==== Proof.Proj.Rows.lean ====
module

public import proofs.«01_k».proof.Proof.Conv.Rows
public import Idealize.ShloMosaic.Lib.Pointwise

@[expose] public section

set_option maxRecDepth 16384
set_option maxHeartbeats 1000000

noncomputable section

namespace Cert.Proj

open Idealize.ShloMosaic Cert.Conv

/-- A matrix's entry at a row and a column. -/
def entry {n0 n1 : ℕ} [NeZero n0] [NeZero n1] (A : (⟨2, ![n0, n1]⟩ : Shape).Idx → EReal) (r d : ℕ) : EReal :=
  A (ix2 (n0 := n0) (n1 := n1) (Fin.ofNat n0 r) (Fin.ofNat n1 d))

/-- A vector's entry. -/
def element {n : ℕ} [NeZero n] (A : (⟨1, ![n]⟩ : Shape).Idx → EReal) (d : ℕ) : EReal :=
  A (ix1 (n0 := n) (Fin.ofNat n d))

/-- A matrix at an index, by the index's row and column. -/
theorem eq_entry {n0 n1 : ℕ} [NeZero n0] [NeZero n1] (A : (⟨2, ![n0, n1]⟩ : Shape).Idx → EReal) (x : (⟨2, ![n0, n1]⟩ : Shape).Idx) {r d : ℕ}
    (h0 : (x 0).val = r % n0) (h1 : (x 1).val = d % n1) : A x = entry A r d := by
  unfold entry
  refine congrArg A ?_
  funext a
  match a with
  | ⟨0, _⟩ => exact Fin.ext h0
  | ⟨1, _⟩ => exact Fin.ext h1

/-- A vector at an index, by the index's number. -/
theorem eq_element {n : ℕ} [NeZero n] (A : (⟨1, ![n]⟩ : Shape).Idx → EReal) (x : (⟨1, ![n]⟩ : Shape).Idx) {d : ℕ} (h0 : (x 0).val = d % n) : A x = element A d := by
  unfold element
  refine congrArg A ?_
  funext a
  match a with
  | ⟨0, _⟩ => exact Fin.ext h0

/-- A head's part of a row over the root of its mean square, times the head's weights. -/
def headed (Z : ℕ → ℕ → EReal) (g : ℕ → EReal) (r d : ℕ) : EReal :=
  Z r d * Ideal.rsqrt (Ideal.div (∑ e : Fin 128, Z r (128 * (d / 128) + e.val) * Z r (128 * (d / 128) + e.val)) (Ideal.ofBits FTy.f32 0x43000000#32) + Ideal.ofBits FTy.f32 0x358637BD#32) * g (d % 128)

/-- A factor of the weights is a factor of the head's part. -/
theorem headed_mul (Z : ℕ → ℕ → EReal) (g : ℕ → EReal) (s : EReal) (r d : ℕ) :
    headed Z (fun e => g e * s) r d = headed Z g r d * s := by
  unfold headed
  exact (mul_assoc _ _ _).symm

/-- The logarithm of the logistic, as the kernel writes it. -/
def logsig (z : EReal) : EReal :=
  min z 0 - Ideal.log1p (Ideal.exp (0 - max z (-z)))

/-- The rows of a projection: the normed rows times the columns from `1024 * k` on. -/
def rowsZ (x : (⟨2, ![32768, 1024]⟩ : Shape).Idx → EReal) (gn : (⟨1, ![1024]⟩ : Shape).Idx → EReal) (w : (⟨2, ![1024, 4104]⟩ : Shape).Idx → EReal) (k : ℕ) : ℕ → ℕ → EReal :=
  product (normed (entry x) (element gn)) (fun e d => entry w e (1024 * k + d))

/-- The query rows. -/
def rowsQ (x : (⟨2, ![32768, 1024]⟩ : Shape).Idx → EReal) (gn : (⟨1, ![1024]⟩ : Shape).Idx → EReal) (w : (⟨2, ![1024, 4104]⟩ : Shape).Idx → EReal) (gq : (⟨1, ![128]⟩ : Shape).Idx → EReal) (r d : ℕ) : EReal :=
  headed (rowsZ x gn w 0) (element gq) r d * Ideal.ofBits FTy.f32 0x3E0293EE#32

/-- The key rows. -/
def rowsK (x : (⟨2, ![32768, 1024]⟩ : Shape).Idx → EReal) (gn : (⟨1, ![1024]⟩ : Shape).Idx → EReal) (w : (⟨2, ![1024, 4104]⟩ : Shape).Idx → EReal) (gk : (⟨1, ![128]⟩ : Shape).Idx → EReal) : ℕ → ℕ → EReal :=
  headed (rowsZ x gn w 1) (element gk)

/-- The rows of a matrix of eight heads side by side, one head a row. -/
def byHead (Z : ℕ → ℕ → EReal) (r d : ℕ) : EReal := Z (r / 8) (128 * (r % 8) + d)

/-- The forget gates' rows. -/
def rowsF (x : (⟨2, ![32768, 1024]⟩ : Shape).Idx → EReal) (gn : (⟨1, ![1024]⟩ : Shape).Idx → EReal) (w : (⟨2, ![1024, 4104]⟩ : Shape).Idx → EReal) (b : (⟨1, ![8]⟩ : Shape).Idx → EReal) (r h : ℕ) : EReal :=
  logsig (rowsZ x gn w 4 r h + element b h)

end Cert.Proj

end
-- ==== Proof.Proj.Step.lean ====
module

public import proofs.«01_k».proof.Proof.Proj.Rows
public import proofs.«01_k».proof.Proof.Gen.Kernel3Ideal.Skeleton
public import proofs.«01_k».proof.Proof.Gen.Kernel3Ideal.Frame
public import Idealize.ShloMosaic.Lib.Pointwise

@[expose] public section

set_option maxRecDepth 16384
set_option maxHeartbeats 1000000

noncomputable section

namespace Cert.Kernel3Ideal.Proj

open Cert.Kernel3Ideal Cert.Kernel3Ideal.Gen Cert.Proj
open Cert.Conv (normed product)
open Idealize.ShloMosaic Idealize.ShloMosaic.TcCoe

variable (X N W Z : ℕ → ℕ → EReal) (gn g b : ℕ → EReal)

/-- The normed rows of a tile. -/
theorem pay2_apply (v0 : FVec Ideal S512x1024 .f32) (v11 : FVec Ideal S1x1024 .f32)
    (h0 : ∀ y, v0 y = X (y 0).val (y 1).val) (h11 : ∀ y, v11 y = gn (y 1).val) (y : S512x1024.Idx) :
    k0_pay2 (F := Ideal) v0 v11 y = normed X gn (y 0).val (y 1).val := by
  unfold k0_pay2
  pointwise
  simp only [h0, h11]
  rfl

/-- The queries' projection of a tile. -/
theorem pay3_apply (v0 : FVec Ideal S512x1024 .f32) (v11 : FVec Ideal S1x1024 .f32) (v16 : FVec Ideal S1024x1024 .bf16)
    (h : ∀ y, k0_pay2 (F := Ideal) v0 v11 y = N (y 0).val (y 1).val) (h16 : ∀ y, v16 y = W (y 0).val (y 1).val) (y : S512x1024.Idx) :
    k0_pay3 (F := Ideal) v0 v11 v16 y = product N W (y 0).val (y 1).val := by
  unfold k0_pay3
  pointwise
  simp only [h, h16]
  rfl

/-- The gate of a tile. -/
theorem pay53_apply (v15 : FVec Ideal S512x1024 .bf16) (v297 : FVec Ideal S1024x1024 .bf16)
    (h : ∀ y, v15 y = N (y 0).val (y 1).val) (h297 : ∀ y, v297 y = W (y 0).val (y 1).val) (y : S512x1024.Idx) :
    k0_pay53 (F := Ideal) v15 v297 y = product N W (y 0).val (y 1).val := by
  unfold k0_pay53
  pointwise
  simp only [h, h297]
  rfl

/-- The forget gates of a tile. -/
theorem pay1_apply (v15 : FVec Ideal S512x1024 .bf16) (v302 : FVec Ideal S1024x128 .bf16) (v305 : FVec Ideal S1x128 .f32)
    (h : ∀ y, v15 y = N (y 0).val (y 1).val) (h302 : ∀ y : S1024x128.Idx, (y 1).val < 8 → v302 y = W (y 0).val (y 1).val)
    (h305 : ∀ y : S1x128.Idx, (y 1).val < 8 → v305 y = b (y 1).val) (y : S512x8.Idx) :
    k0_pay1 (F := Ideal) v15 v302 v305 y = logsig (product N W (y 0).val (y 1).val + b (y 1).val) := by
  have h1 : (y 1).val < 8 := (y 1).isLt
  unfold k0_pay1
  pointwise
  simp only [h]
  rw [h305 _ (by show (y 1).val < 8; exact h1)]
  have e : ∀ k : Fin 1024, v302 (ix2 k ⟨(y 1).val, by omega⟩) = W k.val (y 1).val := fun k => h302 _ h1
  simp only [e]
  rfl

/-- A head's part of a projection, normed, for the head at column `o`. -/
def headRows (o : ℕ) (hs : S512x1024.Slices ![0, o] S512x128) (z : FVec Ideal S512x1024 .f32) (g : FVec Ideal S1x128 .f32) : FVec Ideal S512x128 .f32 :=
  mulf (mulf (extractStridedSlice S512x128 ![0, o] z hs)
    (broadcastTo S512x128 (rsqrt (addf (divf (shapeCast S512x1 (multiReduction .add [1] S512 (mulf (extractStridedSlice S512x128 ![0, o] z hs) (extractStridedSlice S512x128 ![0, o] z hs)) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 g broadcasts_S1x128_S512x128)

/-- A head's normed part at an index. -/
theorem headRows_apply (j : ℕ) (hj : j < 8) (hs : S512x1024.Slices ![0, 128 * j] S512x128) (z : FVec Ideal S512x1024 .f32) (v : FVec Ideal S1x128 .f32)
    (hz : ∀ y, z y = Z (y 0).val (y 1).val) (hv : ∀ y, v y = g (y 1).val) (x : S512x128.Idx) :
    headRows (128 * j) hs z v x = headed Z g (x 0).val (128 * j + (x 1).val) := by
  have h1 : (x 1).val < 128 := (x 1).isLt
  unfold headRows
  pointwise
  simp only [hz, hv]
  have e0 : (128 * j + (x 1).val) / 128 = j := by omega
  have e1 : (128 * j + (x 1).val) % 128 = (x 1).val := by omega
  unfold headed
  rw [e0, e1]
  rfl

/-- The queries' weights with their factor. -/
theorem pay6_apply (v25 : FVec Ideal S1x128 .f32) (h : ∀ y, v25 y = g (y 1).val) (y : S1x128.Idx) :
    k0_pay6 (F := Ideal) v25 y = g (y 1).val * Ideal.ofBits FTy.f32 0x3E0293EE#32 := by
  unfold k0_pay6
  pointwise
  rw [h]

end Cert.Kernel3Ideal.Proj

end
-- ==== Proof.Proj.Tile.lean ====
module

public import proofs.«01_k».proof.Proof.Proj.Step
public import proofs.«01_k».proof.Proof.Proj.Frame
public import proofs.«01_k».proof.Proof.Conv.Tile

@[expose] public section

set_option maxRecDepth 16384
set_option maxHeartbeats 1000000

noncomputable section

namespace Cert.Kernel3Ideal.Proj

open Cert.Kernel3Ideal Cert.Kernel3Ideal.Gen Cert.Proj
open Cert.Conv (normed product)
open Cert.Kernel2Ideal.Conv (offsets2)
open Idealize.ShloMosaic Idealize.ShloMosaic.TcCoe

/-- Eight heads stored one after the other are the matrix they are columns of. -/
theorem heads_canon (Z : ℕ → ℕ → EReal) (p0 p1 p2 p3 p4 p5 p6 p7 : Vec Ideal S512x128 .bf16)
    (h0 : ∀ x, p0 x = Z (x 0).val (128 * 0 + (x 1).val)) (h1 : ∀ x, p1 x = Z (x 0).val (128 * 1 + (x 1).val))
    (h2 : ∀ x, p2 x = Z (x 0).val (128 * 2 + (x 1).val)) (h3 : ∀ x, p3 x = Z (x 0).val (128 * 3 + (x 1).val))
    (h4 : ∀ x, p4 x = Z (x 0).val (128 * 4 + (x 1).val)) (h5 : ∀ x, p5 x = Z (x 0).val (128 * 5 + (x 1).val))
    (h6 : ∀ x, p6 x = Z (x 0).val (128 * 6 + (x 1).val)) (h7 : ∀ x, p7 x = Z (x 0).val (128 * 7 + (x 1).val)) (y : S512x1024.Idx) :
    View.canon ([⟨col7, p7⟩, ⟨col6, p6⟩, ⟨col5, p5⟩, ⟨col4, p4⟩, ⟨col3, p3⟩, ⟨col2, p2⟩, ⟨col1, p1⟩, ⟨col0, p0⟩] : List (View.Piece (Elt Ideal) S512x1024 .bf16)) y = Z (y 0).val (y 1).val := by
  have e : ∀ (j o : ℕ) (ho : o = 128 * j) (x : S512x128.Idx), Z (x 0).val (128 * j + (x 1).val) = Z (0 + 1 * (x 0).val) (o + 1 * (x 1).val) := fun j o ho x => by
    rw [ho, zero_add, one_mul, one_mul]
  refine View.canon_apply_of_pieces (fun y => Z (y 0).val (y 1).val) _ ?_ y (coverColumns (F := Ideal) p7 p6 p5 p4 p3 p2 p1 p0 y)
  refine List.forall_mem_cons.2 ⟨fun x => (h7 x).trans (e 7 896 rfl x), ?_⟩
  refine List.forall_mem_cons.2 ⟨fun x => (h6 x).trans (e 6 768 rfl x), ?_⟩
  refine List.forall_mem_cons.2 ⟨fun x => (h5 x).trans (e 5 640 rfl x), ?_⟩
  refine List.forall_mem_cons.2 ⟨fun x => (h4 x).trans (e 4 512 rfl x), ?_⟩
  refine List.forall_mem_cons.2 ⟨fun x => (h3 x).trans (e 3 384 rfl x), ?_⟩
  refine List.forall_mem_cons.2 ⟨fun x => (h2 x).trans (e 2 256 rfl x), ?_⟩
  refine List.forall_mem_cons.2 ⟨fun x => (h1 x).trans (e 1 128 rfl x), ?_⟩
  refine List.forall_mem_cons.2 ⟨fun x => (h0 x).trans (e 0 0 rfl x), ?_⟩
  exact fun p h => absurd h List.not_mem_nil

/-- Eight heads, each stored over every eighth row, are the matrix they are columns of with one head a row. -/
theorem heads_rows (Z : ℕ → ℕ → EReal) (p0 p1 p2 p3 p4 p5 p6 p7 : Vec Ideal S512x128 .f32)
    (h0 : ∀ x, p0 x = Z (x 0).val (128 * 0 + (x 1).val)) (h1 : ∀ x, p1 x = Z (x 0).val (128 * 1 + (x 1).val))
    (h2 : ∀ x, p2 x = Z (x 0).val (128 * 2 + (x 1).val)) (h3 : ∀ x, p3 x = Z (x 0).val (128 * 3 + (x 1).val))
    (h4 : ∀ x, p4 x = Z (x 0).val (128 * 4 + (x 1).val)) (h5 : ∀ x, p5 x = Z (x 0).val (128 * 5 + (x 1).val))
    (h6 : ∀ x, p6 x = Z (x 0).val (128 * 6 + (x 1).val)) (h7 : ∀ x, p7 x = Z (x 0).val (128 * 7 + (x 1).val)) (y : S4096x128.Idx) :
    View.canon ([⟨row7, p7⟩, ⟨row6, p6⟩, ⟨row5, p5⟩, ⟨row4, p4⟩, ⟨row3, p3⟩, ⟨row2, p2⟩, ⟨row1, p1⟩, ⟨row0, p0⟩] : List (View.Piece (Elt Ideal) S4096x128 .f32)) y = byHead Z (y 0).val (y 1).val := by
  have e : ∀ (j : ℕ) (hj : j < 8) (x : S512x128.Idx), Z (x 0).val (128 * j + (x 1).val) = byHead Z (j + 8 * (x 0).val) (0 + 1 * (x 1).val) := fun j hj x => by
    unfold byHead
    rw [show (j + 8 * (x 0).val) / 8 = (x 0).val by omega, show (j + 8 * (x 0).val) % 8 = j by omega, zero_add, one_mul]
  refine View.canon_apply_of_pieces (fun y => byHead Z (y 0).val (y 1).val) _ ?_ y (coverRows (F := Ideal) p7 p6 p5 p4 p3 p2 p1 p0 y)
  refine List.forall_mem_cons.2 ⟨fun x => (h7 x).trans (e 7 (by decide) x), ?_⟩
  refine List.forall_mem_cons.2 ⟨fun x => (h6 x).trans (e 6 (by decide) x), ?_⟩
  refine List.forall_mem_cons.2 ⟨fun x => (h5 x).trans (e 5 (by decide) x), ?_⟩
  refine List.forall_mem_cons.2 ⟨fun x => (h4 x).trans (e 4 (by decide) x), ?_⟩
  refine List.forall_mem_cons.2 ⟨fun x => (h3 x).trans (e 3 (by decide) x), ?_⟩
  refine List.forall_mem_cons.2 ⟨fun x => (h2 x).trans (e 2 (by decide) x), ?_⟩
  refine List.forall_mem_cons.2 ⟨fun x => (h1 x).trans (e 1 (by decide) x), ?_⟩
  refine List.forall_mem_cons.2 ⟨fun x => (h0 x).trans (e 0 (by decide) x), ?_⟩
  exact fun p h => absurd h List.not_mem_nil

section

variable (Z : ℕ → ℕ → EReal) (g : ℕ → EReal) (z : FVec Ideal S512x1024 .f32) (v : FVec Ideal S1x128 .f32)
    (hz : ∀ y, z y = Z (y 0).val (y 1).val) (hv : ∀ y, v y = g (y 1).val)

include hz

/-- The values' heads, one head a row. -/
theorem values_rows (y : S4096x128.Idx) :
    View.canon ([⟨row7, k0_pay51 z⟩, ⟨row6, k0_pay44 z⟩, ⟨row5, k0_pay39 z⟩, ⟨row4, k0_pay35 z⟩, ⟨row3, k0_pay31 z⟩, ⟨row2, k0_pay25 z⟩, ⟨row1, k0_pay19 z⟩, ⟨row0, k0_pay14 z⟩] : List (View.Piece (Elt Ideal) S4096x128 .f32)) y = byHead Z (y 0).val (y 1).val := by
  have e : ∀ (j : ℕ) (hj : j < 8) (hs : S512x1024.Slices ![0, 128 * j] S512x128) (x : S512x128.Idx),
      extractStridedSlice S512x128 ![0, 128 * j] z hs x = Z (x 0).val (128 * j + (x 1).val) := fun j hj hs x => by
    pointwise
    rw [hz]
    rfl
  refine heads_rows Z _ _ _ _ _ _ _ _ ?_ ?_ ?_ ?_ ?_ ?_ ?_ ?_ y
  · exact fun x => e 0 (by decide) slices_S512x1024_o0_0_S512x128 x
  · exact fun x => e 1 (by decide) slices_S512x1024_o0_128_S512x128 x
  · exact fun x => e 2 (by decide) slices_S512x1024_o0_256_S512x128 x
  · exact fun x => e 3 (by decide) slices_S512x1024_o0_384_S512x128 x
  · exact fun x => e 4 (by decide) slices_S512x1024_o0_512_S512x128 x
  · exact fun x => e 5 (by decide) slices_S512x1024_o0_640_S512x128 x
  · exact fun x => e 6 (by decide) slices_S512x1024_o0_768_S512x128 x
  · exact fun x => e 7 (by decide) slices_S512x1024_o0_896_S512x128 x

include hv

/-- The queries' heads stored one after the other. -/
theorem queries_canon (y : S512x1024.Idx) :
    View.canon ([⟨col7, k0_pay48 v (k0_pay45 z) (k0_pay46 z) (k0_pay47 (F := Ideal))⟩, ⟨col6, k0_pay41 v (k0_pay40 z)⟩, ⟨col5, k0_pay36 z v⟩, ⟨col4, k0_pay32 z v⟩, ⟨col3, k0_pay26 z v⟩, ⟨col2, k0_pay20 z v⟩, ⟨col1, k0_pay16 (k0_pay15 z v)⟩, ⟨col0, truncf .bf16 (headRows 0 slices_S512x1024_o0_0_S512x128 z v) bitsLt_bf16_f32⟩] : List (View.Piece (Elt Ideal) S512x1024 .bf16)) y = headed Z g (y 0).val (y 1).val := by
  refine heads_canon (headed Z g) _ _ _ _ _ _ _ _ ?_ ?_ ?_ ?_ ?_ ?_ ?_ ?_ y
  · exact fun x => headRows_apply Z g 0 (by decide) slices_S512x1024_o0_0_S512x128 z v hz hv x
  · exact fun x => headRows_apply Z g 1 (by decide) slices_S512x1024_o0_128_S512x128 z v hz hv x
  · exact fun x => headRows_apply Z g 2 (by decide) slices_S512x1024_o0_256_S512x128 z v hz hv x
  · exact fun x => headRows_apply Z g 3 (by decide) slices_S512x1024_o0_384_S512x128 z v hz hv x
  · exact fun x => headRows_apply Z g 4 (by decide) slices_S512x1024_o0_512_S512x128 z v hz hv x
  · exact fun x => headRows_apply Z g 5 (by decide) slices_S512x1024_o0_640_S512x128 z v hz hv x
  · exact fun x => headRows_apply Z g 6 (by decide) slices_S512x1024_o0_768_S512x128 z v hz hv x
  · exact fun x => headRows_apply Z g 7 (by decide) slices_S512x1024_o0_896_S512x128 z v hz hv x

/-- The keys' heads stored one after the other. -/
theorem keys_canon (y : S512x1024.Idx) :
    View.canon ([⟨col7, k0_pay50 z v⟩, ⟨col6, k0_pay43 z v⟩, ⟨col5, k0_pay38 z v⟩, ⟨col4, k0_pay34 z v⟩, ⟨col3, k0_pay30 v (k0_pay27 z) (k0_pay28 z)⟩, ⟨col2, k0_pay24 v (k0_pay21 z) (k0_pay22 z)⟩, ⟨col1, k0_pay18 z v⟩, ⟨col0, k0_pay13 z v⟩] : List (View.Piece (Elt Ideal) S512x1024 .bf16)) y = headed Z g (y 0).val (y 1).val := by
  refine heads_canon (headed Z g) _ _ _ _ _ _ _ _ ?_ ?_ ?_ ?_ ?_ ?_ ?_ ?_ y
  · exact fun x => headRows_apply Z g 0 (by decide) slices_S512x1024_o0_0_S512x128 z v hz hv x
  · exact fun x => headRows_apply Z g 1 (by decide) slices_S512x1024_o0_128_S512x128 z v hz hv x
  · exact fun x => headRows_apply Z g 2 (by decide) slices_S512x1024_o0_256_S512x128 z v hz hv x
  · exact fun x => headRows_apply Z g 3 (by decide) slices_S512x1024_o0_384_S512x128 z v hz hv x
  · exact fun x => headRows_apply Z g 4 (by decide) slices_S512x1024_o0_512_S512x128 z v hz hv x
  · exact fun x => headRows_apply Z g 5 (by decide) slices_S512x1024_o0_640_S512x128 z v hz hv x
  · exact fun x => headRows_apply Z g 6 (by decide) slices_S512x1024_o0_768_S512x128 z v hz hv x
  · exact fun x => headRows_apply Z g 7 (by decide) slices_S512x1024_o0_896_S512x128 z v hz hv x

/-- The keys' heads, one head a row. -/
theorem keys_rows (y : S4096x128.Idx) :
    View.canon ([⟨row7, k0_pay49 z v⟩, ⟨row6, k0_pay42 z v⟩, ⟨row5, k0_pay37 z v⟩, ⟨row4, k0_pay33 z v⟩, ⟨row3, k0_pay29 v (k0_pay27 z) (k0_pay28 z)⟩, ⟨row2, k0_pay23 v (k0_pay21 z) (k0_pay22 z)⟩, ⟨row1, k0_pay17 z v⟩, ⟨row0, k0_pay12 z v⟩] : List (View.Piece (Elt Ideal) S4096x128 .f32)) y = byHead (headed Z g) (y 0).val (y 1).val := by
  refine heads_rows (headed Z g) _ _ _ _ _ _ _ _ ?_ ?_ ?_ ?_ ?_ ?_ ?_ ?_ y
  · exact fun x => headRows_apply Z g 0 (by decide) slices_S512x1024_o0_0_S512x128 z v hz hv x
  · exact fun x => headRows_apply Z g 1 (by decide) slices_S512x1024_o0_128_S512x128 z v hz hv x
  · exact fun x => headRows_apply Z g 2 (by decide) slices_S512x1024_o0_256_S512x128 z v hz hv x
  · exact fun x => headRows_apply Z g 3 (by decide) slices_S512x1024_o0_384_S512x128 z v hz hv x
  · exact fun x => headRows_apply Z g 4 (by decide) slices_S512x1024_o0_512_S512x128 z v hz hv x
  · exact fun x => headRows_apply Z g 5 (by decide) slices_S512x1024_o0_640_S512x128 z v hz hv x
  · exact fun x => headRows_apply Z g 6 (by decide) slices_S512x1024_o0_768_S512x128 z v hz hv x
  · exact fun x => headRows_apply Z g 7 (by decide) slices_S512x1024_o0_896_S512x128 z v hz hv x

end

section

variable (x0 : Vec Ideal S512x1024 .f32) (x1 : Vec Ideal S1x1024 .f32) (x2 x3 x4 x5 : Vec Ideal S1024x1024 .bf16) (x6 : Vec Ideal S1024x128 .bf16) (x7 x8 x9 : Vec Ideal S1x128 .f32)
    (X W : ℕ → ℕ → EReal) (gn g b : ℕ → EReal)

/-- The normed rows of a tile, from its blocks. -/
theorem tile_norm (h0 : ∀ y, x0 y = X (y 0).val (y 1).val) (h1 : ∀ y, x1 y = gn (y 1).val) (y : S512x1024.Idx) :
    rowsN (F := Ideal) x0 x1 y = normed X gn (y 0).val (y 1).val := by
  unfold rowsN
  rw [View.ld_unit_zero (S := S512x1024) offsets2, View.ld_unit_zero (S := S1x1024) offsets2]
  exact pay2_apply X gn x0 x1 h0 h1 y

/-- The queries' projection of a tile, from its blocks. -/
theorem tile_q (h0 : ∀ y, x0 y = X (y 0).val (y 1).val) (h1 : ∀ y, x1 y = gn (y 1).val) (h : ∀ y, x2 y = W (y 0).val (y 1).val) (y : S512x1024.Idx) :
    projQ (F := Ideal) x0 x1 x2 y = product (normed X gn) W (y 0).val (y 1).val := by
  unfold projQ
  rw [View.ld_unit_zero (S := S512x1024) offsets2, View.ld_unit_zero (S := S1x1024) offsets2, View.ld_unit_zero (S := S1024x1024) offsets2]
  exact pay3_apply (normed X gn) W x0 x1 x2 (pay2_apply X gn x0 x1 h0 h1) h y

/-- The keys' projection of a tile, from its blocks. -/
theorem tile_k (h0 : ∀ y, x0 y = X (y 0).val (y 1).val) (h1 : ∀ y, x1 y = gn (y 1).val) (h : ∀ y, x3 y = W (y 0).val (y 1).val) (y : S512x1024.Idx) :
    projK (F := Ideal) x0 x1 x3 y = product (normed X gn) W (y 0).val (y 1).val := by
  unfold projK
  rw [View.ld_unit_zero (S := S512x1024) offsets2, View.ld_unit_zero (S := S1x1024) offsets2, View.ld_unit_zero (S := S1024x1024) offsets2]
  exact pay3_apply (normed X gn) W x0 x1 x3 (pay2_apply X gn x0 x1 h0 h1) h y

/-- The values' projection of a tile, from its blocks. -/
theorem tile_v (h0 : ∀ y, x0 y = X (y 0).val (y 1).val) (h1 : ∀ y, x1 y = gn (y 1).val) (h : ∀ y, x4 y = W (y 0).val (y 1).val) (y : S512x1024.Idx) :
    projV (F := Ideal) x0 x1 x4 y = product (normed X gn) W (y 0).val (y 1).val := by
  unfold projV
  rw [View.ld_unit_zero (S := S512x1024) offsets2, View.ld_unit_zero (S := S1x1024) offsets2, View.ld_unit_zero (S := S1024x1024) offsets2]
  exact pay3_apply (normed X gn) W x0 x1 x4 (pay2_apply X gn x0 x1 h0 h1) h y

/-- The query rows a tile leaves. -/
theorem out_q (h0 : ∀ y, x0 y = X (y 0).val (y 1).val) (h1 : ∀ y, x1 y = gn (y 1).val) (h : ∀ y, x2 y = W (y 0).val (y 1).val) (h8 : ∀ y, x8 y = g (y 1).val) (y : S512x1024.Idx) :
    outQ (F := Ideal) x0 x1 x2 x8 y = headed (product (normed X gn) W) g (y 0).val (y 1).val * Ideal.ofBits FTy.f32 0x3E0293EE#32 := by
  rw [← headed_mul]
  refine queries_canon (product (normed X gn) W) (fun e => g e * Ideal.ofBits FTy.f32 0x3E0293EE#32) (projQ x0 x1 x2) (weightQ x8) (tile_q x0 x1 x2 X W gn h0 h1 h) (fun y => ?_) y
  unfold weightQ
  rw [View.ld_unit_zero (S := S1x128) offsets2]
  exact pay6_apply g x8 h8 y

/-- The keys' weights of a tile. -/
theorem tile_gk (h9 : ∀ y, x9 y = g (y 1).val) (y : S1x128.Idx) : weightK (F := Ideal) x9 y = g (y 1).val := by
  unfold weightK k0_pay7
  rw [View.ld_unit_zero (S := S1x128) offsets2, shapeCast_self]
  exact h9 y

/-- The key rows a tile leaves, one head a row. -/
theorem out_k (h0 : ∀ y, x0 y = X (y 0).val (y 1).val) (h1 : ∀ y, x1 y = gn (y 1).val) (h : ∀ y, x3 y = W (y 0).val (y 1).val) (h9 : ∀ y, x9 y = g (y 1).val) (y : S4096x128.Idx) :
    outK (F := Ideal) x0 x1 x3 x9 y = byHead (headed (product (normed X gn) W) g) (y 0).val (y 1).val := by
  exact keys_rows (product (normed X gn) W) g (projK x0 x1 x3) (weightK x9) (tile_k x0 x1 x3 X W gn h0 h1 h) (tile_gk x9 g h9) y

/-- The key rows a tile leaves. -/
theorem out_kb (h0 : ∀ y, x0 y = X (y 0).val (y 1).val) (h1 : ∀ y, x1 y = gn (y 1).val) (h : ∀ y, x3 y = W (y 0).val (y 1).val) (h9 : ∀ y, x9 y = g (y 1).val) (y : S512x1024.Idx) :
    outKb (F := Ideal) x0 x1 x3 x9 y = headed (product (normed X gn) W) g (y 0).val (y 1).val :=
  keys_canon (product (normed X gn) W) g (projK x0 x1 x3) (weightK x9) (tile_k x0 x1 x3 X W gn h0 h1 h) (tile_gk x9 g h9) y

/-- The value rows a tile leaves, one head a row. -/
theorem out_v (h0 : ∀ y, x0 y = X (y 0).val (y 1).val) (h1 : ∀ y, x1 y = gn (y 1).val) (h : ∀ y, x4 y = W (y 0).val (y 1).val) (y : S4096x128.Idx) :
    outV (F := Ideal) x0 x1 x4 y = byHead (product (normed X gn) W) (y 0).val (y 1).val := by
  exact values_rows (product (normed X gn) W) (projV x0 x1 x4) (tile_v x0 x1 x4 X W gn h0 h1 h) y

/-- The value rows a tile leaves. -/
theorem out_vb (h0 : ∀ y, x0 y = X (y 0).val (y 1).val) (h1 : ∀ y, x1 y = gn (y 1).val) (h : ∀ y, x4 y = W (y 0).val (y 1).val) (y : S512x1024.Idx) :
    outVb (F := Ideal) x0 x1 x4 y = product (normed X gn) W (y 0).val (y 1).val := by
  unfold outVb
  rw [View.canon_unit_zero offsets2]
  exact tile_v x0 x1 x4 X W gn h0 h1 h y

/-- The gate's rows a tile leaves. -/
theorem out_gate (h0 : ∀ y, x0 y = X (y 0).val (y 1).val) (h1 : ∀ y, x1 y = gn (y 1).val) (h : ∀ y, x5 y = W (y 0).val (y 1).val) (y : S512x1024.Idx) :
    outG (F := Ideal) x0 x1 x5 y = product (normed X gn) W (y 0).val (y 1).val := by
  unfold outG
  rw [View.canon_unit_zero offsets2, View.ld_unit_zero (S := S1024x1024) offsets2]
  exact pay53_apply (normed X gn) W _ _ (tile_norm x0 x1 X gn h0 h1) h y

/-- The forget gates' rows a tile leaves. -/
theorem out_f (h0 : ∀ y, x0 y = X (y 0).val (y 1).val) (h1 : ∀ y, x1 y = gn (y 1).val) (h : ∀ y : S1024x128.Idx, (y 1).val < 8 → x6 y = W (y 0).val (y 1).val)
    (h7 : ∀ y : S1x128.Idx, (y 1).val < 8 → x7 y = b (y 1).val) (y : S512x8.Idx) :
    outF (F := Ideal) x0 x1 x6 x7 y = logsig (product (normed X gn) W (y 0).val (y 1).val + b (y 1).val) := by
  unfold outF
  rw [View.canon_unit_zero offsets2, View.ld_unit_zero (S := S1024x128) offsets2, View.ld_unit_zero (S := S1x128) offsets2]
  exact pay1_apply (normed X gn) W b _ _ _ (tile_norm x0 x1 X gn h0 h1) h h7 y

end

end Cert.Kernel3Ideal.Proj

end
-- ==== Proof.Proj.Blocks.lean ====
module

public import proofs.«01_k».proof.Proof.Proj.Rows
public import proofs.«01_k».proof.Proof.Gen.Kernel3Ideal.Frame
public import Idealize.ShloMosaic.Lib.Pointwise
public import Idealize.ShloMosaic.Lib.Pipeline.ValueKit.Geometry

@[expose] public section

set_option maxRecDepth 16384
set_option maxHeartbeats 1000000

noncomputable section

namespace Cert.Kernel3Ideal.Proj

open Cert.Kernel3Ideal Cert.Kernel3Ideal.Gen Cert.Proj
open Idealize.ShloMosaic Idealize.ShloMosaic.TcCoe Idealize.ShloMosaic.Tactic

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![t.val, 0] :=
  (by decide +kernel : ∀ t : Fin grid0.N, _)
theorem index11 : ∀ t : Fin cfg0.N, win0_11.index t = ![t.val, 0] :=
  (by decide +kernel : ∀ t : Fin grid0.N, _)
theorem index12 : ∀ t : Fin cfg0.N, win0_12.index t = ![t.val, 0] :=
  (by decide +kernel : ∀ t : Fin grid0.N, _)
theorem index13 : ∀ t : Fin cfg0.N, win0_13.index t = ![t.val, 0] :=
  (by decide +kernel : ∀ t : Fin grid0.N, _)
theorem index14 : ∀ t : Fin cfg0.N, win0_14.index t = ![t.val, 0] :=
  (by decide +kernel : ∀ t : Fin grid0.N, _)
theorem index15 : ∀ t : Fin cfg0.N, win0_15.index t = ![t.val, 0] :=
  (by decide +kernel : ∀ t : Fin grid0.N, _)
theorem index16 : ∀ t : Fin cfg0.N, win0_16.index t = ![t.val, 0] :=
  (by decide +kernel : ∀ t : Fin grid0.N, _)

/-- The input rows of a tile. -/
theorem block_x (t : Fin cfg0.N) (y : S512x1024.Idx) : iblk m c 0 t y = entry (m ((c : Thread nD τ).loc main_arg0)) (512 * t.val + (y 0).val) (y 1).val := by
  have h0 : (y 0).val < 512 := (y 0).isLt
  have h1 : (y 1).val < 1024 := (y 1).isLt
  have ht : t.val < 64 := t.isLt
  blk_simp [iblk]
  rw [show V m c main_arg0 = _ from V_main_arg0 m c]
  refine eq_entry _ _ ?_ ?_
  · blk_simp [index0]
    show t.val * 512 + (y 0).val = _
    omega
  · blk_simp [index0]
    show (y 1).val = _
    omega

/-- A projection's weights, from their slice. -/
theorem slice_apply (A : FVec Ideal S1024x4104 .f32) (k : ℕ) (hk : k < 4) (hs) (x : S1024x1024.Idx) :
    truncf (F := Ideal) .bf16 (extractStridedSlice S1024x1024 ![0, 1024 * k] A hs) bitsLt_bf16_f32 x = entry A (x 0).val (1024 * k + (x 1).val) := by
  have h0 : (x 0).val < 1024 := (x 0).isLt
  have h1 : (x 1).val < 1024 := (x 1).isLt
  pointwise
  refine eq_entry _ _ ?_ ?_
  · show (x 0).val = _
    omega
  · show 1024 * k + (x 1).val = _
    omega

/-- The weights of projection 0. -/
theorem block_wq (t : Fin cfg0.N) (y : S1024x1024.Idx) : iblk m c 2 t y = entry (m ((c : Thread nD τ).loc main_arg2)) (y 0).val (1024 * 0 + (y 1).val) := by
  have e : V m c main_v1 = truncf (F := Ideal) .bf16 (extractStridedSlice S1024x1024 ![0, 1024 * 0] (m ((c : Thread nD τ).loc main_arg2)) slices_S1024x4104_S1024x1024_0_0) bitsLt_bf16_f32 := by
    unfold V hostOps0 hostOps0_1 hostOps0_2 hostOps0_3 hostOps0_4
    simp only [List.flatten, List.append, StableHlo.TRef.unary, StableHlo.TRef.binary, StableHlo.TRef.toBuf, StableHlo.TRef.ofBuf, cast_eq]
    after_results_simp
  blk_simp [iblk]
  refine (congrFun e _).trans ((slice_apply _ 0 (by decide) _ _).trans ?_)
  blk_simp [index2]

/-- The weights of projection 1. -/
theorem block_wk (t : Fin cfg0.N) (y : S1024x1024.Idx) : iblk m c 3 t y = entry (m ((c : Thread nD τ).loc main_arg2)) (y 0).val (1024 * 1 + (y 1).val) := by
  have e : V m c main_v3 = truncf (F := Ideal) .bf16 (extractStridedSlice S1024x1024 ![0, 1024 * 1] (m ((c : Thread nD τ).loc main_arg2)) slices_S1024x4104_S1024x1024_0_1024) bitsLt_bf16_f32 := by
    unfold V hostOps0 hostOps0_1 hostOps0_2 hostOps0_3 hostOps0_4
    simp only [List.flatten, List.append, StableHlo.TRef.unary, StableHlo.TRef.binary, StableHlo.TRef.toBuf, StableHlo.TRef.ofBuf, cast_eq]
    after_results_simp
  blk_simp [iblk]
  refine (congrFun e _).trans ((slice_apply _ 1 (by decide) _ _).trans ?_)
  blk_simp [index3]

/-- The weights of projection 2. -/
theorem block_wv (t : Fin cfg0.N) (y : S1024x1024.Idx) : iblk m c 4 t y = entry (m ((c : Thread nD τ).loc main_arg2)) (y 0).val (1024 * 2 + (y 1).val) := by
  have e : V m c main_v5 = truncf (F := Ideal) .bf16 (extractStridedSlice S1024x1024 ![0, 1024 * 2] (m ((c : Thread nD τ).loc main_arg2)) slices_S1024x4104_S1024x1024_0_2048) bitsLt_bf16_f32 := by
    unfold V hostOps0 hostOps0_1 hostOps0_2 hostOps0_3 hostOps0_4
    simp only [List.flatten, List.append, StableHlo.TRef.unary, StableHlo.TRef.binary, StableHlo.TRef.toBuf, StableHlo.TRef.ofBuf, cast_eq]
    after_results_simp
  blk_simp [iblk]
  refine (congrFun e _).trans ((slice_apply _ 2 (by decide) _ _).trans ?_)
  blk_simp [index4]

/-- The weights of projection 3. -/
theorem block_wg (t : Fin cfg0.N) (y : S1024x1024.Idx) : iblk m c 5 t y = entry (m ((c : Thread nD τ).loc main_arg2)) (y 0).val (1024 * 3 + (y 1).val) := by
  have e : V m c main_v7 = truncf (F := Ideal) .bf16 (extractStridedSlice S1024x1024 ![0, 1024 * 3] (m ((c : Thread nD τ).loc main_arg2)) slices_S1024x4104_S1024x1024_0_3072) bitsLt_bf16_f32 := by
    unfold V hostOps0 hostOps0_1 hostOps0_2 hostOps0_3 hostOps0_4
    simp only [List.flatten, List.append, StableHlo.TRef.unary, StableHlo.TRef.binary, StableHlo.TRef.toBuf, StableHlo.TRef.ofBuf, cast_eq]
    after_results_simp
  blk_simp [iblk]
  refine (congrFun e _).trans ((slice_apply _ 3 (by decide) _ _).trans ?_)
  blk_simp [index5]

/-- The norm's weights. -/
theorem block_gn (t : Fin cfg0.N) (y : S1x1024.Idx) : iblk m c 1 t y = element (m ((c : Thread nD τ).loc main_arg1)) (y 1).val := by
  have h1 : (y 1).val < 1024 := (y 1).isLt
  have e : ∀ x : S1x1024.Idx, V m c main_v11 x = element (m ((c : Thread nD τ).loc main_arg1)) (x 1).val := fun x => by
    have h1 : (x 1).val < 1024 := (x 1).isLt
    have e1 : V m c main_v11 = shapeCast S1x1024 (m ((c : Thread nD τ).loc main_arg1)) shapeCasts_S1024_S1x1024 := by
      unfold V hostOps0 hostOps0_1 hostOps0_2 hostOps0_3 hostOps0_4
      simp only [List.flatten, List.append, StableHlo.TRef.unary, StableHlo.TRef.binary, StableHlo.TRef.toBuf, StableHlo.TRef.ofBuf, cast_eq]
      after_results_simp
      rfl
    rw [e1]
    pointwise
    refine eq_element _ _ ?_
    show (x 1).val = _
    omega
  blk_simp [iblk]
  refine (e _).trans ?_
  blk_simp [index1]

/-- The queries' weights. -/
theorem block_gq (t : Fin cfg0.N) (y : S1x128.Idx) : iblk m c 8 t y = element (m ((c : Thread nD τ).loc main_arg4)) (y 1).val := by
  have h1 : (y 1).val < 128 := (y 1).isLt
  have e : ∀ x : S1x128.Idx, V m c main_v14 x = element (m ((c : Thread nD τ).loc main_arg4)) (x 1).val := fun x => by
    have h1 : (x 1).val < 128 := (x 1).isLt
    have e1 : V m c main_v14 = shapeCast S1x128 (m ((c : Thread nD τ).loc main_arg4)) shapeCasts_S128_S1x128 := by
      unfold V hostOps0 hostOps0_1 hostOps0_2 hostOps0_3 hostOps0_4
      simp only [List.flatten, List.append, StableHlo.TRef.unary, StableHlo.TRef.binary, StableHlo.TRef.toBuf, StableHlo.TRef.ofBuf, cast_eq]
      after_results_simp
      rfl
    rw [e1]
    pointwise
    refine eq_element _ _ ?_
    show (x 1).val = _
    omega
  blk_simp [iblk]
  refine (e _).trans ?_
  blk_simp [index8]

/-- The keys' weights. -/
theorem block_gk (t : Fin cfg0.N) (y : S1x128.Idx) : iblk m c 9 t y = element (m ((c : Thread nD τ).loc main_arg5)) (y 1).val := by
  have h1 : (y 1).val < 128 := (y 1).isLt
  have e : ∀ x : S1x128.Idx, V m c main_v15 x = element (m ((c : Thread nD τ).loc main_arg5)) (x 1).val := fun x => by
    have h1 : (x 1).val < 128 := (x 1).isLt
    have e1 : V m c main_v15 = shapeCast S1x128 (m ((c : Thread nD τ).loc main_arg5)) shapeCasts_S128_S1x128 := by
      unfold V hostOps0 hostOps0_1 hostOps0_2 hostOps0_3 hostOps0_4
      simp only [List.flatten, List.append, StableHlo.TRef.unary, StableHlo.TRef.binary, StableHlo.TRef.toBuf, StableHlo.TRef.ofBuf, cast_eq]
      after_results_simp
      rfl
    rw [e1]
    pointwise
    refine eq_element _ _ ?_
    show (x 1).val = _
    omega
  blk_simp [iblk]
  refine (e _).trans ?_
  blk_simp [index9]

/-- The forget gates' weights, under their columns. -/
theorem block_wf (t : Fin cfg0.N) (y : S1024x128.Idx) (hy : (y 1).val < 8) : iblk m c 6 t y = entry (m ((c : Thread nD τ).loc main_arg2)) (y 0).val (1024 * 4 + (y 1).val) := by
  have e : ∀ x : S1024x128.Idx, (x 1).val < 8 → V m c main_v10 x = entry (m ((c : Thread nD τ).loc main_arg2)) (x 0).val (1024 * 4 + (x 1).val) := fun x hx => by
    have h0 : (x 0).val < 1024 := (x 0).isLt
    unfold V hostOps0 hostOps0_1 hostOps0_2 hostOps0_3 hostOps0_4
    simp only [List.flatten, List.append, StableHlo.TRef.unary, StableHlo.TRef.binary, StableHlo.TRef.toBuf, StableHlo.TRef.ofBuf, cast_eq]
    after_results_simp
    pointwise
    refine (dif_pos hx).trans (eq_entry _ _ ?_ ?_)
    · show (x 0).val = _
      omega
    · show 4096 + (x 1).val = _
      omega
  blk_simp [iblk]
  refine (e _ ?_).trans ?_
  · blk_simp [index6]
    exact hy
  · blk_simp [index6]

/-- The forget gates' biases, under their columns. -/
theorem block_bf (t : Fin cfg0.N) (y : S1x128.Idx) (hy : (y 1).val < 8) : iblk m c 7 t y = element (m ((c : Thread nD τ).loc main_arg3)) (y 1).val := by
  have e : ∀ x : S1x128.Idx, (x 1).val < 8 → V m c main_v13 x = element (m ((c : Thread nD τ).loc main_arg3)) (x 1).val := fun x hx => by
    unfold V hostOps0 hostOps0_1 hostOps0_2 hostOps0_3 hostOps0_4
    simp only [List.flatten, List.append, StableHlo.TRef.unary, StableHlo.TRef.binary, StableHlo.TRef.toBuf, StableHlo.TRef.ofBuf, cast_eq]
    after_results_simp
    pointwise
    refine (dif_pos hx).trans (eq_element _ _ ?_)
    show (x 1).val = _
    omega
  blk_simp [iblk]
  refine (e _ ?_).trans ?_
  · blk_simp [index7]
    exact hy
  · blk_simp [index7]

end Cert.Kernel3Ideal.Proj

end
-- ==== Proof.Proj.Result.lean ====
module

public import proofs.«01_k».proof.Proof.Proj.Tile
public import proofs.«01_k».proof.Proof.Proj.Blocks

@[expose] public section

set_option maxRecDepth 16384
set_option maxHeartbeats 1000000

noncomputable section

namespace Cert.Kernel3Ideal.Proj

open Cert.Kernel3Ideal Cert.Kernel3Ideal.Gen Cert.Proj
open Cert.Conv (normed product)
open Idealize.ShloMosaic Idealize.ShloMosaic.TcCoe Idealize.ShloMosaic.Tactic

variable (m : (ℓ : Loc nD τ sig) → Buf (Elt Ideal) ℓ) (c : Dev nD)

/-- The query array the call leaves. -/
theorem array_q : (dats m 0 c).arrAt 10 cfg0.N = fun x : S32768x1024.Idx => rowsQ (m ((c : Thread nD τ).loc main_arg0)) (m ((c : Thread nD τ).loc main_arg1)) (m ((c : Thread nD τ).loc main_arg2)) (m ((c : Thread nD τ).loc main_arg4)) (x 0).val (x 1).val := by
  refine (dats m 0 c).arrAt_eq_of_covers 10 _ (by decide +kernel) fun t hf y => ?_
  blk_simp
  rw [after0_10]
  have h0 : (y 0).val < 512 := (y 0).isLt
  have h1 : (y 1).val < 1024 := (y 1).isLt
  refine (out_q (iblk m c 0 t) (iblk m c 1 t) (iblk m c 2 t) (iblk m c 8 t) (fun r d => entry (m ((c : Thread nD τ).loc main_arg0)) (512 * t.val + r) d) (fun e d => entry (m ((c : Thread nD τ).loc main_arg2)) e (1024 * 0 + d)) (element (m ((c : Thread nD τ).loc main_arg1))) (element (m ((c : Thread nD τ).loc main_arg4))) (block_x m c t) (block_gn m c t) (block_wq m c t) (block_gq m c t) y).trans ?_
  show rowsQ (m ((c : Thread nD τ).loc main_arg0)) (m ((c : Thread nD τ).loc main_arg1)) (m ((c : Thread nD τ).loc main_arg2)) (m ((c : Thread nD τ).loc main_arg4)) (512 * t.val + (y 0).val) (y 1).val = rowsQ (m ((c : Thread nD τ).loc main_arg0)) (m ((c : Thread nD τ).loc main_arg1)) (m ((c : Thread nD τ).loc main_arg2)) (m ((c : Thread nD τ).loc main_arg4)) _ _
  refine congrArg₂ (rowsQ (m ((c : Thread nD τ).loc main_arg0)) (m ((c : Thread nD τ).loc main_arg1)) (m ((c : Thread nD τ).loc main_arg2)) (m ((c : Thread nD τ).loc main_arg4))) ?_ ?_
  · blk_simp [index10]
    show _ = t.val * 512 + (y 0).val
    omega
  · blk_simp [index10]

/-- The key array, one head a row the call leaves. -/
theorem array_k : (dats m 0 c).arrAt 11 cfg0.N = fun x : S262144x128.Idx => byHead (rowsK (m ((c : Thread nD τ).loc main_arg0)) (m ((c : Thread nD τ).loc main_arg1)) (m ((c : Thread nD τ).loc main_arg2)) (m ((c : Thread nD τ).loc main_arg5))) (x 0).val (x 1).val := by
  refine (dats m 0 c).arrAt_eq_of_covers 11 _ (by decide +kernel) fun t hf y => ?_
  blk_simp
  rw [after0_11]
  have h0 : (y 0).val < 4096 := (y 0).isLt
  have h1 : (y 1).val < 128 := (y 1).isLt
  refine (out_k (iblk m c 0 t) (iblk m c 1 t) (iblk m c 3 t) (iblk m c 9 t) (fun r d => entry (m ((c : Thread nD τ).loc main_arg0)) (512 * t.val + r) d) (fun e d => entry (m ((c : Thread nD τ).loc main_arg2)) e (1024 * 1 + d)) (element (m ((c : Thread nD τ).loc main_arg1))) (element (m ((c : Thread nD τ).loc main_arg5))) (block_x m c t) (block_gn m c t) (block_wk m c t) (block_gk m c t) y).trans ?_
  show rowsK (m ((c : Thread nD τ).loc main_arg0)) (m ((c : Thread nD τ).loc main_arg1)) (m ((c : Thread nD τ).loc main_arg2)) (m ((c : Thread nD τ).loc main_arg5)) (512 * t.val + (y 0).val / 8) (128 * ((y 0).val % 8) + (y 1).val) = byHead _ _ _
  unfold byHead
  refine congrArg₂ (rowsK (m ((c : Thread nD τ).loc main_arg0)) (m ((c : Thread nD τ).loc main_arg1)) (m ((c : Thread nD τ).loc main_arg2)) (m ((c : Thread nD τ).loc main_arg5))) ?_ ?_
  · blk_simp [index11]
    show _ = (t.val * 4096 + (y 0).val) / 8
    omega
  · blk_simp [index11]
    show _ = 128 * ((t.val * 4096 + (y 0).val) % 8) + (y 1).val
    omega

/-- The key array the call leaves. -/
theorem array_kb : (dats m 0 c).arrAt 12 cfg0.N = fun x : S32768x1024.Idx => rowsK (m ((c : Thread nD τ).loc main_arg0)) (m ((c : Thread nD τ).loc main_arg1)) (m ((c : Thread nD τ).loc main_arg2)) (m ((c : Thread nD τ).loc main_arg5)) (x 0).val (x 1).val := by
  refine (dats m 0 c).arrAt_eq_of_covers 12 _ (by decide +kernel) fun t hf y => ?_
  blk_simp
  rw [after0_12]
  have h0 : (y 0).val < 512 := (y 0).isLt
  have h1 : (y 1).val < 1024 := (y 1).isLt
  refine (out_kb (iblk m c 0 t) (iblk m c 1 t) (iblk m c 3 t) (iblk m c 9 t) (fun r d => entry (m ((c : Thread nD τ).loc main_arg0)) (512 * t.val + r) d) (fun e d => entry (m ((c : Thread nD τ).loc main_arg2)) e (1024 * 1 + d)) (element (m ((c : Thread nD τ).loc main_arg1))) (element (m ((c : Thread nD τ).loc main_arg5))) (block_x m c t) (block_gn m c t) (block_wk m c t) (block_gk m c t) y).trans ?_
  show rowsK (m ((c : Thread nD τ).loc main_arg0)) (m ((c : Thread nD τ).loc main_arg1)) (m ((c : Thread nD τ).loc main_arg2)) (m ((c : Thread nD τ).loc main_arg5)) (512 * t.val + (y 0).val) (y 1).val = rowsK (m ((c : Thread nD τ).loc main_arg0)) (m ((c : Thread nD τ).loc main_arg1)) (m ((c : Thread nD τ).loc main_arg2)) (m ((c : Thread nD τ).loc main_arg5)) _ _
  refine congrArg₂ (rowsK (m ((c : Thread nD τ).loc main_arg0)) (m ((c : Thread nD τ).loc main_arg1)) (m ((c : Thread nD τ).loc main_arg2)) (m ((c : Thread nD τ).loc main_arg5))) ?_ ?_
  · blk_simp [index12]
    show _ = t.val * 512 + (y 0).val
    omega
  · blk_simp [index12]

/-- The value array, one head a row the call leaves. -/
theorem array_v : (dats m 0 c).arrAt 13 cfg0.N = fun x : S262144x128.Idx => byHead (rowsZ (m ((c : Thread nD τ).loc main_arg0)) (m ((c : Thread nD τ).loc main_arg1)) (m ((c : Thread nD τ).loc main_arg2)) 2) (x 0).val (x 1).val := by
  refine (dats m 0 c).arrAt_eq_of_covers 13 _ (by decide +kernel) fun t hf y => ?_
  blk_simp
  rw [after0_13]
  have h0 : (y 0).val < 4096 := (y 0).isLt
  have h1 : (y 1).val < 128 := (y 1).isLt
  refine (out_v (iblk m c 0 t) (iblk m c 1 t) (iblk m c 4 t) (fun r d => entry (m ((c : Thread nD τ).loc main_arg0)) (512 * t.val + r) d) (fun e d => entry (m ((c : Thread nD τ).loc main_arg2)) e (1024 * 2 + d)) (element (m ((c : Thread nD τ).loc main_arg1))) (block_x m c t) (block_gn m c t) (block_wv m c t) y).trans ?_
  show rowsZ (m ((c : Thread nD τ).loc main_arg0)) (m ((c : Thread nD τ).loc main_arg1)) (m ((c : Thread nD τ).loc main_arg2)) 2 (512 * t.val + (y 0).val / 8) (128 * ((y 0).val % 8) + (y 1).val) = byHead _ _ _
  unfold byHead
  refine congrArg₂ (rowsZ (m ((c : Thread nD τ).loc main_arg0)) (m ((c : Thread nD τ).loc main_arg1)) (m ((c : Thread nD τ).loc main_arg2)) 2) ?_ ?_
  · blk_simp [index13]
    show _ = (t.val * 4096 + (y 0).val) / 8
    omega
  · blk_simp [index13]
    show _ = 128 * ((t.val * 4096 + (y 0).val) % 8) + (y 1).val
    omega

/-- The value array the call leaves. -/
theorem array_vb : (dats m 0 c).arrAt 14 cfg0.N = fun x : S32768x1024.Idx => rowsZ (m ((c : Thread nD τ).loc main_arg0)) (m ((c : Thread nD τ).loc main_arg1)) (m ((c : Thread nD τ).loc main_arg2)) 2 (x 0).val (x 1).val := by
  refine (dats m 0 c).arrAt_eq_of_covers 14 _ (by decide +kernel) fun t hf y => ?_
  blk_simp
  rw [after0_14]
  have h0 : (y 0).val < 512 := (y 0).isLt
  have h1 : (y 1).val < 1024 := (y 1).isLt
  refine (out_vb (iblk m c 0 t) (iblk m c 1 t) (iblk m c 4 t) (fun r d => entry (m ((c : Thread nD τ).loc main_arg0)) (512 * t.val + r) d) (fun e d => entry (m ((c : Thread nD τ).loc main_arg2)) e (1024 * 2 + d)) (element (m ((c : Thread nD τ).loc main_arg1))) (block_x m c t) (block_gn m c t) (block_wv m c t) y).trans ?_
  show rowsZ (m ((c : Thread nD τ).loc main_arg0)) (m ((c : Thread nD τ).loc main_arg1)) (m ((c : Thread nD τ).loc main_arg2)) 2 (512 * t.val + (y 0).val) (y 1).val = rowsZ (m ((c : Thread nD τ).loc main_arg0)) (m ((c : Thread nD τ).loc main_arg1)) (m ((c : Thread nD τ).loc main_arg2)) 2 _ _
  refine congrArg₂ (rowsZ (m ((c : Thread nD τ).loc main_arg0)) (m ((c : Thread nD τ).loc main_arg1)) (m ((c : Thread nD τ).loc main_arg2)) 2) ?_ ?_
  · blk_simp [index14]
    show _ = t.val * 512 + (y 0).val
    omega
  · blk_simp [index14]

/-- The gate's array the call leaves. -/
theorem array_gate : (dats m 0 c).arrAt 15 cfg0.N = fun x : S32768x1024.Idx => rowsZ (m ((c : Thread nD τ).loc main_arg0)) (m ((c : Thread nD τ).loc main_arg1)) (m ((c : Thread nD τ).loc main_arg2)) 3 (x 0).val (x 1).val := by
  refine (dats m 0 c).arrAt_eq_of_covers 15 _ (by decide +kernel) fun t hf y => ?_
  blk_simp
  rw [after0_15]
  have h0 : (y 0).val < 512 := (y 0).isLt
  have h1 : (y 1).val < 1024 := (y 1).isLt
  refine (out_gate (iblk m c 0 t) (iblk m c 1 t) (iblk m c 5 t) (fun r d => entry (m ((c : Thread nD τ).loc main_arg0)) (512 * t.val + r) d) (fun e d => entry (m ((c : Thread nD τ).loc main_arg2)) e (1024 * 3 + d)) (element (m ((c : Thread nD τ).loc main_arg1))) (block_x m c t) (block_gn m c t) (block_wg m c t) y).trans ?_
  show rowsZ (m ((c : Thread nD τ).loc main_arg0)) (m ((c : Thread nD τ).loc main_arg1)) (m ((c : Thread nD τ).loc main_arg2)) 3 (512 * t.val + (y 0).val) (y 1).val = rowsZ (m ((c : Thread nD τ).loc main_arg0)) (m ((c : Thread nD τ).loc main_arg1)) (m ((c : Thread nD τ).loc main_arg2)) 3 _ _
  refine congrArg₂ (rowsZ (m ((c : Thread nD τ).loc main_arg0)) (m ((c : Thread nD τ).loc main_arg1)) (m ((c : Thread nD τ).loc main_arg2)) 3) ?_ ?_
  · blk_simp [index15]
    show _ = t.val * 512 + (y 0).val
    omega
  · blk_simp [index15]

/-- The forget gates' array the call leaves. -/
theorem array_f : (dats m 0 c).arrAt 16 cfg0.N = fun x : S32768x8.Idx => rowsF (m ((c : Thread nD τ).loc main_arg0)) (m ((c : Thread nD τ).loc main_arg1)) (m ((c : Thread nD τ).loc main_arg2)) (m ((c : Thread nD τ).loc main_arg3)) (x 0).val (x 1).val := by
  refine (dats m 0 c).arrAt_eq_of_covers 16 _ (by decide +kernel) fun t hf y => ?_
  blk_simp
  rw [after0_16]
  have h0 : (y 0).val < 512 := (y 0).isLt
  have h1 : (y 1).val < 8 := (y 1).isLt
  refine (out_f (iblk m c 0 t) (iblk m c 1 t) (iblk m c 6 t) (iblk m c 7 t) (fun r d => entry (m ((c : Thread nD τ).loc main_arg0)) (512 * t.val + r) d) (fun e d => entry (m ((c : Thread nD τ).loc main_arg2)) e (1024 * 4 + d)) (element (m ((c : Thread nD τ).loc main_arg1))) (element (m ((c : Thread nD τ).loc main_arg3))) (block_x m c t) (block_gn m c t) (block_wf m c t) (block_bf m c t) y).trans ?_
  show rowsF (m ((c : Thread nD τ).loc main_arg0)) (m ((c : Thread nD τ).loc main_arg1)) (m ((c : Thread nD τ).loc main_arg2)) (m ((c : Thread nD τ).loc main_arg3)) (512 * t.val + (y 0).val) (y 1).val = rowsF (m ((c : Thread nD τ).loc main_arg0)) (m ((c : Thread nD τ).loc main_arg1)) (m ((c : Thread nD τ).loc main_arg2)) (m ((c : Thread nD τ).loc main_arg3)) _ _
  refine congrArg₂ (rowsF (m ((c : Thread nD τ).loc main_arg0)) (m ((c : Thread nD τ).loc main_arg1)) (m ((c : Thread nD τ).loc main_arg2)) (m ((c : Thread nD τ).loc main_arg3))) ?_ ?_
  · blk_simp [index16]
    show _ = t.val * 512 + (y 0).val
    omega
  · blk_simp [index16]

end Cert.Kernel3Ideal.Proj

end
-- ==== Proof.Proj.Reference.lean ====
module

public import proofs.«01_k».proof.Proof.Gen.Reference3Ideal.Run
public import proofs.«01_k».proof.Proof.Proj.Rows
public import proofs.«01_k».proof.Proof.Conv.Reference
public import Idealize.ShloMosaic.Lib.Pointwise

@[expose] public section

set_option maxRecDepth 16384
set_option maxHeartbeats 1000000

noncomputable section

namespace Cert.Reference3Ideal.Proj

open Cert.Reference3Ideal Cert.Reference3Ideal.Gen Cert.Reference3Ideal.Value Cert.Proj
open Cert.Conv (normed product exp_nonneg)
open Cert.Reference2Ideal.Conv (norm norm_apply)
open Idealize.ShloMosaic Idealize.ShloMosaic.TcCoe

/-- The logarithm of one plus an exponential is not minus infinity. -/
theorem log1p_exp_ne_bot (a : EReal) : Ideal.log1p (Ideal.exp a) ≠ ⊥ := by
  have h : (1 : EReal) ≤ 1 + Ideal.exp a := le_add_of_nonneg_right (exp_nonneg a)
  unfold Ideal.log1p
  generalize 1 + Ideal.exp a = w at h
  induction w using EReal.rec with
  | bot => exact absurd h (not_le_of_gt (EReal.bot_lt_coe 1))
  | top => exact (top_ne_bot : (⊤ : EReal) ≠ ⊥)
  | coe r =>
    have hr : (1 : ℝ) ≤ r := EReal.coe_le_coe_iff.mp h
    show (if r ≤ 0 then ⊥ else (Real.log r : EReal)) ≠ ⊥
    rw [if_neg (by linarith)]
    exact EReal.coe_ne_bot _

/-- The logarithm of the logistic, written by the softplus of the opposite. -/
theorem neg_softplus (z : EReal) : -(max (-z) 0 + Ideal.log1p (Ideal.exp (-max (-z) (- -z)))) = logsig z := by
  unfold logsig
  rw [zero_sub, neg_neg, max_comm (-z) z]
  have hm : (0 : EReal) ≤ max (-z) 0 := le_max_right _ _
  rw [EReal.neg_add (.inl (ne_of_gt (lt_of_lt_of_le EReal.bot_lt_zero hm))) (.inr (log1p_exp_ne_bot _))]
  refine congrArg (· - _) ?_
  rcases le_total z 0 with h | h
  · rw [min_eq_left h, max_eq_left (EReal.neg_nonneg.mpr h), neg_neg]
  · rw [min_eq_right h, max_eq_right (EReal.neg_le.mpr (by rwa [neg_zero])), neg_zero]

/-- The five projections side by side. -/
def product3 (z : FVec Ideal S32768x1024 .f32) (w : FVec Ideal S1024x4104 .f32) : FVec Ideal S32768x4104 .f32 :=
  Host.dotGeneral dot_S32768x1024_S1024x4104_S32768x4104_1_0_0_1_n_n none z w

/-- One of the first four projections. -/
def part (o : ℕ) (hs : S32768x4096.Slices ![0, o] S32768x1024) (p : FVec Ideal S32768x4104 .f32) : FVec Ideal S32768x1024 .f32 :=
  extractStridedSlice S32768x1024 ![0, o] (extractStridedSlice S32768x4096 ![0, 0] p slices_S32768x4104_S32768x4096_0_0) hs

/-- A projection's heads over the roots of their mean squares, times the heads' weights. -/
def headNorm (p : FVec Ideal S32768x1024 .f32) (g : FVec Ideal S128 .f32) : FVec Ideal S32768x8x128 .f32 :=
  mulf (mulf (shapeCast S32768x8x128 p shapeCasts_S32768x1024_S32768x8x128)
    (broadcastInDim S32768x8x128 ![0, 1, 2] bcast_S32768x8x1_S32768x8x128_0_1_2 (Host.rsqrt (addf (Host.divf (broadcastInDim S32768x8x1 ![0, 1] bcast_S32768x8_S32768x8x1_0_1
      (Host.reduceAdd (mulf (shapeCast S32768x8x128 p shapeCasts_S32768x1024_S32768x8x128) (shapeCast S32768x8x128 p shapeCasts_S32768x1024_S32768x8x128)) (constant S_ .f32 0x00000000#32) reducesTo_S32768x8x128_S32768x8_d2 h_S_))
      (broadcastInDim S32768x8x1 ![] bcast_S_S32768x8x1 (constant S_ .f32 0x43000000#32))) (broadcastInDim S32768x8x1 ![] bcast_S_S32768x8x1 (constant S_ .f32 0x358637BD#32))))))
    (broadcastInDim S32768x8x128 ![0, 1, 2] bcast_S1x1x128_S32768x8x128_0_1_2 (broadcastInDim S1x1x128 ![2] bcast_S128_S1x1x128_2 g))

/-- The forget gates before the logarithm of the logistic. -/
def gates (p : FVec Ideal S32768x4104 .f32) (b : FVec Ideal S8 .f32) : FVec Ideal S32768x8 .f32 :=
  addf (extractStridedSlice S32768x8 ![0, 4096] p slices_S32768x4104_S32768x8_0_4096) (broadcastInDim S32768x8 ![0, 1] bcast_S1x8_S32768x8_0_1 (broadcastInDim S1x8 ![1] bcast_S8_S1x8_1 b))

/-- The zeros the logarithm of the logistic compares with. -/
def zeros : FVec Ideal S32768x8 .f32 := broadcastInDim S32768x8 ![] bcast_S_S32768x8 (constant S_ .f32 0x00000000#32)

/-- The logarithm of the logistic of every gate. -/
def logSigmoid (z : FVec Ideal S32768x8 .f32) : FVec Ideal S32768x8 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The projections at an index. -/
theorem product3_apply (z : FVec Ideal S32768x1024 .f32) (w : FVec Ideal S1024x4104 .f32) (N : ℕ → ℕ → EReal) (h : ∀ x, z x = N (x 0).val (x 1).val) (x : S32768x4104.Idx) :
    product3 z w x = product N (entry w) (x 0).val (x 1).val := by
  have hw : ∀ y, w y = entry w (y 0).val (y 1).val := fun y => eq_entry w y (Nat.mod_eq_of_lt (y 0).isLt).symm (Nat.mod_eq_of_lt (y 1).isLt).symm
  unfold product3
  pointwise
  simp only [h]
  unfold product
  refine Finset.sum_congr rfl fun k _ => ?_
  rw [hw]
  rfl

/-- One of the projections at an index. -/
theorem part_apply (k : ℕ) (hs : S32768x4096.Slices ![0, 1024 * k] S32768x1024) (p : FVec Ideal S32768x4104 .f32) (N W : ℕ → ℕ → EReal)
    (h : ∀ x, p x = product N W (x 0).val (x 1).val) (x : S32768x1024.Idx) :
    part (1024 * k) hs p x = product N (fun e d => W e (1024 * k + d)) (x 0).val (x 1).val := by
  unfold part
  pointwise
  rw [h]
  rfl

/-- The heads' normed parts at an index. -/
theorem headNorm_apply (p : FVec Ideal S32768x1024 .f32) (g : FVec Ideal S128 .f32) (Z : ℕ → ℕ → EReal) (h : ∀ x, p x = Z (x 0).val (x 1).val) (x : S32768x8x128.Idx) :
    headNorm p g x = headed Z (element g) (x 0).val (128 * (x 1).val + (x 2).val) := by
  have h1 : (x 1).val < 8 := (x 1).isLt
  have h2 : (x 2).val < 128 := (x 2).isLt
  unfold headNorm
  pointwise
  simp only [h]
  have e0 : (128 * (x 1).val + (x 2).val) / 128 = (x 1).val := by omega
  have e1 : (128 * (x 1).val + (x 2).val) % 128 = (x 2).val := by omega
  unfold headed
  rw [e0, e1, ← eq_element g (ix1 (n0 := 128) (x 2)) (Nat.mod_eq_of_lt h2).symm]
  rw [Nat.mul_comm 128]
  rfl

/-- The logarithm of the logistic at an index. -/
theorem logSigmoid_apply (z : FVec Ideal S32768x8 .f32) (x : S32768x8.Idx) : logSigmoid z x = logsig (z x) := by
  unfold logSigmoid zeros
  pointwise
  rw [if_neg (not_not.mpr rfl)]
  exact neg_softplus (z x)

/-- The gates at an index. -/
theorem gates_apply (p : FVec Ideal S32768x4104 .f32) (b : FVec Ideal S8 .f32) (N W : ℕ → ℕ → EReal)
    (h : ∀ x, p x = product N W (x 0).val (x 1).val) (x : S32768x8.Idx) :
    gates p b x = product N (fun e d => W e (1024 * 4 + d)) (x 0).val (x 1).val + element b (x 1).val := by
  have h1 : (x 1).val < 8 := (x 1).isLt
  unfold gates
  pointwise
  rw [h]
  refine congrArg₂ (· + ·) rfl (eq_element b _ (Nat.mod_eq_of_lt h1).symm)

section

variable (x : FVec Ideal S32768x1024 .f32) (gn : FVec Ideal S1024 .f32) (w : FVec Ideal S1024x4104 .f32) (b : FVec Ideal S8 .f32) (g : FVec Ideal S128 .f32)

/-- The projections of the arguments. -/
def projected : FVec Ideal S32768x4104 .f32 := product3 (norm x gn) w

/-- The projections of the arguments at an index. -/
theorem projected_apply (y : S32768x4104.Idx) : projected x gn w y = product (normed (entry x) (element gn)) (entry w) (y 0).val (y 1).val :=
  product3_apply _ _ (normed (entry x) (element gn)) (norm_apply x gn (entry x) (fun y => eq_entry x y (Nat.mod_eq_of_lt (y 0).isLt).symm (Nat.mod_eq_of_lt (y 1).isLt).symm)) y

/-- Projection 0 of the arguments, that of the queries. -/
theorem part0_apply (y : S32768x1024.Idx) : part (1024 * 0) slices_S32768x4096_S32768x1024_0_0 (projected x gn w) y = rowsZ x gn w 0 (y 0).val (y 1).val :=
  part_apply 0 _ _ _ _ (projected_apply x gn w) y

/-- Projection 1 of the arguments, that of the keys. -/
theorem part1_apply (y : S32768x1024.Idx) : part (1024 * 1) slices_S32768x4096_S32768x1024_0_1024 (projected x gn w) y = rowsZ x gn w 1 (y 0).val (y 1).val :=
  part_apply 1 _ _ _ _ (projected_apply x gn w) y

/-- Projection 2 of the arguments, that of the values. -/
theorem part2_apply (y : S32768x1024.Idx) : part (1024 * 2) slices_S32768x4096_S32768x1024_0_2048 (projected x gn w) y = rowsZ x gn w 2 (y 0).val (y 1).val :=
  part_apply 2 _ _ _ _ (projected_apply x gn w) y

/-- Projection 3 of the arguments, that of the gate. -/
theorem part3_apply (y : S32768x1024.Idx) : part (1024 * 3) slices_S32768x4096_S32768x1024_0_3072 (projected x gn w) y = rowsZ x gn w 3 (y 0).val (y 1).val :=
  part_apply 3 _ _ _ _ (projected_apply x gn w) y

/-- The reference's query rows. -/
theorem queries_apply (y : S32768x1024.Idx) :
    truncf (F := Ideal) .bf16 (shapeCast S32768x1024 (mulf (headNorm (part (1024 * 0) slices_S32768x4096_S32768x1024_0_0 (projected x gn w)) g) (broadcastInDim S32768x8x128 ![] bcast_S_S32768x8x128 (constant S_ .f32 0x3E0293EE#32))) shapeCasts_S32768x8x128_S32768x1024) bitsLt_bf16_f32 y
      = rowsQ x gn w g (y 0).val (y 1).val := by
  have h1 : (y 1).val < 1024 := (y 1).isLt
  pointwise
  rw [headNorm_apply _ g _ (part0_apply x gn w)]
  unfold rowsQ
  refine congrArg₂ (· * ·) (congrArg₂ (headed (rowsZ x gn w 0) (element g)) rfl ?_) rfl
  show 128 * ((y 1).val / 128) + (y 1).val % 128 = (y 1).val
  omega

/-- The reference's key rows. -/
theorem keys_apply (y : S32768x1024.Idx) :
    truncf (F := Ideal) .bf16 (shapeCast S32768x1024 (headNorm (part (1024 * 1) slices_S32768x4096_S32768x1024_0_1024 (projected x gn w)) g) shapeCasts_S32768x8x128_S32768x1024) bitsLt_bf16_f32 y
      = rowsK x gn w g (y 0).val (y 1).val := by
  have h1 : (y 1).val < 1024 := (y 1).isLt
  pointwise
  rw [headNorm_apply _ g _ (part1_apply x gn w)]
  refine congrArg₂ (headed (rowsZ x gn w 1) (element g)) rfl ?_
  show 128 * ((y 1).val / 128) + (y 1).val % 128 = (y 1).val
  omega

/-- The reference's key rows, one head a row. -/
theorem keysByHead_apply (y : S262144x128.Idx) :
    shapeCast S262144x128 (headNorm (part (1024 * 1) slices_S32768x4096_S32768x1024_0_1024 (projected x gn w)) g) shapeCasts_S32768x8x128_S262144x128 y
      = byHead (rowsK x gn w g) (y 0).val (y 1).val := by
  pointwise
  rw [headNorm_apply _ g _ (part1_apply x gn w)]
  rfl

/-- The reference's value rows, one head a row. -/
theorem valuesByHead_apply (y : S262144x128.Idx) :
    shapeCast S262144x128 (part (1024 * 2) slices_S32768x4096_S32768x1024_0_2048 (projected x gn w)) shapeCasts_S32768x1024_S262144x128 y
      = byHead (rowsZ x gn w 2) (y 0).val (y 1).val := by
  pointwise
  rw [part2_apply x gn w]
  refine congrArg₂ (rowsZ x gn w 2) rfl ?_
  show (y 0).val % 8 * 128 + (y 1).val = _
  omega

/-- The reference's value rows. -/
theorem values_apply (y : S32768x1024.Idx) :
    truncf (F := Ideal) .bf16 (part (1024 * 2) slices_S32768x4096_S32768x1024_0_2048 (projected x gn w)) bitsLt_bf16_f32 y = rowsZ x gn w 2 (y 0).val (y 1).val :=
  part2_apply x gn w y

/-- The reference's gate rows. -/
theorem gate_apply (y : S32768x1024.Idx) :
    truncf (F := Ideal) .bf16 (part (1024 * 3) slices_S32768x4096_S32768x1024_0_3072 (projected x gn w)) bitsLt_bf16_f32 y = rowsZ x gn w 3 (y 0).val (y 1).val :=
  part3_apply x gn w y

/-- The reference's forget gates. -/
theorem logf_apply (y : S32768x8.Idx) : logSigmoid (gates (projected x gn w) b) y = rowsF x gn w b (y 0).val (y 1).val := by
  rw [logSigmoid_apply, gates_apply _ _ _ _ (projected_apply x gn w)]
  rfl

end

/-- The reference's forget gates, from the launch memory. -/
theorem logf_eq (m : (ℓ : Loc nD τ sig) → Buf (Elt Ideal) ℓ) (c : Dev nD) :
    res_main_v23 m c = logSigmoid (gates (projected (m ((c.tc : Thread nD τ).loc main_arg0)) (m ((c.tc : Thread nD τ).loc main_arg1)) (m ((c.tc : Thread nD τ).loc main_arg2))) (m ((c.tc : Thread nD τ).loc main_arg3))) := by
  unfold res_main_v23
  rfl

end Cert.Reference3Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Frame
public import proofs.«01_k».proof.Proof.Frame
public import proofs.«01_k».proof.Proof.Value
public import proofs.«01_k».proof.Proof.Reference
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Conv.Result
public import proofs.«01_k».proof.Proof.Conv.Reference
public import proofs.«01_k».proof.Proof.Gen.Kernel3
public import proofs.«01_k».proof.Proof.Gen.Kernel3.Frame
public import proofs.«01_k».proof.Proof.Gen.Kernel3.Points
public import proofs.«01_k».proof.Proof.Gen.Kernel3.Launch
public import proofs.«01_k».proof.Proof.Gen.Kernel3.Skeleton
public import proofs.«01_k».proof.Proof.Proj.Bits.Frame
public import proofs.«01_k».proof.Proof.Gen.Kernel3Ideal
public import proofs.«01_k».proof.Proof.Gen.Kernel3Ideal.Frame
public import proofs.«01_k».proof.Proof.Gen.Kernel3Ideal.Points
public import proofs.«01_k».proof.Proof.Gen.Kernel3Ideal.Launch
public import proofs.«01_k».proof.Proof.Gen.Kernel3Ideal.Skeleton
public import proofs.«01_k».proof.Proof.Proj.Frame
public import proofs.«01_k».proof.Proof.Gen.Reference3Ideal
public import proofs.«01_k».proof.Proof.Gen.Reference3Ideal.Run
public import proofs.«01_k».proof.Proof.Proj.Result
public import proofs.«01_k».proof.Proof.Proj.Reference
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every semaphore counter at zero (it declares no semaphore). -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The masks' fill is printed as the named constant `mask`, whose value is minus infinity. -/
theorem preserves : Cert.preserves_Kernel_KernelIdeal :=
  IdealRules.named_const.statement _ _ _ _ _ rfl

open Cert.KernelIdeal.Flash in
/-- With finite queries, keys and gates the kernel and the reference, run from the same arguments, end with the same result:
    the softmax attention of every head. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  haveI := finite_facts
  intro m g m' g' hpre hargs
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), value_holds m g, ?_⟩
  refine (θ_run Cert.ReferenceIdeal.defs _ _).mono (fun r h c => ⟨(h c).1.trans ?_, (h c).2⟩) (Cert.ReferenceIdeal.Value.run (F := Ideal) m' g')
  obtain ⟨a0, a1, a2, a3⟩ := hargs c
  obtain ⟨fq, fk, fc⟩ := hpre c
  funext x
  refine (Cert.ReferenceIdeal.Plain.result_apply m' c x).trans ?_
  rw [a0, a1, a2, a3]
  have hq : ∀ x, ∃ r : ℝ, m ((c.tc : Thread Cert.KernelIdeal.nD Cert.KernelIdeal.τ).loc Cert.KernelIdeal.main_arg0) x = (r : EReal) := finite_q _ _ _ _ fq
  have hk : ∀ x, ∃ r : ℝ, m ((c.tc : Thread Cert.KernelIdeal.nD Cert.KernelIdeal.τ).loc Cert.KernelIdeal.main_arg1) x = (r : EReal) := finite_k _ _ _ _ fk
  have hc : ∀ x, ∃ r : ℝ, m ((c.tc : Thread Cert.KernelIdeal.nD Cert.KernelIdeal.τ).loc Cert.KernelIdeal.main_arg3) x = (r : EReal) := finite_c _ _ _ _ fc
  exact (quotient_eq (Q := headRow _ _ _) (K := headRow _ _ _) (C := headGate _ _ _) (fun t d => hq _) (fun n d => hk _) (fun n => hc _)
    (headRow _ _ _) _ _ (Nat.mod_lt _ (by decide)) (Nat.mod_lt _ (by decide))).symm

/-- The second call's reference ends with its arguments unchanged and every semaphore counter at zero (it declares no semaphore). -/
theorem reference2_frame : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run (F := Ideal) m g)

/-- The second call and its reference, run from the same arguments, end with the same output rows and the same states. -/
theorem algebraic2 : Cert.algebraic_Kernel2Ideal_Reference2Ideal (hKernel2Ideal := Cert.Kernel2Ideal.Gen.facts) (hReference2Ideal := Cert.Reference2Ideal.Gen.facts) := by
  intro m g m' g' _ hargs
  refine ⟨Cert.Kernel2Ideal.Value.G12 m, Cert.Kernel2Ideal.Value.G13 m, Cert.Kernel2Ideal.Value.run (F := Ideal) m g, ?_⟩
  refine (θ_run Cert.Reference2Ideal.defs _ _).mono (fun r h c => ⟨(h c).1.trans ?_, (h c).2.1.trans ?_, (h c).2.2⟩) (Cert.Reference2Ideal.Value.run (F := Ideal) m' g')
  · obtain ⟨a0, a1, a2, a3, a4, a5, a6, a7⟩ := hargs c
    funext x
    refine (Cert.Reference2Ideal.Conv.out_apply m' c x).trans ?_
    rw [a0, a1, a2, a3, a4, a5, a6, a7]
    exact (Cert.Kernel2Ideal.Conv.G12_apply m c x).symm
  · obtain ⟨a0, a1, a2, a3, a4, a5, _, _⟩ := hargs c
    funext x
    refine (Cert.Reference2Ideal.Conv.state_apply m' c x).trans ?_
    rw [a0, a1, a2, a3, a4, a5]
    exact (Cert.Kernel2Ideal.Conv.G13_apply m c x).symm

/-- The third call's reference ends with its arguments unchanged and every semaphore counter at zero (it declares no semaphore). -/
theorem reference3_frame : Cert.quiescent_Reference3Ideal (hReference3Ideal := Cert.Reference3Ideal.Gen.facts) := fun m g _ =>
  (θ_run Cert.Reference3Ideal.defs _ _).mono (fun r h => ⟨fun c => (h c).2.2.2.2.2.2.2, sem_eq_zero_of_no_sems (by decide) r.2⟩)
    (Cert.Reference3Ideal.Value.run (F := Ideal) m g)

open Cert.Proj (rowsQ rowsK rowsZ rowsF byHead) in
/-- The third call and its reference, run from the same arguments, end with the same queries, keys, values, gates and forget gates. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨
    fun c y => rowsQ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4)) (y 0).val (y 1).val,
    fun c y => byHead (rowsK (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5))) (y 0).val (y 1).val,
    fun c y => rowsK (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5)) (y 0).val (y 1).val,
    fun c y => byHead (rowsZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) 2) (y 0).val (y 1).val,
    fun c y => rowsZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) 2 (y 0).val (y 1).val,
    fun c y => rowsZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) 3 (y 0).val (y 1).val,
    fun c y => rowsF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (y 0).val (y 1).val, ?_, ?_⟩
  · refine (θ_run Cert.Kernel3Ideal.defs _ _).mono (fun r h c => ⟨(h c).1.trans (Cert.Kernel3Ideal.Proj.array_q m c),
      (h c).2.1.trans (Cert.Kernel3Ideal.Proj.array_k m c),
      (h c).2.2.1.trans (Cert.Kernel3Ideal.Proj.array_kb m c),
      (h c).2.2.2.1.trans (Cert.Kernel3Ideal.Proj.array_v m c),
      (h c).2.2.2.2.1.trans (Cert.Kernel3Ideal.Proj.array_vb m c),
      (h c).2.2.2.2.2.1.trans (Cert.Kernel3Ideal.Proj.array_gate m c),
      (h c).2.2.2.2.2.2.1.trans (Cert.Kernel3Ideal.Proj.array_f m c), (h c).2.2.2.2.2.2.2⟩) (Cert.Kernel3Ideal.Proj.run_results (F := Ideal) m g)
  · refine (θ_run Cert.Reference3Ideal.defs _ _).mono (fun r h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_, (h c).2.2.2.2.2.2.2⟩) (Cert.Reference3Ideal.Value.run (F := Ideal) m' g')
    all_goals
      obtain ⟨a0, a1, a2, a3, a4, a5⟩ := hargs c
      funext y
    · refine (Cert.Reference3Ideal.Proj.queries_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) y).trans ?_
      rw [a0, a1, a2, a4]
    · refine (Cert.Reference3Ideal.Proj.keysByHead_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5)) y).trans ?_
      rw [a0, a1, a2, a5]
    · refine (Cert.Reference3Ideal.Proj.keys_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5)) y).trans ?_
      rw [a0, a1, a2, a5]
    · refine (Cert.Reference3Ideal.Proj.valuesByHead_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) y).trans ?_
      rw [a0, a1, a2]
    · refine (Cert.Reference3Ideal.Proj.values_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) y).trans ?_
      rw [a0, a1, a2]
    · refine (Cert.Reference3Ideal.Proj.gate_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) y).trans ?_
      rw [a0, a1, a2]
    · rw [Cert.Reference3Ideal.Proj.logf_eq m' c]
      refine (Cert.Reference3Ideal.Proj.logf_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) y).trans ?_
      rw [a0, a1, a2, a3]

/-- Every claim, together. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.KernelIdeal.Flash.finite_facts,
    fun m g _ => Cert.Kernel.Flash.frame_holds (F := Bits) m g,
    fun m g _ => Cert.KernelIdeal.Flash.frame_holds (F := Ideal) m g,
    fun m g _ => Cert.KernelIdeal.Flash.frame_holds (F := Ideal) m g,
    fun m g _ => reference_frame m g,
    fun m g _ => reference_frame m g,
    fun m g _ => Cert.Kernel2.Gen.frame (F := Bits) m g,
    fun m g _ => Cert.Kernel2Ideal.Gen.frame (F := Ideal) m g,
    reference2_frame,
    fun m g _ => Cert.Kernel3.Proj.arguments_unchanged (F := Bits) m g,
    fun m g _ => Cert.Kernel3Ideal.Proj.arguments_unchanged (F := Ideal) m g,
    reference3_frame,
    preserves, algebraic, trivial, algebraic2, trivial, algebraic3⟩

end Cert.Proof

end
